-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v3_0)) (v1 : (c : Dev Cert.GateUpIdeal.nD) → Buf (Elt Ideal) ((c.tc : Thread Cert.GateUpIdeal.nD Cert.GateUpIdeal.τ).loc Cert.GateUpIdeal.main_v3_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3_0) = v0 c
          ∧ r.2.mem ((c.tc : Thread Cert.GateUpIdeal.nD Cert.GateUpIdeal.τ).loc Cert.GateUpIdeal.main_v3_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v48) = v0 c
          ∧ r.2.mem ((c.tc : Thread Cert.GateUpRefIdeal.nD Cert.GateUpRefIdeal.τ).loc Cert.GateUpRefIdeal.main_v49) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)) (v2 : (c : Dev Cert.DownIdeal.nD) → Buf (Elt Ideal) ((c.tc : Thread Cert.DownIdeal.nD Cert.DownIdeal.τ).loc Cert.DownIdeal.main_v2_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_v2_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v52) = v0 c
          ∧ r.2.mem ((c.tc : Thread Cert.DownRefIdeal.nD Cert.DownRefIdeal.τ).loc Cert.DownRefIdeal.main_v26) = v1 c
          ∧ r.2.mem ((c.tc : Thread Cert.DownRefIdeal.nD Cert.DownRefIdeal.τ).loc Cert.DownRefIdeal.main_v27) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
-- ==== GateUp.lean ====
abbrev S15360x2560 : Shape := ⟨2, ![15360, 2560]⟩
abbrev S15360x1 : Shape := ⟨2, ![15360, 1]⟩
abbrev S1728x2560 : Shape := ⟨2, ![1728, 2560]⟩
abbrev S_ : Shape := ⟨0, ![]⟩
abbrev S1 : Shape := ⟨1, ![1]⟩
abbrev S2 : Shape := ⟨1, ![2]⟩
abbrev S15360x6912 : Shape := ⟨2, ![15360, 6912]⟩
abbrev S512x2560 : Shape := ⟨2, ![512, 2560]⟩
abbrev S512x1 : Shape := ⟨2, ![512, 1]⟩
abbrev S512x2304 : Shape := ⟨2, ![512, 2304]⟩
abbrev S2304x2560 : Shape := ⟨2, ![2304, 2560]⟩
abbrev S32x2560 : Shape := ⟨2, ![32, 2560]⟩
abbrev S8x2560 : Shape := ⟨2, ![8, 2560]⟩
abbrev S256x2560 : Shape := ⟨2, ![256, 2560]⟩
abbrev S512x256 : Shape := ⟨2, ![512, 256]⟩

abbrev nBuf : Space → Nat
  | .hbm => 11
  | .vmem => 12
  | .smem => 1
  | _ => 0

abbrev bufTy : (tb : Table) → Fin (tcTables nBuf tb) → BufTy
  | .hbm, ⟨0, _⟩ => ⟨S15360x2560, .i8⟩
  | .hbm, ⟨1, _⟩ => ⟨S15360x1, .f32⟩
  | .hbm, ⟨2, _⟩ => ⟨S1728x2560, .i8⟩
  | .hbm, ⟨3, _⟩ => ⟨S1728x2560, .i8⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S2, .f32⟩
  | .hbm, ⟨9, _⟩ => ⟨S15360x6912, .f32⟩
  | .hbm, ⟨10, _⟩ => ⟨S15360x6912, .bf16⟩
  | .local _ .vmem, ⟨0, _⟩ => ⟨S512x2560, .i8⟩
  | .local _ .vmem, ⟨1, _⟩ => ⟨S512x2560, .i8⟩
  | .local _ .vmem, ⟨2, _⟩ => ⟨S512x1, .f32⟩
  | .local _ .vmem, ⟨3, _⟩ => ⟨S512x1, .f32⟩
  | .local _ .vmem, ⟨4, _⟩ => ⟨S1728x2560, .i8⟩
  | .local _ .vmem, ⟨5, _⟩ => ⟨S1728x2560, .i8⟩
  | .local _ .vmem, ⟨6, _⟩ => ⟨S512x2304, .f32⟩
  | .local _ .vmem, ⟨7, _⟩ => ⟨S512x2304, .f32⟩
  | .local _ .vmem, ⟨8, _⟩ => ⟨S512x2304, .bf16⟩
  | .local _ .vmem, ⟨9, _⟩ => ⟨S512x2304, .bf16⟩
  | .local _ .vmem, ⟨10, _⟩ => ⟨S2304x2560, .bf16⟩
  | .local _ .vmem, ⟨11, _⟩ => ⟨S2304x2560, .bf16⟩
  | .local _ .smem, ⟨0, _⟩ => ⟨S2, .f32⟩
  | _, _ => ⟨S15360x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![3, 30], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_123 : BitVec 32 := 0#32
  let c18_i32 : BitVec 32 := 18#32
  let v225 : BitVec 32 := Scalar.addi c0_i32_123 c18_i32
  let c1_i32_124 : BitVec 32 := 1#32
  ⟨c0_i32_123, v225, c1_i32_124⟩
def k0_mult1 (k0_t1 : Fin k0_t1_loop.trips) : BitVec 32 :=
  let c0_i32_123 : BitVec 32 := 0#32
  let c1_i32_124 : BitVec 32 := 1#32
  let arg11 : BitVec 32 := Scf.iv c0_i32_123 c1_i32_124 k0_t1
  let c32_i32 : BitVec 32 := 32#32
  let v323 : BitVec 32 := Scalar.muli arg11 c32_i32
  v323
def k0_mult2 (i : grid0.Coords) (k0_t1 : Fin k0_t1_loop.trips) : BitVec 32 :=
  let arg0 : BitVec 32 := BitVec.ofNat 32 (i 0).val
  let c4_i32 : BitVec 32 := 4#32
  let v195 : BitVec 32 := Scalar.muli arg0 c4_i32
  let c0_i32_111 : BitVec 32 := 0#32
  let v196 : BitVec 32 := Scalar.addi v195 c0_i32_111
  let c3_i32_117 : BitVec 32 := 3#32
  let c0_i32_118 : BitVec 32 := 0#32
  let v214 : BitVec 1 := Scalar.cmpi .eq c3_i32_117 c0_i32_118
  let c1_i32_119 : BitVec 32 := 1#32
  let v215 : BitVec 32 := Scalar.select v214 c1_i32_119 c3_i32_117
  let v216 : BitVec 32 := Scalar.remsi v196 v215
  let c0_i32_121 : BitVec 32 := 0#32
  let v218 : BitVec 1 := Scalar.cmpi .slt v216 c0_i32_121
  let c0_i32_122 : BitVec 32 := 0#32
  let v219 : BitVec 1 := Scalar.cmpi .slt v215 c0_i32_122
  let v220 : BitVec 1 := Scalar.xori v218 v219
  let c0_i32_120 : BitVec 32 := 0#32
  let v217 : BitVec 1 := Scalar.cmpi .ne v216 c0_i32_120
  let v221 : BitVec 1 := Scalar.andi v220 v217
  let v222 : BitVec 32 := Scalar.addi v216 v215
  let v223 : BitVec 32 := Scalar.select v221 v222 v216
  let c576_i32 : BitVec 32 := 576#32
  let v224 : BitVec 32 := Scalar.muli v223 c576_i32
  let c0_i32_123 : BitVec 32 := 0#32
  let c1_i32_124 : BitVec 32 := 1#32
  let arg11 : BitVec 32 := Scf.iv c0_i32_123 c1_i32_124 k0_t1
  let c32_i32 : BitVec 32 := 32#32
  let v323 : BitVec 32 := Scalar.muli arg11 c32_i32
  let v324 : BitVec 32 := v323
  let v325 : BitVec 32 := Scalar.addi v224 v324
  v325
def k0_off1 (i : grid0.Coords) (k0_t1 : Fin k0_t1_loop.trips) : Fin 2 → Nat :=
  let arg0 : BitVec 32 := BitVec.ofNat 32 (i 0).val
  let c4_i32 : BitVec 32 := 4#32
  let v195 : BitVec 32 := Scalar.muli arg0 c4_i32
  let c0_i32_111 : BitVec 32 := 0#32
  let v196 : BitVec 32 := Scalar.addi v195 c0_i32_111
  let c3_i32_117 : BitVec 32 := 3#32
  let c0_i32_118 : BitVec 32 := 0#32
  let v214 : BitVec 1 := Scalar.cmpi .eq c3_i32_117 c0_i32_118
  let c1_i32_119 : BitVec 32 := 1#32
  let v215 : BitVec 32 := Scalar.select v214 c1_i32_119 c3_i32_117
  let v216 : BitVec 32 := Scalar.remsi v196 v215
  let c0_i32_121 : BitVec 32 := 0#32
  let v218 : BitVec 1 := Scalar.cmpi .slt v216 c0_i32_121
  let c0_i32_122 : BitVec 32 := 0#32
  let v219 : BitVec 1 := Scalar.cmpi .slt v215 c0_i32_122
  let v220 : BitVec 1 := Scalar.xori v218 v219
  let c0_i32_120 : BitVec 32 := 0#32
  let v217 : BitVec 1 := Scalar.cmpi .ne v216 c0_i32_120
  let v221 : BitVec 1 := Scalar.andi v220 v217
  let v222 : BitVec 32 := Scalar.addi v216 v215
  let v223 : BitVec 32 := Scalar.select v221 v222 v216
  let c576_i32 : BitVec 32 := 576#32
  let v224 : BitVec 32 := Scalar.muli v223 c576_i32
  let c0_i32_123 : BitVec 32 := 0#32
  let c1_i32_124 : BitVec 32 := 1#32
  let arg11 : BitVec 32 := Scf.iv c0_i32_123 c1_i32_124 k0_t1
  let c32_i32 : BitVec 32 := 32#32
  let v323 : BitVec 32 := Scalar.muli arg11 c32_i32
  let v324 : BitVec 32 := v323
  let v325 : BitVec 32 := Scalar.addi v224 v324
  let v326 : BitVec 32 := v325
  let v327 : Index := Scalar.indexCast v326
  let c0_201 : Index := 0#32
  ![v327.toNat, 0]
def k0_off2 (k0_t1 : Fin k0_t1_loop.trips) : Fin 2 → Nat :=
  let c0_i32_203 : BitVec 32 := 0#32
  let c0_i32_123 : BitVec 32 := 0#32
  let c1_i32_124 : BitVec 32 := 1#32
  let arg11 : BitVec 32 := Scf.iv c0_i32_123 c1_i32_124 k0_t1
  let c32_i32 : BitVec 32 := 32#32
  let v323 : BitVec 32 := Scalar.muli arg11 c32_i32
  let v324 : BitVec 32 := v323
  let v341 : BitVec 32 := Scalar.addi c0_i32_203 v324
  let v342 : Index := Scalar.indexCast v341
  let c0_204 : Index := 0#32
  ![v342.toNat, 0]
@[reducible] def k0_t2_loop : Scf.Loop 32 :=
  let c0_i32_126 : BitVec 32 := 0#32
  let c18_i32_127 : BitVec 32 := 18#32
  let v226 : BitVec 32 := Scalar.addi c0_i32_126 c18_i32_127
  let c1_i32_128 : BitVec 32 := 1#32
  ⟨c0_i32_126, v226, c1_i32_128⟩
def k0_mult3 (k0_t2 : Fin k0_t2_loop.trips) : BitVec 32 :=
  let c0_i32_126 : BitVec 32 := 0#32
  let c1_i32_128 : BitVec 32 := 1#32
  let arg11 : BitVec 32 := Scf.iv c0_i32_126 c1_i32_128 k0_t2
  let c32_i32 : BitVec 32 := 32#32
  let v323 : BitVec 32 := Scalar.muli arg11 c32_i32
  v323
def k0_mult4 (i : grid0.Coords) (k0_t2 : Fin k0_t2_loop.trips) : BitVec 32 :=
  let arg0 : BitVec 32 := BitVec.ofNat 32 (i 0).val
  let c4_i32 : BitVec 32 := 4#32
  let v195 : BitVec 32 := Scalar.muli arg0 c4_i32
  let c0_i32_111 : BitVec 32 := 0#32
  let v196 : BitVec 32 := Scalar.addi v195 c0_i32_111
  let c3_i32_117 : BitVec 32 := 3#32
  let c0_i32_118 : BitVec 32 := 0#32
  let v214 : BitVec 1 := Scalar.cmpi .eq c3_i32_117 c0_i32_118
  let c1_i32_119 : BitVec 32 := 1#32
  let v215 : BitVec 32 := Scalar.select v214 c1_i32_119 c3_i32_117
  let v216 : BitVec 32 := Scalar.remsi v196 v215
  let c0_i32_121 : BitVec 32 := 0#32
  let v218 : BitVec 1 := Scalar.cmpi .slt v216 c0_i32_121
  let c0_i32_122 : BitVec 32 := 0#32
  let v219 : BitVec 1 := Scalar.cmpi .slt v215 c0_i32_122
  let v220 : BitVec 1 := Scalar.xori v218 v219
  let c0_i32_120 : BitVec 32 := 0#32
  let v217 : BitVec 1 := Scalar.cmpi .ne v216 c0_i32_120
  let v221 : BitVec 1 := Scalar.andi v220 v217
  let v222 : BitVec 32 := Scalar.addi v216 v215
  let v223 : BitVec 32 := Scalar.select v221 v222 v216
  let c576_i32 : BitVec 32 := 576#32
  let v224 : BitVec 32 := Scalar.muli v223 c576_i32
  let c0_i32_126 : BitVec 32 := 0#32
  let c1_i32_128 : BitVec 32 := 1#32
  let arg11 : BitVec 32 := Scf.iv c0_i32_126 c1_i32_128 k0_t2
  let c32_i32 : BitVec 32 := 32#32
  let v323 : BitVec 32 := Scalar.muli arg11 c32_i32
  let v324 : BitVec 32 := v323
  let v325 : BitVec 32 := Scalar.addi v224 v324
  v325
def k0_off3 (i : grid0.Coords) (k0_t2 : Fin k0_t2_loop.trips) : Fin 2 → Nat :=
  let arg0 : BitVec 32 := BitVec.ofNat 32 (i 0).val
  let c4_i32 : BitVec 32 := 4#32
  let v195 : BitVec 32 := Scalar.muli arg0 c4_i32
  let c0_i32_111 : BitVec 32 := 0#32
  let v196 : BitVec 32 := Scalar.addi v195 c0_i32_111
  let c3_i32_117 : BitVec 32 := 3#32
  let c0_i32_118 : BitVec 32 := 0#32
  let v214 : BitVec 1 := Scalar.cmpi .eq c3_i32_117 c0_i32_118
  let c1_i32_119 : BitVec 32 := 1#32
  let v215 : BitVec 32 := Scalar.select v214 c1_i32_119 c3_i32_117
  let v216 : BitVec 32 := Scalar.remsi v196 v215
  let c0_i32_121 : BitVec 32 := 0#32
  let v218 : BitVec 1 := Scalar.cmpi .slt v216 c0_i32_121
  let c0_i32_122 : BitVec 32 := 0#32
  let v219 : BitVec 1 := Scalar.cmpi .slt v215 c0_i32_122
  let v220 : BitVec 1 := Scalar.xori v218 v219
  let c0_i32_120 : BitVec 32 := 0#32
  let v217 : BitVec 1 := Scalar.cmpi .ne v216 c0_i32_120
  let v221 : BitVec 1 := Scalar.andi v220 v217
  let v222 : BitVec 32 := Scalar.addi v216 v215
  let v223 : BitVec 32 := Scalar.select v221 v222 v216
  let c576_i32 : BitVec 32 := 576#32
  let v224 : BitVec 32 := Scalar.muli v223 c576_i32
  let c0_i32_126 : BitVec 32 := 0#32
  let c1_i32_128 : BitVec 32 := 1#32
  let arg11 : BitVec 32 := Scf.iv c0_i32_126 c1_i32_128 k0_t2
  let c32_i32 : BitVec 32 := 32#32
  let v323 : BitVec 32 := Scalar.muli arg11 c32_i32
  let v324 : BitVec 32 := v323
  let v325 : BitVec 32 := Scalar.addi v224 v324
  let v326 : BitVec 32 := v325
  let v327 : Index := Scalar.indexCast v326
  let c0_201 : Index := 0#32
  ![v327.toNat, 0]
def k0_off4 (k0_t2 : Fin k0_t2_loop.trips) : Fin 2 → Nat :=
  let c0_i32_203 : BitVec 32 := 0#32
  let c0_i32_126 : BitVec 32 := 0#32
  let c1_i32_128 : BitVec 32 := 1#32
  let arg11 : BitVec 32 := Scf.iv c0_i32_126 c1_i32_128 k0_t2
  let c32_i32 : BitVec 32 := 32#32
  let v323 : BitVec 32 := Scalar.muli arg11 c32_i32
  let v324 : BitVec 32 := v323
  let v341 : BitVec 32 := Scalar.addi c0_i32_203 v324
  let v342 : Index := Scalar.indexCast v341
  let c0_204 : Index := 0#32
  ![v342.toNat, 0]
@[reducible] def k0_t3_loop : Scf.Loop 32 :=
  let c0_i32_146 : BitVec 32 := 0#32
  let c18_i32_147 : BitVec 32 := 18#32
  let v257 : BitVec 32 := Scalar.addi c0_i32_146 c18_i32_147
  let c1_i32_148 : BitVec 32 := 1#32
  ⟨c0_i32_146, v257, c1_i32_148⟩
def k0_mult5 (k0_t3 : Fin k0_t3_loop.trips) : BitVec 32 :=
  let c0_i32_146 : BitVec 32 := 0#32
  let c1_i32_148 : BitVec 32 := 1#32
  let arg11 : BitVec 32 := Scf.iv c0_i32_146 c1_i32_148 k0_t3
  let c32_i32 : BitVec 32 := 32#32
  let v323 : BitVec 32 := Scalar.muli arg11 c32_i32
  v323
def k0_mult6 (i : grid0.Coords) (k0_t3 : Fin k0_t3_loop.trips) : BitVec 32 :=
  let arg0 : BitVec 32 := BitVec.ofNat 32 (i 0).val
  let c4_i32_130 : BitVec 32 := 4#32
  let v227 : BitVec 32 := Scalar.muli arg0 c4_i32_130
  let c1_i32_131 : BitVec 32 := 1#32
  let v228 : BitVec 32 := Scalar.addi v227 c1_i32_131
  let c3_i32_139 : BitVec 32 := 3#32
  let c0_i32_140 : BitVec 32 := 0#32
  let v246 : BitVec 1 := Scalar.cmpi .eq c3_i32_139 c0_i32_140
  let c1_i32_141 : BitVec 32 := 1#32
  let v247 : BitVec 32 := Scalar.select v246 c1_i32_141 c3_i32_139
  let v248 : BitVec 32 := Scalar.remsi v228 v247
  let c0_i32_143 : BitVec 32 := 0#32
  let v250 : BitVec 1 := Scalar.cmpi .slt v248 c0_i32_143
  let c0_i32_144 : BitVec 32 := 0#32
  let v251 : BitVec 1 := Scalar.cmpi .slt v247 c0_i32_144
  let v252 : BitVec 1 := Scalar.xori v250 v251
  let c0_i32_142 : BitVec 32 := 0#32
  let v249 : BitVec 1 := Scalar.cmpi .ne v248 c0_i32_142
  let v253 : BitVec 1 := Scalar.andi v252 v249
  let v254 : BitVec 32 := Scalar.addi v248 v247
  let v255 : BitVec 32 := Scalar.select v253 v254 v248
  let c576_i32_145 : BitVec 32 := 576#32
  let v256 : BitVec 32 := Scalar.muli v255 c576_i32_145
  let c0_i32_146 : BitVec 32 := 0#32
  let c1_i32_148 : BitVec 32 := 1#32
  let arg11 : BitVec 32 := Scf.iv c0_i32_146 c1_i32_148 k0_t3
  let c32_i32 : BitVec 32 := 32#32
  let v323 : BitVec 32 := Scalar.muli arg11 c32_i32
  let v324 : BitVec 32 := v323
  let v325 : BitVec 32 := Scalar.addi v256 v324
  v325
def k0_off5 (i : grid0.Coords) (k0_t3 : Fin k0_t3_loop.trips) : Fin 2 → Nat :=
  let arg0 : BitVec 32 := BitVec.ofNat 32 (i 0).val
  let c4_i32_130 : BitVec 32 := 4#32
  let v227 : BitVec 32 := Scalar.muli arg0 c4_i32_130
  let c1_i32_131 : BitVec 32 := 1#32
  let v228 : BitVec 32 := Scalar.addi v227 c1_i32_131
  let c3_i32_139 : BitVec 32 := 3#32
  let c0_i32_140 : BitVec 32 := 0#32
  let v246 : BitVec 1 := Scalar.cmpi .eq c3_i32_139 c0_i32_140
  let c1_i32_141 : BitVec 32 := 1#32
  let v247 : BitVec 32 := Scalar.select v246 c1_i32_141 c3_i32_139
  let v248 : BitVec 32 := Scalar.remsi v228 v247
  let c0_i32_143 : BitVec 32 := 0#32
  let v250 : BitVec 1 := Scalar.cmpi .slt v248 c0_i32_143
  let c0_i32_144 : BitVec 32 := 0#32
  let v251 : BitVec 1 := Scalar.cmpi .slt v247 c0_i32_144
  let v252 : BitVec 1 := Scalar.xori v250 v251
  let c0_i32_142 : BitVec 32 := 0#32
  let v249 : BitVec 1 := Scalar.cmpi .ne v248 c0_i32_142
  let v253 : BitVec 1 := Scalar.andi v252 v249
  let v254 : BitVec 32 := Scalar.addi v248 v247
  let v255 : BitVec 32 := Scalar.select v253 v254 v248
  let c576_i32_145 : BitVec 32 := 576#32
  let v256 : BitVec 32 := Scalar.muli v255 c576_i32_145
  let c0_i32_146 : BitVec 32 := 0#32
  let c1_i32_148 : BitVec 32 := 1#32
  let arg11 : BitVec 32 := Scf.iv c0_i32_146 c1_i32_148 k0_t3
  let c32_i32 : BitVec 32 := 32#32
  let v323 : BitVec 32 := Scalar.muli arg11 c32_i32
  let v324 : BitVec 32 := v323
  let v325 : BitVec 32 := Scalar.addi v256 v324
  let v326 : BitVec 32 := v325
  let v327 : Index := Scalar.indexCast v326
  let c0_201 : Index := 0#32
  ![v327.toNat, 0]
def k0_off6 (k0_t3 : Fin k0_t3_loop.trips) : Fin 2 → Nat :=
  let c576_i32_203 : BitVec 32 := 576#32
  let c0_i32_146 : BitVec 32 := 0#32
  let c1_i32_148 : BitVec 32 := 1#32
  let arg11 : BitVec 32 := Scf.iv c0_i32_146 c1_i32_148 k0_t3
  let c32_i32 : BitVec 32 := 32#32
  let v323 : BitVec 32 := Scalar.muli arg11 c32_i32
  let v324 : BitVec 32 := v323
  let v341 : BitVec 32 := Scalar.addi c576_i32_203 v324
  let v342 : Index := Scalar.indexCast v341
  let c0_204 : Index := 0#32
  ![v342.toNat, 0]
@[reducible] def k0_t4_loop : Scf.Loop 32 :=
  let c0_i32_150 : BitVec 32 := 0#32
  let c18_i32_151 : BitVec 32 := 18#32
  let v258 : BitVec 32 := Scalar.addi c0_i32_150 c18_i32_151
  let c1_i32_152 : BitVec 32 := 1#32
  ⟨c0_i32_150, v258, c1_i32_152⟩
def k0_mult7 (k0_t4 : Fin k0_t4_loop.trips) : BitVec 32 :=
  let c0_i32_150 : BitVec 32 := 0#32
  let c1_i32_152 : BitVec 32 := 1#32
  let arg11 : BitVec 32 := Scf.iv c0_i32_150 c1_i32_152 k0_t4
  let c32_i32 : BitVec 32 := 32#32
  let v323 : BitVec 32 := Scalar.muli arg11 c32_i32
  v323
def k0_mult8 (i : grid0.Coords) (k0_t4 : Fin k0_t4_loop.trips) : BitVec 32 :=
  let arg0 : BitVec 32 := BitVec.ofNat 32 (i 0).val
  let c4_i32_130 : BitVec 32 := 4#32
  let v227 : BitVec 32 := Scalar.muli arg0 c4_i32_130
  let c1_i32_131 : BitVec 32 := 1#32
  let v228 : BitVec 32 := Scalar.addi v227 c1_i32_131
  let c3_i32_139 : BitVec 32 := 3#32
  let c0_i32_140 : BitVec 32 := 0#32
  let v246 : BitVec 1 := Scalar.cmpi .eq c3_i32_139 c0_i32_140
  let c1_i32_141 : BitVec 32 := 1#32
  let v247 : BitVec 32 := Scalar.select v246 c1_i32_141 c3_i32_139
  let v248 : BitVec 32 := Scalar.remsi v228 v247
  let c0_i32_143 : BitVec 32 := 0#32
  let v250 : BitVec 1 := Scalar.cmpi .slt v248 c0_i32_143
  let c0_i32_144 : BitVec 32 := 0#32
  let v251 : BitVec 1 := Scalar.cmpi .slt v247 c0_i32_144
  let v252 : BitVec 1 := Scalar.xori v250 v251
  let c0_i32_142 : BitVec 32 := 0#32
  let v249 : BitVec 1 := Scalar.cmpi .ne v248 c0_i32_142
  let v253 : BitVec 1 := Scalar.andi v252 v249
  let v254 : BitVec 32 := Scalar.addi v248 v247
  let v255 : BitVec 32 := Scalar.select v253 v254 v248
  let c576_i32_145 : BitVec 32 := 576#32
  let v256 : BitVec 32 := Scalar.muli v255 c576_i32_145
  let c0_i32_150 : BitVec 32 := 0#32
  let c1_i32_152 : BitVec 32 := 1#32
  let arg11 : BitVec 32 := Scf.iv c0_i32_150 c1_i32_152 k0_t4
  let c32_i32 : BitVec 32 := 32#32
  let v323 : BitVec 32 := Scalar.muli arg11 c32_i32
  let v324 : BitVec 32 := v323
  let v325 : BitVec 32 := Scalar.addi v256 v324
  v325
def k0_off7 (i : grid0.Coords) (k0_t4 : Fin k0_t4_loop.trips) : Fin 2 → Nat :=
  let arg0 : BitVec 32 := BitVec.ofNat 32 (i 0).val
  let c4_i32_130 : BitVec 32 := 4#32
  let v227 : BitVec 32 := Scalar.muli arg0 c4_i32_130
  let c1_i32_131 : BitVec 32 := 1#32
  let v228 : BitVec 32 := Scalar.addi v227 c1_i32_131
  let c3_i32_139 : BitVec 32 := 3#32
  let c0_i32_140 : BitVec 32 := 0#32
  let v246 : BitVec 1 := Scalar.cmpi .eq c3_i32_139 c0_i32_140
  let c1_i32_141 : BitVec 32 := 1#32
  let v247 : BitVec 32 := Scalar.select v246 c1_i32_141 c3_i32_139
  let v248 : BitVec 32 := Scalar.remsi v228 v247
  let c0_i32_143 : BitVec 32 := 0#32
  let v250 : BitVec 1 := Scalar.cmpi .slt v248 c0_i32_143
  let c0_i32_144 : BitVec 32 := 0#32
  let v251 : BitVec 1 := Scalar.cmpi .slt v247 c0_i32_144
  let v252 : BitVec 1 := Scalar.xori v250 v251
  let c0_i32_142 : BitVec 32 := 0#32
  let v249 : BitVec 1 := Scalar.cmpi .ne v248 c0_i32_142
  let v253 : BitVec 1 := Scalar.andi v252 v249
  let v254 : BitVec 32 := Scalar.addi v248 v247
  let v255 : BitVec 32 := Scalar.select v253 v254 v248
  let c576_i32_145 : BitVec 32 := 576#32
  let v256 : BitVec 32 := Scalar.muli v255 c576_i32_145
  let c0_i32_150 : BitVec 32 := 0#32
  let c1_i32_152 : BitVec 32 := 1#32
  let arg11 : BitVec 32 := Scf.iv c0_i32_150 c1_i32_152 k0_t4
  let c32_i32 : BitVec 32 := 32#32
  let v323 : BitVec 32 := Scalar.muli arg11 c32_i32
  let v324 : BitVec 32 := v323
  let v325 : BitVec 32 := Scalar.addi v256 v324
  let v326 : BitVec 32 := v325
  let v327 : Index := Scalar.indexCast v326
  let c0_201 : Index := 0#32
  ![v327.toNat, 0]
def k0_off8 (k0_t4 : Fin k0_t4_loop.trips) : Fin 2 → Nat :=
  let c576_i32_203 : BitVec 32 := 576#32
  let c0_i32_150 : BitVec 32 := 0#32
  let c1_i32_152 : BitVec 32 := 1#32
  let arg11 : BitVec 32 := Scf.iv c0_i32_150 c1_i32_152 k0_t4
  let c32_i32 : BitVec 32 := 32#32
  let v323 : BitVec 32 := Scalar.muli arg11 c32_i32
  let v324 : BitVec 32 := v323
  let v341 : BitVec 32 := Scalar.addi c576_i32_203 v324
  let v342 : Index := Scalar.indexCast v341
  let c0_204 : Index := 0#32
  ![v342.toNat, 0]
@[reducible] def k0_t5_loop : Scf.Loop 32 :=
  let c0_i32_169 : BitVec 32 := 0#32
  let c18_i32_170 : BitVec 32 := 18#32
  let v289 : BitVec 32 := Scalar.addi c0_i32_169 c18_i32_170
  let c1_i32_171 : BitVec 32 := 1#32
  ⟨c0_i32_169, v289, c1_i32_171⟩
def k0_mult9 (k0_t5 : Fin k0_t5_loop.trips) : BitVec 32 :=
  let c0_i32_169 : BitVec 32 := 0#32
  let c1_i32_171 : BitVec 32 := 1#32
  let arg11 : BitVec 32 := Scf.iv c0_i32_169 c1_i32_171 k0_t5
  let c32_i32 : BitVec 32 := 32#32
  let v323 : BitVec 32 := Scalar.muli arg11 c32_i32
  v323
def k0_mult10 (i : grid0.Coords) (k0_t5 : Fin k0_t5_loop.trips) : BitVec 32 :=
  let arg0 : BitVec 32 := BitVec.ofNat 32 (i 0).val
  let c4_i32_154 : BitVec 32 := 4#32
  let v259 : BitVec 32 := Scalar.muli arg0 c4_i32_154
  let c2_i32 : BitVec 32 := 2#32
  let v260 : BitVec 32 := Scalar.addi v259 c2_i32
  let c3_i32_162 : BitVec 32 := 3#32
  let c0_i32_163 : BitVec 32 := 0#32
  let v278 : BitVec 1 := Scalar.cmpi .eq c3_i32_162 c0_i32_163
  let c1_i32_164 : BitVec 32 := 1#32
  let v279 : BitVec 32 := Scalar.select v278 c1_i32_164 c3_i32_162
  let v280 : BitVec 32 := Scalar.remsi v260 v279
  let c0_i32_166 : BitVec 32 := 0#32
  let v282 : BitVec 1 := Scalar.cmpi .slt v280 c0_i32_166
  let c0_i32_167 : BitVec 32 := 0#32
  let v283 : BitVec 1 := Scalar.cmpi .slt v279 c0_i32_167
  let v284 : BitVec 1 := Scalar.xori v282 v283
  let c0_i32_165 : BitVec 32 := 0#32
  let v281 : BitVec 1 := Scalar.cmpi .ne v280 c0_i32_165
  let v285 : BitVec 1 := Scalar.andi v284 v281
  let v286 : BitVec 32 := Scalar.addi v280 v279
  let v287 : BitVec 32 := Scalar.select v285 v286 v280
  let c576_i32_168 : BitVec 32 := 576#32
  let v288 : BitVec 32 := Scalar.muli v287 c576_i32_168
  let c0_i32_169 : BitVec 32 := 0#32
  let c1_i32_171 : BitVec 32 := 1#32
  let arg11 : BitVec 32 := Scf.iv c0_i32_169 c1_i32_171 k0_t5
  let c32_i32 : BitVec 32 := 32#32
  let v323 : BitVec 32 := Scalar.muli arg11 c32_i32
  let v324 : BitVec 32 := v323
  let v325 : BitVec 32 := Scalar.addi v288 v324
  v325
def k0_off9 (i : grid0.Coords) (k0_t5 : Fin k0_t5_loop.trips) : Fin 2 → Nat :=
  let arg0 : BitVec 32 := BitVec.ofNat 32 (i 0).val
  let c4_i32_154 : BitVec 32 := 4#32
  let v259 : BitVec 32 := Scalar.muli arg0 c4_i32_154
  let c2_i32 : BitVec 32 := 2#32
  let v260 : BitVec 32 := Scalar.addi v259 c2_i32
  let c3_i32_162 : BitVec 32 := 3#32
  let c0_i32_163 : BitVec 32 := 0#32
  let v278 : BitVec 1 := Scalar.cmpi .eq c3_i32_162 c0_i32_163
  let c1_i32_164 : BitVec 32 := 1#32
  let v279 : BitVec 32 := Scalar.select v278 c1_i32_164 c3_i32_162
  let v280 : BitVec 32 := Scalar.remsi v260 v279
  let c0_i32_166 : BitVec 32 := 0#32
  let v282 : BitVec 1 := Scalar.cmpi .slt v280 c0_i32_166
  let c0_i32_167 : BitVec 32 := 0#32
  let v283 : BitVec 1 := Scalar.cmpi .slt v279 c0_i32_167
  let v284 : BitVec 1 := Scalar.xori v282 v283
  let c0_i32_165 : BitVec 32 := 0#32
  let v281 : BitVec 1 := Scalar.cmpi .ne v280 c0_i32_165
  let v285 : BitVec 1 := Scalar.andi v284 v281
  let v286 : BitVec 32 := Scalar.addi v280 v279
  let v287 : BitVec 32 := Scalar.select v285 v286 v280
  let c576_i32_168 : BitVec 32 := 576#32
  let v288 : BitVec 32 := Scalar.muli v287 c576_i32_168
  let c0_i32_169 : BitVec 32 := 0#32
  let c1_i32_171 : BitVec 32 := 1#32
  let arg11 : BitVec 32 := Scf.iv c0_i32_169 c1_i32_171 k0_t5
  let c32_i32 : BitVec 32 := 32#32
  let v323 : BitVec 32 := Scalar.muli arg11 c32_i32
  let v324 : BitVec 32 := v323
  let v325 : BitVec 32 := Scalar.addi v288 v324
  let v326 : BitVec 32 := v325
  let v327 : Index := Scalar.indexCast v326
  let c0_201 : Index := 0#32
  ![v327.toNat, 0]
def k0_off10 (k0_t5 : Fin k0_t5_loop.trips) : Fin 2 → Nat :=
  let c1152_i32 : BitVec 32 := 1152#32
  let c0_i32_169 : BitVec 32 := 0#32
  let c1_i32_171 : BitVec 32 := 1#32
  let arg11 : BitVec 32 := Scf.iv c0_i32_169 c1_i32_171 k0_t5
  let c32_i32 : BitVec 32 := 32#32
  let v323 : BitVec 32 := Scalar.muli arg11 c32_i32
  let v324 : BitVec 32 := v323
  let v341 : BitVec 32 := Scalar.addi c1152_i32 v324
  let v342 : Index := Scalar.indexCast v341
  let c0_203 : Index := 0#32
  ![v342.toNat, 0]
@[reducible] def k0_t6_loop : Scf.Loop 32 :=
  let c0_i32_173 : BitVec 32 := 0#32
  let c18_i32_174 : BitVec 32 := 18#32
  let v290 : BitVec 32 := Scalar.addi c0_i32_173 c18_i32_174
  let c1_i32_175 : BitVec 32 := 1#32
  ⟨c0_i32_173, v290, c1_i32_175⟩
def k0_mult11 (k0_t6 : Fin k0_t6_loop.trips) : BitVec 32 :=
  let c0_i32_173 : BitVec 32 := 0#32
  let c1_i32_175 : BitVec 32 := 1#32
  let arg11 : BitVec 32 := Scf.iv c0_i32_173 c1_i32_175 k0_t6
  let c32_i32 : BitVec 32 := 32#32
  let v323 : BitVec 32 := Scalar.muli arg11 c32_i32
  v323
def k0_mult12 (i : grid0.Coords) (k0_t6 : Fin k0_t6_loop.trips) : BitVec 32 :=
  let arg0 : BitVec 32 := BitVec.ofNat 32 (i 0).val
  let c4_i32_154 : BitVec 32 := 4#32
  let v259 : BitVec 32 := Scalar.muli arg0 c4_i32_154
  let c2_i32 : BitVec 32 := 2#32
  let v260 : BitVec 32 := Scalar.addi v259 c2_i32
  let c3_i32_162 : BitVec 32 := 3#32
  let c0_i32_163 : BitVec 32 := 0#32
  let v278 : BitVec 1 := Scalar.cmpi .eq c3_i32_162 c0_i32_163
  let c1_i32_164 : BitVec 32 := 1#32
  let v279 : BitVec 32 := Scalar.select v278 c1_i32_164 c3_i32_162
  let v280 : BitVec 32 := Scalar.remsi v260 v279
  let c0_i32_166 : BitVec 32 := 0#32
  let v282 : BitVec 1 := Scalar.cmpi .slt v280 c0_i32_166
  let c0_i32_167 : BitVec 32 := 0#32
  let v283 : BitVec 1 := Scalar.cmpi .slt v279 c0_i32_167
  let v284 : BitVec 1 := Scalar.xori v282 v283
  let c0_i32_165 : BitVec 32 := 0#32
  let v281 : BitVec 1 := Scalar.cmpi .ne v280 c0_i32_165
  let v285 : BitVec 1 := Scalar.andi v284 v281
  let v286 : BitVec 32 := Scalar.addi v280 v279
  let v287 : BitVec 32 := Scalar.select v285 v286 v280
  let c576_i32_168 : BitVec 32 := 576#32
  let v288 : BitVec 32 := Scalar.muli v287 c576_i32_168
  let c0_i32_173 : BitVec 32 := 0#32
  let c1_i32_175 : BitVec 32 := 1#32
  let arg11 : BitVec 32 := Scf.iv c0_i32_173 c1_i32_175 k0_t6
  let c32_i32 : BitVec 32 := 32#32
  let v323 : BitVec 32 := Scalar.muli arg11 c32_i32
  let v324 : BitVec 32 := v323
  let v325 : BitVec 32 := Scalar.addi v288 v324
  v325
def k0_off11 (i : grid0.Coords) (k0_t6 : Fin k0_t6_loop.trips) : Fin 2 → Nat :=
  let arg0 : BitVec 32 := BitVec.ofNat 32 (i 0).val
  let c4_i32_154 : BitVec 32 := 4#32
  let v259 : BitVec 32 := Scalar.muli arg0 c4_i32_154
  let c2_i32 : BitVec 32 := 2#32
  let v260 : BitVec 32 := Scalar.addi v259 c2_i32
  let c3_i32_162 : BitVec 32 := 3#32
  let c0_i32_163 : BitVec 32 := 0#32
  let v278 : BitVec 1 := Scalar.cmpi .eq c3_i32_162 c0_i32_163
  let c1_i32_164 : BitVec 32 := 1#32
  let v279 : BitVec 32 := Scalar.select v278 c1_i32_164 c3_i32_162
  let v280 : BitVec 32 := Scalar.remsi v260 v279
  let c0_i32_166 : BitVec 32 := 0#32
  let v282 : BitVec 1 := Scalar.cmpi .slt v280 c0_i32_166
  let c0_i32_167 : BitVec 32 := 0#32
  let v283 : BitVec 1 := Scalar.cmpi .slt v279 c0_i32_167
  let v284 : BitVec 1 := Scalar.xori v282 v283
  let c0_i32_165 : BitVec 32 := 0#32
  let v281 : BitVec 1 := Scalar.cmpi .ne v280 c0_i32_165
  let v285 : BitVec 1 := Scalar.andi v284 v281
  let v286 : BitVec 32 := Scalar.addi v280 v279
  let v287 : BitVec 32 := Scalar.select v285 v286 v280
  let c576_i32_168 : BitVec 32 := 576#32
  let v288 : BitVec 32 := Scalar.muli v287 c576_i32_168
  let c0_i32_173 : BitVec 32 := 0#32
  let c1_i32_175 : BitVec 32 := 1#32
  let arg11 : BitVec 32 := Scf.iv c0_i32_173 c1_i32_175 k0_t6
  let c32_i32 : BitVec 32 := 32#32
  let v323 : BitVec 32 := Scalar.muli arg11 c32_i32
  let v324 : BitVec 32 := v323
  let v325 : BitVec 32 := Scalar.addi v288 v324
  let v326 : BitVec 32 := v325
  let v327 : Index := Scalar.indexCast v326
  let c0_201 : Index := 0#32
  ![v327.toNat, 0]
def k0_off12 (k0_t6 : Fin k0_t6_loop.trips) : Fin 2 → Nat :=
  let c1152_i32 : BitVec 32 := 1152#32
  let c0_i32_173 : BitVec 32 := 0#32
  let c1_i32_175 : BitVec 32 := 1#32
  let arg11 : BitVec 32 := Scf.iv c0_i32_173 c1_i32_175 k0_t6
  let c32_i32 : BitVec 32 := 32#32
  let v323 : BitVec 32 := Scalar.muli arg11 c32_i32
  let v324 : BitVec 32 := v323
  let v341 : BitVec 32 := Scalar.addi c1152_i32 v324
  let v342 : Index := Scalar.indexCast v341
  let c0_203 : Index := 0#32
  ![v342.toNat, 0]
@[reducible] def k0_t7_loop : Scf.Loop 32 :=
  let c0_i32_193 : BitVec 32 := 0#32
  let c18_i32_194 : BitVec 32 := 18#32
  let v321 : BitVec 32 := Scalar.addi c0_i32_193 c18_i32_194
  let c1_i32_195 : BitVec 32 := 1#32
  ⟨c0_i32_193, v321, c1_i32_195⟩
def k0_mult13 (k0_t7 : Fin k0_t7_loop.trips) : BitVec 32 :=
  let c0_i32_193 : BitVec 32 := 0#32
  let c1_i32_195 : BitVec 32 := 1#32
  let arg11 : BitVec 32 := Scf.iv c0_i32_193 c1_i32_195 k0_t7
  let c32_i32 : BitVec 32 := 32#32
  let v323 : BitVec 32 := Scalar.muli arg11 c32_i32
  v323
def k0_mult14 (i : grid0.Coords) (k0_t7 : Fin k0_t7_loop.trips) : BitVec 32 :=
  let arg0 : BitVec 32 := BitVec.ofNat 32 (i 0).val
  let c4_i32_177 : BitVec 32 := 4#32
  let v291 : BitVec 32 := Scalar.muli arg0 c4_i32_177
  let c3_i32_178 : BitVec 32 := 3#32
  let v292 : BitVec 32 := Scalar.addi v291 c3_i32_178
  let c3_i32_186 : BitVec 32 := 3#32
  let c0_i32_187 : BitVec 32 := 0#32
  let v310 : BitVec 1 := Scalar.cmpi .eq c3_i32_186 c0_i32_187
  let c1_i32_188 : BitVec 32 := 1#32
  let v311 : BitVec 32 := Scalar.select v310 c1_i32_188 c3_i32_186
  let v312 : BitVec 32 := Scalar.remsi v292 v311
  let c0_i32_190 : BitVec 32 := 0#32
  let v314 : BitVec 1 := Scalar.cmpi .slt v312 c0_i32_190
  let c0_i32_191 : BitVec 32 := 0#32
  let v315 : BitVec 1 := Scalar.cmpi .slt v311 c0_i32_191
  let v316 : BitVec 1 := Scalar.xori v314 v315
  let c0_i32_189 : BitVec 32 := 0#32
  let v313 : BitVec 1 := Scalar.cmpi .ne v312 c0_i32_189
  let v317 : BitVec 1 := Scalar.andi v316 v313
  let v318 : BitVec 32 := Scalar.addi v312 v311
  let v319 : BitVec 32 := Scalar.select v317 v318 v312
  let c576_i32_192 : BitVec 32 := 576#32
  let v320 : BitVec 32 := Scalar.muli v319 c576_i32_192
  let c0_i32_193 : BitVec 32 := 0#32
  let c1_i32_195 : BitVec 32 := 1#32
  let arg11 : BitVec 32 := Scf.iv c0_i32_193 c1_i32_195 k0_t7
  let c32_i32 : BitVec 32 := 32#32
  let v323 : BitVec 32 := Scalar.muli arg11 c32_i32
  let v324 : BitVec 32 := v323
  let v325 : BitVec 32 := Scalar.addi v320 v324
  v325
def k0_off13 (i : grid0.Coords) (k0_t7 : Fin k0_t7_loop.trips) : Fin 2 → Nat :=
  let arg0 : BitVec 32 := BitVec.ofNat 32 (i 0).val
  let c4_i32_177 : BitVec 32 := 4#32
  let v291 : BitVec 32 := Scalar.muli arg0 c4_i32_177
  let c3_i32_178 : BitVec 32 := 3#32
  let v292 : BitVec 32 := Scalar.addi v291 c3_i32_178
  let c3_i32_186 : BitVec 32 := 3#32
  let c0_i32_187 : BitVec 32 := 0#32
  let v310 : BitVec 1 := Scalar.cmpi .eq c3_i32_186 c0_i32_187
  let c1_i32_188 : BitVec 32 := 1#32
  let v311 : BitVec 32 := Scalar.select v310 c1_i32_188 c3_i32_186
  let v312 : BitVec 32 := Scalar.remsi v292 v311
  let c0_i32_190 : BitVec 32 := 0#32
  let v314 : BitVec 1 := Scalar.cmpi .slt v312 c0_i32_190
  let c0_i32_191 : BitVec 32 := 0#32
  let v315 : BitVec 1 := Scalar.cmpi .slt v311 c0_i32_191
  let v316 : BitVec 1 := Scalar.xori v314 v315
  let c0_i32_189 : BitVec 32 := 0#32
  let v313 : BitVec 1 := Scalar.cmpi .ne v312 c0_i32_189
  let v317 : BitVec 1 := Scalar.andi v316 v313
  let v318 : BitVec 32 := Scalar.addi v312 v311
  let v319 : BitVec 32 := Scalar.select v317 v318 v312
  let c576_i32_192 : BitVec 32 := 576#32
  let v320 : BitVec 32 := Scalar.muli v319 c576_i32_192
  let c0_i32_193 : BitVec 32 := 0#32
  let c1_i32_195 : BitVec 32 := 1#32
  let arg11 : BitVec 32 := Scf.iv c0_i32_193 c1_i32_195 k0_t7
  let c32_i32 : BitVec 32 := 32#32
  let v323 : BitVec 32 := Scalar.muli arg11 c32_i32
  let v324 : BitVec 32 := v323
  let v325 : BitVec 32 := Scalar.addi v320 v324
  let v326 : BitVec 32 := v325
  let v327 : Index := Scalar.indexCast v326
  let c0_201 : Index := 0#32
  ![v327.toNat, 0]
def k0_off14 (k0_t7 : Fin k0_t7_loop.trips) : Fin 2 → Nat :=
  let c1728_i32 : BitVec 32 := 1728#32
  let c0_i32_193 : BitVec 32 := 0#32
  let c1_i32_195 : BitVec 32 := 1#32
  let arg11 : BitVec 32 := Scf.iv c0_i32_193 c1_i32_195 k0_t7
  let c32_i32 : BitVec 32 := 32#32
  let v323 : BitVec 32 := Scalar.muli arg11 c32_i32
  let v324 : BitVec 32 := v323
  let v341 : BitVec 32 := Scalar.addi c1728_i32 v324
  let v342 : Index := Scalar.indexCast v341
  let c0_203 : Index := 0#32
  ![v342.toNat, 0]
@[reducible] def k0_t8_loop : Scf.Loop 32 :=
  let c0_i32_197 : BitVec 32 := 0#32
  let c18_i32_198 : BitVec 32 := 18#32
  let v322 : BitVec 32 := Scalar.addi c0_i32_197 c18_i32_198
  let c1_i32_199 : BitVec 32 := 1#32
  ⟨c0_i32_197, v322, c1_i32_199⟩
def k0_mult15 (k0_t8 : Fin k0_t8_loop.trips) : BitVec 32 :=
  let c0_i32_197 : BitVec 32 := 0#32
  let c1_i32_199 : BitVec 32 := 1#32
  let arg11 : BitVec 32 := Scf.iv c0_i32_197 c1_i32_199 k0_t8
  let c32_i32 : BitVec 32 := 32#32
  let v323 : BitVec 32 := Scalar.muli arg11 c32_i32
  v323
def k0_mult16 (i : grid0.Coords) (k0_t8 : Fin k0_t8_loop.trips) : BitVec 32 :=
  let arg0 : BitVec 32 := BitVec.ofNat 32 (i 0).val
  let c4_i32_177 : BitVec 32 := 4#32
  let v291 : BitVec 32 := Scalar.muli arg0 c4_i32_177
  let c3_i32_178 : BitVec 32 := 3#32
  let v292 : BitVec 32 := Scalar.addi v291 c3_i32_178
  let c3_i32_186 : BitVec 32 := 3#32
  let c0_i32_187 : BitVec 32 := 0#32
  let v310 : BitVec 1 := Scalar.cmpi .eq c3_i32_186 c0_i32_187
  let c1_i32_188 : BitVec 32 := 1#32
  let v311 : BitVec 32 := Scalar.select v310 c1_i32_188 c3_i32_186
  let v312 : BitVec 32 := Scalar.remsi v292 v311
  let c0_i32_190 : BitVec 32 := 0#32
  let v314 : BitVec 1 := Scalar.cmpi .slt v312 c0_i32_190
  let c0_i32_191 : BitVec 32 := 0#32
  let v315 : BitVec 1 := Scalar.cmpi .slt v311 c0_i32_191
  let v316 : BitVec 1 := Scalar.xori v314 v315
  let c0_i32_189 : BitVec 32 := 0#32
  let v313 : BitVec 1 := Scalar.cmpi .ne v312 c0_i32_189
  let v317 : BitVec 1 := Scalar.andi v316 v313
  let v318 : BitVec 32 := Scalar.addi v312 v311
  let v319 : BitVec 32 := Scalar.select v317 v318 v312
  let c576_i32_192 : BitVec 32 := 576#32
  let v320 : BitVec 32 := Scalar.muli v319 c576_i32_192
  let c0_i32_197 : BitVec 32 := 0#32
  let c1_i32_199 : BitVec 32 := 1#32
  let arg11 : BitVec 32 := Scf.iv c0_i32_197 c1_i32_199 k0_t8
  let c32_i32 : BitVec 32 := 32#32
  let v323 : BitVec 32 := Scalar.muli arg11 c32_i32
  let v324 : BitVec 32 := v323
  let v325 : BitVec 32 := Scalar.addi v320 v324
  v325
def k0_off15 (i : grid0.Coords) (k0_t8 : Fin k0_t8_loop.trips) : Fin 2 → Nat :=
  let arg0 : BitVec 32 := BitVec.ofNat 32 (i 0).val
  let c4_i32_177 : BitVec 32 := 4#32
  let v291 : BitVec 32 := Scalar.muli arg0 c4_i32_177
  let c3_i32_178 : BitVec 32 := 3#32
  let v292 : BitVec 32 := Scalar.addi v291 c3_i32_178
  let c3_i32_186 : BitVec 32 := 3#32
  let c0_i32_187 : BitVec 32 := 0#32
  let v310 : BitVec 1 := Scalar.cmpi .eq c3_i32_186 c0_i32_187
  let c1_i32_188 : BitVec 32 := 1#32
  let v311 : BitVec 32 := Scalar.select v310 c1_i32_188 c3_i32_186
  let v312 : BitVec 32 := Scalar.remsi v292 v311
  let c0_i32_190 : BitVec 32 := 0#32
  let v314 : BitVec 1 := Scalar.cmpi .slt v312 c0_i32_190
  let c0_i32_191 : BitVec 32 := 0#32
  let v315 : BitVec 1 := Scalar.cmpi .slt v311 c0_i32_191
  let v316 : BitVec 1 := Scalar.xori v314 v315
  let c0_i32_189 : BitVec 32 := 0#32
  let v313 : BitVec 1 := Scalar.cmpi .ne v312 c0_i32_189
  let v317 : BitVec 1 := Scalar.andi v316 v313
  let v318 : BitVec 32 := Scalar.addi v312 v311
  let v319 : BitVec 32 := Scalar.select v317 v318 v312
  let c576_i32_192 : BitVec 32 := 576#32
  let v320 : BitVec 32 := Scalar.muli v319 c576_i32_192
  let c0_i32_197 : BitVec 32 := 0#32
  let c1_i32_199 : BitVec 32 := 1#32
  let arg11 : BitVec 32 := Scf.iv c0_i32_197 c1_i32_199 k0_t8
  let c32_i32 : BitVec 32 := 32#32
  let v323 : BitVec 32 := Scalar.muli arg11 c32_i32
  let v324 : BitVec 32 := v323
  let v325 : BitVec 32 := Scalar.addi v320 v324
  let v326 : BitVec 32 := v325
  let v327 : Index := Scalar.indexCast v326
  let c0_201 : Index := 0#32
  ![v327.toNat, 0]
def k0_off16 (k0_t8 : Fin k0_t8_loop.trips) : Fin 2 → Nat :=
  let c1728_i32 : BitVec 32 := 1728#32
  let c0_i32_197 : BitVec 32 := 0#32
  let c1_i32_199 : BitVec 32 := 1#32
  let arg11 : BitVec 32 := Scf.iv c0_i32_197 c1_i32_199 k0_t8
  let c32_i32 : BitVec 32 := 32#32
  let v323 : BitVec 32 := Scalar.muli arg11 c32_i32
  let v324 : BitVec 32 := v323
  let v341 : BitVec 32 := Scalar.addi c1728_i32 v324
  let v342 : Index := Scalar.indexCast v341
  let c0_203 : Index := 0#32
  ![v342.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1728x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1728x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateUpRefIdeal.lean ====
abbrev S15360x2560 : Shape := ⟨2, ![15360, 2560]⟩
abbrev S15360x1 : Shape := ⟨2, ![15360, 1]⟩
abbrev S1728x2560 : Shape := ⟨2, ![1728, 2560]⟩
abbrev S_ : Shape := ⟨0, ![]⟩
abbrev S4 : Shape := ⟨1, ![4]⟩
abbrev S1x1728x2560 : Shape := ⟨3, ![1, 1728, 2560]⟩
abbrev S4x1x1 : Shape := ⟨3, ![4, 1, 1]⟩
abbrev S4x1728x2560 : Shape := ⟨3, ![4, 1728, 2560]⟩
abbrev S6912x2560 : Shape := ⟨2, ![6912, 2560]⟩
abbrev S15360x6912 : Shape := ⟨2, ![15360, 6912]⟩

abbrev nBuf : Space → Nat
  | .hbm => 64
  | .vmem => 0
  | .smem => 0
  | _ => 0

abbrev bufTy : (tb : Table) → Fin (tcTables nBuf tb) → BufTy
  | .hbm, ⟨0, _⟩ => ⟨S15360x2560, .i8⟩
  | .hbm, ⟨1, _⟩ => ⟨S15360x1, .f32⟩
  | .hbm, ⟨2, _⟩ => ⟨S1728x2560, .i8⟩
  | .hbm, ⟨3, _⟩ => ⟨S1728x2560, .i8⟩
  | .hbm, ⟨4, _⟩ => ⟨S_, .f32⟩
  | .hbm, ⟨5, _⟩ => ⟨S_, .f32⟩
  | .hbm, ⟨6, _⟩ => ⟨S15360x2560, .i32⟩
  | .hbm, ⟨7, _⟩ => ⟨S15360x2560, .bf16⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S1728x2560, .i32⟩
  | .hbm, ⟨13, _⟩ => ⟨S1x1728x2560, .i32⟩
  | .hbm, ⟨14, _⟩ => ⟨S4x1x1, .i32⟩
  | .hbm, ⟨15, _⟩ => ⟨S4x1728x2560, .i32⟩
  | .hbm, ⟨16, _⟩ => ⟨S4x1728x2560, .i32⟩
  | .hbm, ⟨17, _⟩ => ⟨S4x1728x2560, .i32⟩
  | .hbm, ⟨18, _⟩ => ⟨S_, .i32⟩
  | .hbm, ⟨19, _⟩ => ⟨S4x1728x2560, .i32⟩
  | .hbm, ⟨20, _⟩ => ⟨S4x1728x2560, .i32⟩
  | .hbm, ⟨21, _⟩ => ⟨S4x1728x2560, .i32⟩
  | .hbm, ⟨22, _⟩ => ⟨S_, .i32⟩
  | .hbm, ⟨23, _⟩ => ⟨S4x1728x2560, .i32⟩
  | .hbm, ⟨24, _⟩ => ⟨S4x1728x2560, .i32⟩
  | .hbm, ⟨25, _⟩ => ⟨S4x1728x2560, .bf16⟩
  | .hbm, ⟨26, _⟩ => ⟨S6912x2560, .bf16⟩
  | .hbm, ⟨27, _⟩ => ⟨S15360x6912, .f32⟩
  | .hbm, ⟨28, _⟩ => ⟨S15360x6912, .f32⟩
  | .hbm, ⟨29, _⟩ => ⟨S15360x6912, .f32⟩
  | .hbm, ⟨30, _⟩ => ⟨S15360x6912, .f32⟩
  | .hbm, ⟨31, _⟩ => ⟨S15360x6912, .f32⟩
  | .hbm, ⟨32, _⟩ => ⟨S15360x2560, .i32⟩
  | .hbm, ⟨33, _⟩ => ⟨S15360x2560, .bf16⟩
  | .hbm, ⟨34, _⟩ => ⟨S4, .i32⟩
  | .hbm, ⟨35, _⟩ => ⟨S_, .i32⟩
  | .hbm, ⟨36, _⟩ => ⟨S4, .i32⟩
  | .hbm, ⟨37, _⟩ => ⟨S4, .i32⟩
  | .hbm, ⟨38, _⟩ => ⟨S1728x2560, .i32⟩
  | .hbm, ⟨39, _⟩ => ⟨S1x1728x2560, .i32⟩
  | .hbm, ⟨40, _⟩ => ⟨S4x1x1, .i32⟩
  | .hbm, ⟨41, _⟩ => ⟨S4x1728x2560, .i32⟩
  | .hbm, ⟨42, _⟩ => ⟨S4x1728x2560, .i32⟩
  | .hbm, ⟨43, _⟩ => ⟨S4x1728x2560, .i32⟩
  | .hbm, ⟨44, _⟩ => ⟨S_, .i32⟩
  | .hbm, ⟨45, _⟩ => ⟨S4x1728x2560, .i32⟩
  | .hbm, ⟨46, _⟩ => ⟨S4x1728x2560, .i32⟩
  | .hbm, ⟨47, _⟩ => ⟨S4x1728x2560, .i32⟩
  | .hbm, ⟨48, _⟩ => ⟨S_, .i32⟩
  | .hbm, ⟨49, _⟩ => ⟨S4x1728x2560, .i32⟩
  | .hbm, ⟨50, _⟩ => ⟨S4x1728x2560, .i32⟩
  | .hbm, ⟨51, _⟩ => ⟨S4x1728x2560, .bf16⟩
  | .hbm, ⟨52, _⟩ => ⟨S6912x2560, .bf16⟩
  | .hbm, ⟨53, _⟩ => ⟨S15360x6912, .f32⟩
  | .hbm, ⟨54, _⟩ => ⟨S15360x6912, .f32⟩
  | .hbm, ⟨55, _⟩ => ⟨S15360x6912, .f32⟩
  | .hbm, ⟨56, _⟩ => ⟨S15360x6912, .f32⟩
  | .hbm, ⟨57, _⟩ => ⟨S15360x6912, .f32⟩
  | .hbm, ⟨58, _⟩ => ⟨S_, .f32⟩
  | .hbm, ⟨59, _⟩ => ⟨S15360x6912, .f32⟩
  | .hbm, ⟨60, _⟩ => ⟨S15360x6912, .f32⟩
  | .hbm, ⟨61, _⟩ => ⟨S15360x6912, .f32⟩
  | .hbm, ⟨62, _⟩ => ⟨S15360x6912, .f32⟩
  | .hbm, ⟨63, _⟩ => ⟨S15360x6912, .bf16⟩
  | _, _ => ⟨S15360x2560, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_cst : Ref sig .tc := ⟨.hbm, 58, rfl⟩
abbrev main_call0_v0 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Down.lean ====
abbrev S15360x6912 : Shape := ⟨2, ![15360, 6912]⟩
abbrev S15360x2560 : Shape := ⟨2, ![15360, 2560]⟩
abbrev S6912 : Shape := ⟨1, ![6912]⟩
abbrev S640x6912 : Shape := ⟨2, ![640, 6912]⟩
abbrev S_ : Shape := ⟨0, ![]⟩
abbrev S1x6912 : Shape := ⟨2, ![1, 6912]⟩
abbrev S1 : Shape := ⟨1, ![1]⟩
abbrev S15360x1 : Shape := ⟨2, ![15360, 1]⟩
abbrev S256x6912 : Shape := ⟨2, ![256, 6912]⟩
abbrev S256x2560 : Shape := ⟨2, ![256, 2560]⟩
abbrev S256x1 : Shape := ⟨2, ![256, 1]⟩
abbrev S2560x6912 : Shape := ⟨2, ![2560, 6912]⟩
abbrev S2x256x6912 : Shape := ⟨3, ![2, 256, 6912]⟩
abbrev S2x256x1 : Shape := ⟨3, ![2, 256, 1]⟩
abbrev S32x6912 : Shape := ⟨2, ![32, 6912]⟩
abbrev S8x6912 : Shape := ⟨2, ![8, 6912]⟩
abbrev S32x768 : Shape := ⟨2, ![32, 768]⟩
abbrev S32 : Shape := ⟨1, ![32]⟩
abbrev S32x1 : Shape := ⟨2, ![32, 1]⟩
abbrev S1x768 : Shape := ⟨2, ![1, 768]⟩
abbrev S1x32x768 : Shape := ⟨3, ![1, 32, 768]⟩
abbrev S1x32x1 : Shape := ⟨3, ![1, 32, 1]⟩
abbrev S1x256x1 : Shape := ⟨3, ![1, 256, 1]⟩
abbrev S1x256x6912 : Shape := ⟨3, ![1, 256, 6912]⟩
abbrev S256x256 : Shape := ⟨2, ![256, 256]⟩

abbrev nBuf : Space → Nat
  | .hbm => 10
  | .vmem => 15
  | .smem => 1
  | _ => 0

abbrev bufTy : (tb : Table) → Fin (tcTables nBuf tb) → BufTy
  | .hbm, ⟨0, _⟩ => ⟨S15360x6912, .f32⟩
  | .hbm, ⟨1, _⟩ => ⟨S15360x2560, .f32⟩
  | .hbm, ⟨2, _⟩ => ⟨S6912, .f32⟩
  | .hbm, ⟨3, _⟩ => ⟨S640x6912, .i8⟩
  | .hbm, ⟨4, _⟩ => ⟨S_, .f32⟩
  | .hbm, ⟨5, _⟩ => ⟨S1x6912, .f32⟩
  | .hbm, ⟨6, _⟩ => ⟨S1, .f32⟩
  | .hbm, ⟨7, _⟩ => ⟨S15360x2560, .bf16⟩
  | .hbm, ⟨8, _⟩ => ⟨S15360x6912, .i8⟩
  | .hbm, ⟨9, _⟩ => ⟨S15360x1, .f32⟩
  | .local _ .vmem, ⟨0, _⟩ => ⟨S256x6912, .f32⟩
  | .local _ .vmem, ⟨1, _⟩ => ⟨S256x6912, .f32⟩
  | .local _ .vmem, ⟨2, _⟩ => ⟨S256x2560, .f32⟩
  | .local _ .vmem, ⟨3, _⟩ => ⟨S256x2560, .f32⟩
  | .local _ .vmem, ⟨4, _⟩ => ⟨S1x6912, .f32⟩
  | .local _ .vmem, ⟨5, _⟩ => ⟨S640x6912, .i8⟩
  | .local _ .vmem, ⟨6, _⟩ => ⟨S256x2560, .bf16⟩
  | .local _ .vmem, ⟨7, _⟩ => ⟨S256x2560, .bf16⟩
  | .local _ .vmem, ⟨8, _⟩ => ⟨S256x6912, .i8⟩
  | .local _ .vmem, ⟨9, _⟩ => ⟨S256x6912, .i8⟩
  | .local _ .vmem, ⟨10, _⟩ => ⟨S256x1, .f32⟩
  | .local _ .vmem, ⟨11, _⟩ => ⟨S256x1, .f32⟩
  | .local _ .vmem, ⟨12, _⟩ => ⟨S2560x6912, .i8⟩
  | .local _ .vmem, ⟨13, _⟩ => ⟨S2x256x6912, .bf16⟩
  | .local _ .vmem, ⟨14, _⟩ => ⟨S2x256x1, .f32⟩
  | .local _ .smem, ⟨0, _⟩ => ⟨S1, .f32⟩
  | _, _ => ⟨S15360x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![61], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_3 : BitVec 32 := 0#32
  let c20_i32 : BitVec 32 := 20#32
  let v8 : BitVec 32 := Scalar.addi c0_i32_3 c20_i32
  let c1_i32_4 : BitVec 32 := 1#32
  ⟨c0_i32_3, v8, c1_i32_4⟩
def k0_mult1 (k0_t1 : Fin k0_t1_loop.trips) : BitVec 32 :=
  let c0_i32_3 : BitVec 32 := 0#32
  let c1_i32_4 : BitVec 32 := 1#32
  let arg12 : BitVec 32 := Scf.iv c0_i32_3 c1_i32_4 k0_t1
  let c32_i32 : BitVec 32 := 32#32
  let v3092 : BitVec 32 := Scalar.muli arg12 c32_i32
  v3092
def k0_off1 (k0_t1 : Fin k0_t1_loop.trips) : Fin 2 → Nat :=
  let c0_i32_3 : BitVec 32 := 0#32
  let c1_i32_4 : BitVec 32 := 1#32
  let arg12 : BitVec 32 := Scf.iv c0_i32_3 c1_i32_4 k0_t1
  let c32_i32 : BitVec 32 := 32#32
  let v3092 : BitVec 32 := Scalar.muli arg12 c32_i32
  let v3093 : BitVec 32 := v3092
  let v3094 : Index := Scalar.indexCast v3093
  let c0_1447 : Index := 0#32
  ![v3094.toNat, 0]
def k0_off2 (k0_t1 : Fin k0_t1_loop.trips) : Fin 2 → Nat :=
  let c0_i32_1449 : BitVec 32 := 0#32
  let c0_i32_3 : BitVec 32 := 0#32
  let c1_i32_4 : BitVec 32 := 1#32
  let arg12 : BitVec 32 := Scf.iv c0_i32_3 c1_i32_4 k0_t1
  let c32_i32 : BitVec 32 := 32#32
  let v3092 : BitVec 32 := Scalar.muli arg12 c32_i32
  let v3093 : BitVec 32 := v3092
  let v3106 : BitVec 32 := Scalar.addi c0_i32_1449 v3093
  let v3107 : Index := Scalar.indexCast v3106
  let c0_1450 : Index := 0#32
  ![v3107.toNat, 0]
@[reducible] def k0_t2_loop : Scf.Loop 32 :=
  let c0_i32_6 : BitVec 32 := 0#32
  let c20_i32_7 : BitVec 32 := 20#32
  let v9 : BitVec 32 := Scalar.addi c0_i32_6 c20_i32_7
  let c1_i32_8 : BitVec 32 := 1#32
  ⟨c0_i32_6, v9, c1_i32_8⟩
def k0_mult2 (k0_t2 : Fin k0_t2_loop.trips) : BitVec 32 :=
  let c0_i32_6 : BitVec 32 := 0#32
  let c1_i32_8 : BitVec 32 := 1#32
  let arg12 : BitVec 32 := Scf.iv c0_i32_6 c1_i32_8 k0_t2
  let c32_i32 : BitVec 32 := 32#32
  let v3092 : BitVec 32 := Scalar.muli arg12 c32_i32
  v3092
def k0_off3 (k0_t2 : Fin k0_t2_loop.trips) : Fin 2 → Nat :=
  let c0_i32_6 : BitVec 32 := 0#32
  let c1_i32_8 : BitVec 32 := 1#32
  let arg12 : BitVec 32 := Scf.iv c0_i32_6 c1_i32_8 k0_t2
  let c32_i32 : BitVec 32 := 32#32
  let v3092 : BitVec 32 := Scalar.muli arg12 c32_i32
  let v3093 : BitVec 32 := v3092
  let v3094 : Index := Scalar.indexCast v3093
  let c0_1447 : Index := 0#32
  ![v3094.toNat, 0]
def k0_off4 (k0_t2 : Fin k0_t2_loop.trips) : Fin 2 → Nat :=
  let c640_i32 : BitVec 32 := 640#32
  let c0_i32_6 : BitVec 32 := 0#32
  let c1_i32_8 : BitVec 32 := 1#32
  let arg12 : BitVec 32 := Scf.iv c0_i32_6 c1_i32_8 k0_t2
  let c32_i32 : BitVec 32 := 32#32
  let v3092 : BitVec 32 := Scalar.muli arg12 c32_i32
  let v3093 : BitVec 32 := v3092
  let v3106 : BitVec 32 := Scalar.addi c640_i32 v3093
  let v3107 : Index := Scalar.indexCast v3106
  let c0_1449 : Index := 0#32
  ![v3107.toNat, 0]
@[reducible] def k0_t3_loop : Scf.Loop 32 :=
  let c0_i32_10 : BitVec 32 := 0#32
  let c20_i32_11 : BitVec 32 := 20#32
  let v10 : BitVec 32 := Scalar.addi c0_i32_10 c20_i32_11
  let c1_i32_12 : BitVec 32 := 1#32
  ⟨c0_i32_10, v10, c1_i32_12⟩
def k0_mult3 (k0_t3 : Fin k0_t3_loop.trips) : BitVec 32 :=
  let c0_i32_10 : BitVec 32 := 0#32
  let c1_i32_12 : BitVec 32 := 1#32
  let arg12 : BitVec 32 := Scf.iv c0_i32_10 c1_i32_12 k0_t3
  let c32_i32 : BitVec 32 := 32#32
  let v3092 : BitVec 32 := Scalar.muli arg12 c32_i32
  v3092
def k0_off5 (k0_t3 : Fin k0_t3_loop.trips) : Fin 2 → Nat :=
  let c0_i32_10 : BitVec 32 := 0#32
  let c1_i32_12 : BitVec 32 := 1#32
  let arg12 : BitVec 32 := Scf.iv c0_i32_10 c1_i32_12 k0_t3
  let c32_i32 : BitVec 32 := 32#32
  let v3092 : BitVec 32 := Scalar.muli arg12 c32_i32
  let v3093 : BitVec 32 := v3092
  let v3094 : Index := Scalar.indexCast v3093
  let c0_1447 : Index := 0#32
  ![v3094.toNat, 0]
def k0_off6 (k0_t3 : Fin k0_t3_loop.trips) : Fin 2 → Nat :=
  let c1280_i32 : BitVec 32 := 1280#32
  let c0_i32_10 : BitVec 32 := 0#32
  let c1_i32_12 : BitVec 32 := 1#32
  let arg12 : BitVec 32 := Scf.iv c0_i32_10 c1_i32_12 k0_t3
  let c32_i32 : BitVec 32 := 32#32
  let v3092 : BitVec 32 := Scalar.muli arg12 c32_i32
  let v3093 : BitVec 32 := v3092
  let v3106 : BitVec 32 := Scalar.addi c1280_i32 v3093
  let v3107 : Index := Scalar.indexCast v3106
  let c0_1448 : Index := 0#32
  ![v3107.toNat, 0]
@[reducible] def k0_t4_loop : Scf.Loop 32 :=
  let c0_i32_14 : BitVec 32 := 0#32
  let c20_i32_15 : BitVec 32 := 20#32
  let v11 : BitVec 32 := Scalar.addi c0_i32_14 c20_i32_15
  let c1_i32_16 : BitVec 32 := 1#32
  ⟨c0_i32_14, v11, c1_i32_16⟩
def k0_mult4 (k0_t4 : Fin k0_t4_loop.trips) : BitVec 32 :=
  let c0_i32_14 : BitVec 32 := 0#32
  let c1_i32_16 : BitVec 32 := 1#32
  let arg12 : BitVec 32 := Scf.iv c0_i32_14 c1_i32_16 k0_t4
  let c32_i32 : BitVec 32 := 32#32
  let v3092 : BitVec 32 := Scalar.muli arg12 c32_i32
  v3092
def k0_off7 (k0_t4 : Fin k0_t4_loop.trips) : Fin 2 → Nat :=
  let c0_i32_14 : BitVec 32 := 0#32
  let c1_i32_16 : BitVec 32 := 1#32
  let arg12 : BitVec 32 := Scf.iv c0_i32_14 c1_i32_16 k0_t4
  let c32_i32 : BitVec 32 := 32#32
  let v3092 : BitVec 32 := Scalar.muli arg12 c32_i32
  let v3093 : BitVec 32 := v3092
  let v3094 : Index := Scalar.indexCast v3093
  let c0_1447 : Index := 0#32
  ![v3094.toNat, 0]
def k0_off8 (k0_t4 : Fin k0_t4_loop.trips) : Fin 2 → Nat :=
  let c1920_i32 : BitVec 32 := 1920#32
  let c0_i32_14 : BitVec 32 := 0#32
  let c1_i32_16 : BitVec 32 := 1#32
  let arg12 : BitVec 32 := Scf.iv c0_i32_14 c1_i32_16 k0_t4
  let c32_i32 : BitVec 32 := 32#32
  let v3092 : BitVec 32 := Scalar.muli arg12 c32_i32
  let v3093 : BitVec 32 := v3092
  let v3106 : BitVec 32 := Scalar.addi c1920_i32 v3093
  let v3107 : Index := Scalar.indexCast v3106
  let c0_1448 : Index := 0#32
  ![v3107.toNat, 0]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v188 : Index := Scalar.indexCast v0
  let c0_93 : Index := 0#32
  let c0_94 : Index := 0#32
  ![v188.toNat, 0, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v213 : Index := Scalar.indexCast v0
  let c0_104 : Index := 0#32
  let c768_105 : Index := 768#32
  ![v213.toNat, 0, 768]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v238 : Index := Scalar.indexCast v0
  let c0_115 : Index := 0#32
  let c1536_116 : Index := 1536#32
  ![v238.toNat, 0, 1536]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v263 : Index := Scalar.indexCast v0
  let c0_126 : Index := 0#32
  let c2304_127 : Index := 2304#32
  ![v263.toNat, 0, 2304]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v288 : Index := Scalar.indexCast v0
  let c0_137 : Index := 0#32
  let c3072_138 : Index := 3072#32
  ![v288.toNat, 0, 3072]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v313 : Index := Scalar.indexCast v0
  let c0_148 : Index := 0#32
  let c3840_149 : Index := 3840#32
  ![v313.toNat, 0, 3840]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v338 : Index := Scalar.indexCast v0
  let c0_159 : Index := 0#32
  let c4608_160 : Index := 4608#32
  ![v338.toNat, 0, 4608]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v363 : Index := Scalar.indexCast v0
  let c0_170 : Index := 0#32
  let c5376_171 : Index := 5376#32
  ![v363.toNat, 0, 5376]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v388 : Index := Scalar.indexCast v0
  let c0_181 : Index := 0#32
  let c6144_182 : Index := 6144#32
  ![v388.toNat, 0, 6144]
def k0_off18 (i : grid0.Coords) : Fin 3 → Nat :=
  let arg0 : BitVec 32 := BitVec.ofNat 32 (i 0).val
  let c2_i32 : BitVec 32 := 2#32
  let v0 : BitVec 32 := Scalar.remsi arg0 c2_i32
  let v393 : Index := Scalar.indexCast v0
  let c0_185 : Index := 0#32
  let c0_186 : Index := 0#32
  ![v393.toNat, 0, 0]
def k0_off19 (i : grid0.Coords) : Fin 3 → Nat :=
  let arg0 : BitVec 32 := BitVec.ofNat 32 (i 0).val
  let c2_i32 : BitVec 32 := 2#32
  let v0 : BitVec 32 := Scalar.remsi arg0 c2_i32
  let v573 : Index := Scalar.indexCast v0
  let c32_273 : Index := 32#32
  let c0_274 : Index := 0#32
  ![v573.toNat, 32, 0]
def k0_off20 (i : grid0.Coords) : Fin 3 → Nat :=
  let arg0 : BitVec 32 := BitVec.ofNat 32 (i 0).val
  let c2_i32 : BitVec 32 := 2#32
  let v0 : BitVec 32 := Scalar.remsi arg0 c2_i32
  let v598 : Index := Scalar.indexCast v0
  let c32_284 : Index := 32#32
  let c768_285 : Index := 768#32
  ![v598.toNat, 32, 768]
def k0_off21 (i : grid0.Coords) : Fin 3 → Nat :=
  let arg0 : BitVec 32 := BitVec.ofNat 32 (i 0).val
  let c2_i32 : BitVec 32 := 2#32
  let v0 : BitVec 32 := Scalar.remsi arg0 c2_i32
  let v623 : Index := Scalar.indexCast v0
  let c32_295 : Index := 32#32
  let c1536_296 : Index := 1536#32
  ![v623.toNat, 32, 1536]
def k0_off22 (i : grid0.Coords) : Fin 3 → Nat :=
  let arg0 : BitVec 32 := BitVec.ofNat 32 (i 0).val
  let c2_i32 : BitVec 32 := 2#32
  let v0 : BitVec 32 := Scalar.remsi arg0 c2_i32
  let v648 : Index := Scalar.indexCast v0
  let c32_306 : Index := 32#32
  let c2304_307 : Index := 2304#32
  ![v648.toNat, 32, 2304]
def k0_off23 (i : grid0.Coords) : Fin 3 → Nat :=
  let arg0 : BitVec 32 := BitVec.ofNat 32 (i 0).val
  let c2_i32 : BitVec 32 := 2#32
  let v0 : BitVec 32 := Scalar.remsi arg0 c2_i32
  let v673 : Index := Scalar.indexCast v0
  let c32_317 : Index := 32#32
  let c3072_318 : Index := 3072#32
  ![v673.toNat, 32, 3072]
def k0_off24 (i : grid0.Coords) : Fin 3 → Nat :=
  let arg0 : BitVec 32 := BitVec.ofNat 32 (i 0).val
  let c2_i32 : BitVec 32 := 2#32
  let v0 : BitVec 32 := Scalar.remsi arg0 c2_i32
  let v698 : Index := Scalar.indexCast v0
  let c32_328 : Index := 32#32
  let c3840_329 : Index := 3840#32
  ![v698.toNat, 32, 3840]
def k0_off25 (i : grid0.Coords) : Fin 3 → Nat :=
  let arg0 : BitVec 32 := BitVec.ofNat 32 (i 0).val
  let c2_i32 : BitVec 32 := 2#32
  let v0 : BitVec 32 := Scalar.remsi arg0 c2_i32
  let v723 : Index := Scalar.indexCast v0
  let c32_339 : Index := 32#32
  let c4608_340 : Index := 4608#32
  ![v723.toNat, 32, 4608]
def k0_off26 (i : grid0.Coords) : Fin 3 → Nat :=
  let arg0 : BitVec 32 := BitVec.ofNat 32 (i 0).val
  let c2_i32 : BitVec 32 := 2#32
  let v0 : BitVec 32 := Scalar.remsi arg0 c2_i32
  let v748 : Index := Scalar.indexCast v0
  let c32_350 : Index := 32#32
  let c5376_351 : Index := 5376#32
  ![v748.toNat, 32, 5376]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v773 : Index := Scalar.indexCast v0
  let c32_361 : Index := 32#32
  let c6144_362 : Index := 6144#32
  ![v773.toNat, 32, 6144]
def k0_off28 (i : grid0.Coords) : Fin 3 → Nat :=
  let arg0 : BitVec 32 := BitVec.ofNat 32 (i 0).val
  let c2_i32 : BitVec 32 := 2#32
  let v0 : BitVec 32 := Scalar.remsi arg0 c2_i32
  let v778 : Index := Scalar.indexCast v0
  let c32_365 : Index := 32#32
  let c0_366 : Index := 0#32
  ![v778.toNat, 32, 0]
def k0_off29 (i : grid0.Coords) : Fin 3 → Nat :=
  let arg0 : BitVec 32 := BitVec.ofNat 32 (i 0).val
  let c2_i32 : BitVec 32 := 2#32
  let v0 : BitVec 32 := Scalar.remsi arg0 c2_i32
  let v958 : Index := Scalar.indexCast v0
  let c64_453 : Index := 64#32
  let c0_454 : Index := 0#32
  ![v958.toNat, 64, 0]
def k0_off30 (i : grid0.Coords) : Fin 3 → Nat :=
  let arg0 : BitVec 32 := BitVec.ofNat 32 (i 0).val
  let c2_i32 : BitVec 32 := 2#32
  let v0 : BitVec 32 := Scalar.remsi arg0 c2_i32
  let v983 : Index := Scalar.indexCast v0
  let c64_464 : Index := 64#32
  let c768_465 : Index := 768#32
  ![v983.toNat, 64, 768]
def k0_off31 (i : grid0.Coords) : Fin 3 → Nat :=
  let arg0 : BitVec 32 := BitVec.ofNat 32 (i 0).val
  let c2_i32 : BitVec 32 := 2#32
  let v0 : BitVec 32 := Scalar.remsi arg0 c2_i32
  let v1008 : Index := Scalar.indexCast v0
  let c64_475 : Index := 64#32
  let c1536_476 : Index := 1536#32
  ![v1008.toNat, 64, 1536]
def k0_off32 (i : grid0.Coords) : Fin 3 → Nat :=
  let arg0 : BitVec 32 := BitVec.ofNat 32 (i 0).val
  let c2_i32 : BitVec 32 := 2#32
  let v0 : BitVec 32 := Scalar.remsi arg0 c2_i32
  let v1033 : Index := Scalar.indexCast v0
  let c64_486 : Index := 64#32
  let c2304_487 : Index := 2304#32
  ![v1033.toNat, 64, 2304]
def k0_off33 (i : grid0.Coords) : Fin 3 → Nat :=
  let arg0 : BitVec 32 := BitVec.ofNat 32 (i 0).val
  let c2_i32 : BitVec 32 := 2#32
  let v0 : BitVec 32 := Scalar.remsi arg0 c2_i32
  let v1058 : Index := Scalar.indexCast v0
  let c64_497 : Index := 64#32
  let c3072_498 : Index := 3072#32
  ![v1058.toNat, 64, 3072]
def k0_off34 (i : grid0.Coords) : Fin 3 → Nat :=
  let arg0 : BitVec 32 := BitVec.ofNat 32 (i 0).val
  let c2_i32 : BitVec 32 := 2#32
  let v0 : BitVec 32 := Scalar.remsi arg0 c2_i32
  let v1083 : Index := Scalar.indexCast v0
  let c64_508 : Index := 64#32
  let c3840_509 : Index := 3840#32
  ![v1083.toNat, 64, 3840]
def k0_off35 (i : grid0.Coords) : Fin 3 → Nat :=
  let arg0 : BitVec 32 := BitVec.ofNat 32 (i 0).val
  let c2_i32 : BitVec 32 := 2#32
  let v0 : BitVec 32 := Scalar.remsi arg0 c2_i32
  let v1108 : Index := Scalar.indexCast v0
  let c64_519 : Index := 64#32
  let c4608_520 : Index := 4608#32
  ![v1108.toNat, 64, 4608]
def k0_off36 (i : grid0.Coords) : Fin 3 → Nat :=
  let arg0 : BitVec 32 := BitVec.ofNat 32 (i 0).val
  let c2_i32 : BitVec 32 := 2#32
  let v0 : BitVec 32 := Scalar.remsi arg0 c2_i32
  let v1133 : Index := Scalar.indexCast v0
  let c64_530 : Index := 64#32
  let c5376_531 : Index := 5376#32
  ![v1133.toNat, 64, 5376]
def k0_off37 (i : grid0.Coords) : Fin 3 → Nat :=
  let arg0 : BitVec 32 := BitVec.ofNat 32 (i 0).val
  let c2_i32 : BitVec 32 := 2#32
  let v0 : BitVec 32 := Scalar.remsi arg0 c2_i32
  let v1158 : Index := Scalar.indexCast v0
  let c64_541 : Index := 64#32
  let c6144_542 : Index := 6144#32
  ![v1158.toNat, 64, 6144]
def k0_off38 (i : grid0.Coords) : Fin 3 → Nat :=
  let arg0 : BitVec 32 := BitVec.ofNat 32 (i 0).val
  let c2_i32 : BitVec 32 := 2#32
  let v0 : BitVec 32 := Scalar.remsi arg0 c2_i32
  let v1163 : Index := Scalar.indexCast v0
  let c64_545 : Index := 64#32
  let c0_546 : Index := 0#32
  ![v1163.toNat, 64, 0]
def k0_off39 (i : grid0.Coords) : Fin 3 → Nat :=
  let arg0 : BitVec 32 := BitVec.ofNat 32 (i 0).val
  let c2_i32 : BitVec 32 := 2#32
  let v0 : BitVec 32 := Scalar.remsi arg0 c2_i32
  let v1343 : Index := Scalar.indexCast v0
  let c96_633 : Index := 96#32
  let c0_634 : Index := 0#32
  ![v1343.toNat, 96, 0]
def k0_off40 (i : grid0.Coords) : Fin 3 → Nat :=
  let arg0 : BitVec 32 := BitVec.ofNat 32 (i 0).val
  let c2_i32 : BitVec 32 := 2#32
  let v0 : BitVec 32 := Scalar.remsi arg0 c2_i32
  let v1368 : Index := Scalar.indexCast v0
  let c96_644 : Index := 96#32
  let c768_645 : Index := 768#32
  ![v1368.toNat, 96, 768]
def k0_off41 (i : grid0.Coords) : Fin 3 → Nat :=
  let arg0 : BitVec 32 := BitVec.ofNat 32 (i 0).val
  let c2_i32 : BitVec 32 := 2#32
  let v0 : BitVec 32 := Scalar.remsi arg0 c2_i32
  let v1393 : Index := Scalar.indexCast v0
  let c96_655 : Index := 96#32
  let c1536_656 : Index := 1536#32
  ![v1393.toNat, 96, 1536]
def k0_off42 (i : grid0.Coords) : Fin 3 → Nat :=
  let arg0 : BitVec 32 := BitVec.ofNat 32 (i 0).val
  let c2_i32 : BitVec 32 := 2#32
  let v0 : BitVec 32 := Scalar.remsi arg0 c2_i32
  let v1418 : Index := Scalar.indexCast v0
  let c96_666 : Index := 96#32
  let c2304_667 : Index := 2304#32
  ![v1418.toNat, 96, 2304]
def k0_off43 (i : grid0.Coords) : Fin 3 → Nat :=
  let arg0 : BitVec 32 := BitVec.ofNat 32 (i 0).val
  let c2_i32 : BitVec 32 := 2#32
  let v0 : BitVec 32 := Scalar.remsi arg0 c2_i32
  let v1443 : Index := Scalar.indexCast v0
  let c96_677 : Index := 96#32
  let c3072_678 : Index := 3072#32
  ![v1443.toNat, 96, 3072]
def k0_off44 (i : grid0.Coords) : Fin 3 → Nat :=
  let arg0 : BitVec 32 := BitVec.ofNat 32 (i 0).val
  let c2_i32 : BitVec 32 := 2#32
  let v0 : BitVec 32 := Scalar.remsi arg0 c2_i32
  let v1468 : Index := Scalar.indexCast v0
  let c96_688 : Index := 96#32
  let c3840_689 : Index := 3840#32
  ![v1468.toNat, 96, 3840]
def k0_off45 (i : grid0.Coords) : Fin 3 → Nat :=
  let arg0 : BitVec 32 := BitVec.ofNat 32 (i 0).val
  let c2_i32 : BitVec 32 := 2#32
  let v0 : BitVec 32 := Scalar.remsi arg0 c2_i32
  let v1493 : Index := Scalar.indexCast v0
  let c96_699 : Index := 96#32
  let c4608_700 : Index := 4608#32
  ![v1493.toNat, 96, 4608]
def k0_off46 (i : grid0.Coords) : Fin 3 → Nat :=
  let arg0 : BitVec 32 := BitVec.ofNat 32 (i 0).val
  let c2_i32 : BitVec 32 := 2#32
  let v0 : BitVec 32 := Scalar.remsi arg0 c2_i32
  let v1518 : Index := Scalar.indexCast v0
  let c96_710 : Index := 96#32
  let c5376_711 : Index := 5376#32
  ![v1518.toNat, 96, 5376]
def k0_off47 (i : grid0.Coords) : Fin 3 → Nat :=
  let arg0 : BitVec 32 := BitVec.ofNat 32 (i 0).val
  let c2_i32 : BitVec 32 := 2#32
  let v0 : BitVec 32 := Scalar.remsi arg0 c2_i32
  let v1543 : Index := Scalar.indexCast v0
  let c96_721 : Index := 96#32
  let c6144_722 : Index := 6144#32
  ![v1543.toNat, 96, 6144]
def k0_off48 (i : grid0.Coords) : Fin 3 → Nat :=
  let arg0 : BitVec 32 := BitVec.ofNat 32 (i 0).val
  let c2_i32 : BitVec 32 := 2#32
  let v0 : BitVec 32 := Scalar.remsi arg0 c2_i32
  let v1548 : Index := Scalar.indexCast v0
  let c96_725 : Index := 96#32
  let c0_726 : Index := 0#32
  ![v1548.toNat, 96, 0]
def k0_off49 (i : grid0.Coords) : Fin 3 → Nat :=
  let arg0 : BitVec 32 := BitVec.ofNat 32 (i 0).val
  let c2_i32 : BitVec 32 := 2#32
  let v0 : BitVec 32 := Scalar.remsi arg0 c2_i32
  let v1728 : Index := Scalar.indexCast v0
  let c128_813 : Index := 128#32
  let c0_814 : Index := 0#32
  ![v1728.toNat, 128, 0]
def k0_off50 (i : grid0.Coords) : Fin 3 → Nat :=
  let arg0 : BitVec 32 := BitVec.ofNat 32 (i 0).val
  let c2_i32 : BitVec 32 := 2#32
  let v0 : BitVec 32 := Scalar.remsi arg0 c2_i32
  let v1753 : Index := Scalar.indexCast v0
  let c128_824 : Index := 128#32
  let c768_825 : Index := 768#32
  ![v1753.toNat, 128, 768]
def k0_off51 (i : grid0.Coords) : Fin 3 → Nat :=
  let arg0 : BitVec 32 := BitVec.ofNat 32 (i 0).val
  let c2_i32 : BitVec 32 := 2#32
  let v0 : BitVec 32 := Scalar.remsi arg0 c2_i32
  let v1778 : Index := Scalar.indexCast v0
  let c128_835 : Index := 128#32
  let c1536_836 : Index := 1536#32
  ![v1778.toNat, 128, 1536]
def k0_off52 (i : grid0.Coords) : Fin 3 → Nat :=
  let arg0 : BitVec 32 := BitVec.ofNat 32 (i 0).val
  let c2_i32 : BitVec 32 := 2#32
  let v0 : BitVec 32 := Scalar.remsi arg0 c2_i32
  let v1803 : Index := Scalar.indexCast v0
  let c128_846 : Index := 128#32
  let c2304_847 : Index := 2304#32
  ![v1803.toNat, 128, 2304]
def k0_off53 (i : grid0.Coords) : Fin 3 → Nat :=
  let arg0 : BitVec 32 := BitVec.ofNat 32 (i 0).val
  let c2_i32 : BitVec 32 := 2#32
  let v0 : BitVec 32 := Scalar.remsi arg0 c2_i32
  let v1828 : Index := Scalar.indexCast v0
  let c128_857 : Index := 128#32
  let c3072_858 : Index := 3072#32
  ![v1828.toNat, 128, 3072]
def k0_off54 (i : grid0.Coords) : Fin 3 → Nat :=
  let arg0 : BitVec 32 := BitVec.ofNat 32 (i 0).val
  let c2_i32 : BitVec 32 := 2#32
  let v0 : BitVec 32 := Scalar.remsi arg0 c2_i32
  let v1853 : Index := Scalar.indexCast v0
  let c128_868 : Index := 128#32
  let c3840_869 : Index := 3840#32
  ![v1853.toNat, 128, 3840]
def k0_off55 (i : grid0.Coords) : Fin 3 → Nat :=
  let arg0 : BitVec 32 := BitVec.ofNat 32 (i 0).val
  let c2_i32 : BitVec 32 := 2#32
  let v0 : BitVec 32 := Scalar.remsi arg0 c2_i32
  let v1878 : Index := Scalar.indexCast v0
  let c128_879 : Index := 128#32
  let c4608_880 : Index := 4608#32
  ![v1878.toNat, 128, 4608]
def k0_off56 (i : grid0.Coords) : Fin 3 → Nat :=
  let arg0 : BitVec 32 := BitVec.ofNat 32 (i 0).val
  let c2_i32 : BitVec 32 := 2#32
  let v0 : BitVec 32 := Scalar.remsi arg0 c2_i32
  let v1903 : Index := Scalar.indexCast v0
  let c128_890 : Index := 128#32
  let c5376_891 : Index := 5376#32
  ![v1903.toNat, 128, 5376]
def k0_off57 (i : grid0.Coords) : Fin 3 → Nat :=
  let arg0 : BitVec 32 := BitVec.ofNat 32 (i 0).val
  let c2_i32 : BitVec 32 := 2#32
  let v0 : BitVec 32 := Scalar.remsi arg0 c2_i32
  let v1928 : Index := Scalar.indexCast v0
  let c128_901 : Index := 128#32
  let c6144_902 : Index := 6144#32
  ![v1928.toNat, 128, 6144]
def k0_off58 (i : grid0.Coords) : Fin 3 → Nat :=
  let arg0 : BitVec 32 := BitVec.ofNat 32 (i 0).val
  let c2_i32 : BitVec 32 := 2#32
  let v0 : BitVec 32 := Scalar.remsi arg0 c2_i32
  let v1933 : Index := Scalar.indexCast v0
  let c128_905 : Index := 128#32
  let c0_906 : Index := 0#32
  ![v1933.toNat, 128, 0]
def k0_off59 (i : grid0.Coords) : Fin 3 → Nat :=
  let arg0 : BitVec 32 := BitVec.ofNat 32 (i 0).val
  let c2_i32 : BitVec 32 := 2#32
  let v0 : BitVec 32 := Scalar.remsi arg0 c2_i32
  let v2113 : Index := Scalar.indexCast v0
  let c160_993 : Index := 160#32
  let c0_994 : Index := 0#32
  ![v2113.toNat, 160, 0]
def k0_off60 (i : grid0.Coords) : Fin 3 → Nat :=
  let arg0 : BitVec 32 := BitVec.ofNat 32 (i 0).val
  let c2_i32 : BitVec 32 := 2#32
  let v0 : BitVec 32 := Scalar.remsi arg0 c2_i32
  let v2138 : Index := Scalar.indexCast v0
  let c160_1004 : Index := 160#32
  let c768_1005 : Index := 768#32
  ![v2138.toNat, 160, 768]
def k0_off61 (i : grid0.Coords) : Fin 3 → Nat :=
  let arg0 : BitVec 32 := BitVec.ofNat 32 (i 0).val
  let c2_i32 : BitVec 32 := 2#32
  let v0 : BitVec 32 := Scalar.remsi arg0 c2_i32
  let v2163 : Index := Scalar.indexCast v0
  let c160_1015 : Index := 160#32
  let c1536_1016 : Index := 1536#32
  ![v2163.toNat, 160, 1536]
def k0_off62 (i : grid0.Coords) : Fin 3 → Nat :=
  let arg0 : BitVec 32 := BitVec.ofNat 32 (i 0).val
  let c2_i32 : BitVec 32 := 2#32
  let v0 : BitVec 32 := Scalar.remsi arg0 c2_i32
  let v2188 : Index := Scalar.indexCast v0
  let c160_1026 : Index := 160#32
  let c2304_1027 : Index := 2304#32
  ![v2188.toNat, 160, 2304]
def k0_off63 (i : grid0.Coords) : Fin 3 → Nat :=
  let arg0 : BitVec 32 := BitVec.ofNat 32 (i 0).val
  let c2_i32 : BitVec 32 := 2#32
  let v0 : BitVec 32 := Scalar.remsi arg0 c2_i32
  let v2213 : Index := Scalar.indexCast v0
  let c160_1037 : Index := 160#32
  let c3072_1038 : Index := 3072#32
  ![v2213.toNat, 160, 3072]
def k0_off64 (i : grid0.Coords) : Fin 3 → Nat :=
  let arg0 : BitVec 32 := BitVec.ofNat 32 (i 0).val
  let c2_i32 : BitVec 32 := 2#32
  let v0 : BitVec 32 := Scalar.remsi arg0 c2_i32
  let v2238 : Index := Scalar.indexCast v0
  let c160_1048 : Index := 160#32
  let c3840_1049 : Index := 3840#32
  ![v2238.toNat, 160, 3840]
def k0_off65 (i : grid0.Coords) : Fin 3 → Nat :=
  let arg0 : BitVec 32 := BitVec.ofNat 32 (i 0).val
  let c2_i32 : BitVec 32 := 2#32
  let v0 : BitVec 32 := Scalar.remsi arg0 c2_i32
  let v2263 : Index := Scalar.indexCast v0
  let c160_1059 : Index := 160#32
  let c4608_1060 : Index := 4608#32
  ![v2263.toNat, 160, 4608]
def k0_off66 (i : grid0.Coords) : Fin 3 → Nat :=
  let arg0 : BitVec 32 := BitVec.ofNat 32 (i 0).val
  let c2_i32 : BitVec 32 := 2#32
  let v0 : BitVec 32 := Scalar.remsi arg0 c2_i32
  let v2288 : Index := Scalar.indexCast v0
  let c160_1070 : Index := 160#32
  let c5376_1071 : Index := 5376#32
  ![v2288.toNat, 160, 5376]
def k0_off67 (i : grid0.Coords) : Fin 3 → Nat :=
  let arg0 : BitVec 32 := BitVec.ofNat 32 (i 0).val
  let c2_i32 : BitVec 32 := 2#32
  let v0 : BitVec 32 := Scalar.remsi arg0 c2_i32
  let v2313 : Index := Scalar.indexCast v0
  let c160_1081 : Index := 160#32
  let c6144_1082 : Index := 6144#32
  ![v2313.toNat, 160, 6144]
def k0_off68 (i : grid0.Coords) : Fin 3 → Nat :=
  let arg0 : BitVec 32 := BitVec.ofNat 32 (i 0).val
  let c2_i32 : BitVec 32 := 2#32
  let v0 : BitVec 32 := Scalar.remsi arg0 c2_i32
  let v2318 : Index := Scalar.indexCast v0
  let c160_1085 : Index := 160#32
  let c0_1086 : Index := 0#32
  ![v2318.toNat, 160, 0]
def k0_off69 (i : grid0.Coords) : Fin 3 → Nat :=
  let arg0 : BitVec 32 := BitVec.ofNat 32 (i 0).val
  let c2_i32 : BitVec 32 := 2#32
  let v0 : BitVec 32 := Scalar.remsi arg0 c2_i32
  let v2498 : Index := Scalar.indexCast v0
  let c192_1173 : Index := 192#32
  let c0_1174 : Index := 0#32
  ![v2498.toNat, 192, 0]
def k0_off70 (i : grid0.Coords) : Fin 3 → Nat :=
  let arg0 : BitVec 32 := BitVec.ofNat 32 (i 0).val
  let c2_i32 : BitVec 32 := 2#32
  let v0 : BitVec 32 := Scalar.remsi arg0 c2_i32
  let v2523 : Index := Scalar.indexCast v0
  let c192_1184 : Index := 192#32
  let c768_1185 : Index := 768#32
  ![v2523.toNat, 192, 768]
def k0_off71 (i : grid0.Coords) : Fin 3 → Nat :=
  let arg0 : BitVec 32 := BitVec.ofNat 32 (i 0).val
  let c2_i32 : BitVec 32 := 2#32
  let v0 : BitVec 32 := Scalar.remsi arg0 c2_i32
  let v2548 : Index := Scalar.indexCast v0
  let c192_1195 : Index := 192#32
  let c1536_1196 : Index := 1536#32
  ![v2548.toNat, 192, 1536]
def k0_off72 (i : grid0.Coords) : Fin 3 → Nat :=
  let arg0 : BitVec 32 := BitVec.ofNat 32 (i 0).val
  let c2_i32 : BitVec 32 := 2#32
  let v0 : BitVec 32 := Scalar.remsi arg0 c2_i32
  let v2573 : Index := Scalar.indexCast v0
  let c192_1206 : Index := 192#32
  let c2304_1207 : Index := 2304#32
  ![v2573.toNat, 192, 2304]
def k0_off73 (i : grid0.Coords) : Fin 3 → Nat :=
  let arg0 : BitVec 32 := BitVec.ofNat 32 (i 0).val
  let c2_i32 : BitVec 32 := 2#32
  let v0 : BitVec 32 := Scalar.remsi arg0 c2_i32
  let v2598 : Index := Scalar.indexCast v0
  let c192_1217 : Index := 192#32
  let c3072_1218 : Index := 3072#32
  ![v2598.toNat, 192, 3072]
def k0_off74 (i : grid0.Coords) : Fin 3 → Nat :=
  let arg0 : BitVec 32 := BitVec.ofNat 32 (i 0).val
  let c2_i32 : BitVec 32 := 2#32
  let v0 : BitVec 32 := Scalar.remsi arg0 c2_i32
  let v2623 : Index := Scalar.indexCast v0
  let c192_1228 : Index := 192#32
  let c3840_1229 : Index := 3840#32
  ![v2623.toNat, 192, 3840]
def k0_off75 (i : grid0.Coords) : Fin 3 → Nat :=
  let arg0 : BitVec 32 := BitVec.ofNat 32 (i 0).val
  let c2_i32 : BitVec 32 := 2#32
  let v0 : BitVec 32 := Scalar.remsi arg0 c2_i32
  let v2648 : Index := Scalar.indexCast v0
  let c192_1239 : Index := 192#32
  let c4608_1240 : Index := 4608#32
  ![v2648.toNat, 192, 4608]
def k0_off76 (i : grid0.Coords) : Fin 3 → Nat :=
  let arg0 : BitVec 32 := BitVec.ofNat 32 (i 0).val
  let c2_i32 : BitVec 32 := 2#32
  let v0 : BitVec 32 := Scalar.remsi arg0 c2_i32
  let v2673 : Index := Scalar.indexCast v0
  let c192_1250 : Index := 192#32
  let c5376_1251 : Index := 5376#32
  ![v2673.toNat, 192, 5376]
def k0_off77 (i : grid0.Coords) : Fin 3 → Nat :=
  let arg0 : BitVec 32 := BitVec.ofNat 32 (i 0).val
  let c2_i32 : BitVec 32 := 2#32
  let v0 : BitVec 32 := Scalar.remsi arg0 c2_i32
  let v2698 : Index := Scalar.indexCast v0
  let c192_1261 : Index := 192#32
  let c6144_1262 : Index := 6144#32
  ![v2698.toNat, 192, 6144]
def k0_off78 (i : grid0.Coords) : Fin 3 → Nat :=
  let arg0 : BitVec 32 := BitVec.ofNat 32 (i 0).val
  let c2_i32 : BitVec 32 := 2#32
  let v0 : BitVec 32 := Scalar.remsi arg0 c2_i32
  let v2703 : Index := Scalar.indexCast v0
  let c192_1265 : Index := 192#32
  let c0_1266 : Index := 0#32
  ![v2703.toNat, 192, 0]
def k0_off79 (i : grid0.Coords) : Fin 3 → Nat :=
  let arg0 : BitVec 32 := BitVec.ofNat 32 (i 0).val
  let c2_i32 : BitVec 32 := 2#32
  let v0 : BitVec 32 := Scalar.remsi arg0 c2_i32
  let v2883 : Index := Scalar.indexCast v0
  let c224_1353 : Index := 224#32
  let c0_1354 : Index := 0#32
  ![v2883.toNat, 224, 0]
def k0_off80 (i : grid0.Coords) : Fin 3 → Nat :=
  let arg0 : BitVec 32 := BitVec.ofNat 32 (i 0).val
  let c2_i32 : BitVec 32 := 2#32
  let v0 : BitVec 32 := Scalar.remsi arg0 c2_i32
  let v2908 : Index := Scalar.indexCast v0
  let c224_1364 : Index := 224#32
  let c768_1365 : Index := 768#32
  ![v2908.toNat, 224, 768]
def k0_off81 (i : grid0.Coords) : Fin 3 → Nat :=
  let arg0 : BitVec 32 := BitVec.ofNat 32 (i 0).val
  let c2_i32 : BitVec 32 := 2#32
  let v0 : BitVec 32 := Scalar.remsi arg0 c2_i32
  let v2933 : Index := Scalar.indexCast v0
  let c224_1375 : Index := 224#32
  let c1536_1376 : Index := 1536#32
  ![v2933.toNat, 224, 1536]
def k0_off82 (i : grid0.Coords) : Fin 3 → Nat :=
  let arg0 : BitVec 32 := BitVec.ofNat 32 (i 0).val
  let c2_i32 : BitVec 32 := 2#32
  let v0 : BitVec 32 := Scalar.remsi arg0 c2_i32
  let v2958 : Index := Scalar.indexCast v0
  let c224_1386 : Index := 224#32
  let c2304_1387 : Index := 2304#32
  ![v2958.toNat, 224, 2304]
def k0_off83 (i : grid0.Coords) : Fin 3 → Nat :=
  let arg0 : BitVec 32 := BitVec.ofNat 32 (i 0).val
  let c2_i32 : BitVec 32 := 2#32
  let v0 : BitVec 32 := Scalar.remsi arg0 c2_i32
  let v2983 : Index := Scalar.indexCast v0
  let c224_1397 : Index := 224#32
  let c3072_1398 : Index := 3072#32
  ![v2983.toNat, 224, 3072]
def k0_off84 (i : grid0.Coords) : Fin 3 → Nat :=
  let arg0 : BitVec 32 := BitVec.ofNat 32 (i 0).val
  let c2_i32 : BitVec 32 := 2#32
  let v0 : BitVec 32 := Scalar.remsi arg0 c2_i32
  let v3008 : Index := Scalar.indexCast v0
  let c224_1408 : Index := 224#32
  let c3840_1409 : Index := 3840#32
  ![v3008.toNat, 224, 3840]
def k0_off85 (i : grid0.Coords) : Fin 3 → Nat :=
  let arg0 : BitVec 32 := BitVec.ofNat 32 (i 0).val
  let c2_i32 : BitVec 32 := 2#32
  let v0 : BitVec 32 := Scalar.remsi arg0 c2_i32
  let v3033 : Index := Scalar.indexCast v0
  let c224_1419 : Index := 224#32
  let c4608_1420 : Index := 4608#32
  ![v3033.toNat, 224, 4608]
def k0_off86 (i : grid0.Coords) : Fin 3 → Nat :=
  let arg0 : BitVec 32 := BitVec.ofNat 32 (i 0).val
  let c2_i32 : BitVec 32 := 2#32
  let v0 : BitVec 32 := Scalar.remsi arg0 c2_i32
  let v3058 : Index := Scalar.indexCast v0
  let c224_1430 : Index := 224#32
  let c5376_1431 : Index := 5376#32
  ![v3058.toNat, 224, 5376]
def k0_off87 (i : grid0.Coords) : Fin 3 → Nat :=
  let arg0 : BitVec 32 := BitVec.ofNat 32 (i 0).val
  let c2_i32 : BitVec 32 := 2#32
  let v0 : BitVec 32 := Scalar.remsi arg0 c2_i32
  let v3083 : Index := Scalar.indexCast v0
  let c224_1441 : Index := 224#32
  let c6144_1442 : Index := 6144#32
  ![v3083.toNat, 224, 6144]
def k0_off88 (i : grid0.Coords) : Fin 3 → Nat :=
  let arg0 : BitVec 32 := BitVec.ofNat 32 (i 0).val
  let c2_i32 : BitVec 32 := 2#32
  let v0 : BitVec 32 := Scalar.remsi arg0 c2_i32
  let v3088 : Index := Scalar.indexCast v0
  let c224_1445 : Index := 224#32
  let c0_1446 : Index := 0#32
  ![v3088.toNat, 224, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .ne v6 c0_i32_2
  v7

def k0_off89 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v8 : Index := Scalar.indexCast v1
  let c0 : Index := 0#32
  let c0_3 : Index := 0#32
  ![v8.toNat, 0, 0]
def k0_off90 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v11 : Index := Scalar.indexCast v1
  let c0_4 : Index := 0#32
  let c0_5 : Index := 0#32
  ![v11.toNat, 0, 0]
def k0_off91 (i : grid0.Coords) : Fin 3 → Nat :=
  let arg0 : BitVec 32 := BitVec.ofNat 32 (i 0).val
  let c2_i32 : BitVec 32 := 2#32
  let v0 : BitVec 32 := Scalar.remsi arg0 c2_i32
  let v202 : Index := Scalar.indexCast v0
  let c0_90 : Index := 0#32
  let c0_91 : Index := 0#32
  ![v202.toNat, 0, 0]
def k0_off92 (i : grid0.Coords) : Fin 3 → Nat :=
  let arg0 : BitVec 32 := BitVec.ofNat 32 (i 0).val
  let c2_i32 : BitVec 32 := 2#32
  let v0 : BitVec 32 := Scalar.remsi arg0 c2_i32
  let v227 : Index := Scalar.indexCast v0
  let c0_101 : Index := 0#32
  let c768_102 : Index := 768#32
  ![v227.toNat, 0, 768]
def k0_off93 (i : grid0.Coords) : Fin 3 → Nat :=
  let arg0 : BitVec 32 := BitVec.ofNat 32 (i 0).val
  let c2_i32 : BitVec 32 := 2#32
  let v0 : BitVec 32 := Scalar.remsi arg0 c2_i32
  let v252 : Index := Scalar.indexCast v0
  let c0_112 : Index := 0#32
  let c1536_113 : Index := 1536#32
  ![v252.toNat, 0, 1536]
def k0_off94 (i : grid0.Coords) : Fin 3 → Nat :=
  let arg0 : BitVec 32 := BitVec.ofNat 32 (i 0).val
  let c2_i32 : BitVec 32 := 2#32
  let v0 : BitVec 32 := Scalar.remsi arg0 c2_i32
  let v277 : Index := Scalar.indexCast v0
  let c0_123 : Index := 0#32
  let c2304_124 : Index := 2304#32
  ![v277.toNat, 0, 2304]
def k0_off95 (i : grid0.Coords) : Fin 3 → Nat :=
  let arg0 : BitVec 32 := BitVec.ofNat 32 (i 0).val
  let c2_i32 : BitVec 32 := 2#32
  let v0 : BitVec 32 := Scalar.remsi arg0 c2_i32
  let v302 : Index := Scalar.indexCast v0
  let c0_134 : Index := 0#32
  let c3072_135 : Index := 3072#32
  ![v302.toNat, 0, 3072]
def k0_off96 (i : grid0.Coords) : Fin 3 → Nat :=
  let arg0 : BitVec 32 := BitVec.ofNat 32 (i 0).val
  let c2_i32 : BitVec 32 := 2#32
  let v0 : BitVec 32 := Scalar.remsi arg0 c2_i32
  let v327 : Index := Scalar.indexCast v0
  let c0_145 : Index := 0#32
  let c3840_146 : Index := 3840#32
  ![v327.toNat, 0, 3840]
def k0_off97 (i : grid0.Coords) : Fin 3 → Nat :=
  let arg0 : BitVec 32 := BitVec.ofNat 32 (i 0).val
  let c2_i32 : BitVec 32 := 2#32
  let v0 : BitVec 32 := Scalar.remsi arg0 c2_i32
  let v352 : Index := Scalar.indexCast v0
  let c0_156 : Index := 0#32
  let c4608_157 : Index := 4608#32
  ![v352.toNat, 0, 4608]
def k0_off98 (i : grid0.Coords) : Fin 3 → Nat :=
  let arg0 : BitVec 32 := BitVec.ofNat 32 (i 0).val
  let c2_i32 : BitVec 32 := 2#32
  let v0 : BitVec 32 := Scalar.remsi arg0 c2_i32
  let v377 : Index := Scalar.indexCast v0
  let c0_167 : Index := 0#32
  let c5376_168 : Index := 5376#32
  ![v377.toNat, 0, 5376]
def k0_off99 (i : grid0.Coords) : Fin 3 → Nat :=
  let arg0 : BitVec 32 := BitVec.ofNat 32 (i 0).val
  let c2_i32 : BitVec 32 := 2#32
  let v0 : BitVec 32 := Scalar.remsi arg0 c2_i32
  let v402 : Index := Scalar.indexCast v0
  let c0_178 : Index := 0#32
  let c6144_179 : Index := 6144#32
  ![v402.toNat, 0, 6144]
def k0_off100 (i : grid0.Coords) : Fin 3 → Nat :=
  let arg0 : BitVec 32 := BitVec.ofNat 32 (i 0).val
  let c2_i32 : BitVec 32 := 2#32
  let v0 : BitVec 32 := Scalar.remsi arg0 c2_i32
  let v407 : Index := Scalar.indexCast v0
  let c0_182 : Index := 0#32
  let c0_183 : Index := 0#32
  ![v407.toNat, 0, 0]
def k0_off101 (i : grid0.Coords) : Fin 3 → Nat :=
  let arg0 : BitVec 32 := BitVec.ofNat 32 (i 0).val
  let c2_i32 : BitVec 32 := 2#32
  let v0 : BitVec 32 := Scalar.remsi arg0 c2_i32
  let v602 : Index := Scalar.indexCast v0
  let c32_279 : Index := 32#32
  let c0_280 : Index := 0#32
  ![v602.toNat, 32, 0]
def k0_off102 (i : grid0.Coords) : Fin 3 → Nat :=
  let arg0 : BitVec 32 := BitVec.ofNat 32 (i 0).val
  let c2_i32 : BitVec 32 := 2#32
  let v0 : BitVec 32 := Scalar.remsi arg0 c2_i32
  let v627 : Index := Scalar.indexCast v0
  let c32_290 : Index := 32#32
  let c768_291 : Index := 768#32
  ![v627.toNat, 32, 768]
def k0_off103 (i : grid0.Coords) : Fin 3 → Nat :=
  let arg0 : BitVec 32 := BitVec.ofNat 32 (i 0).val
  let c2_i32 : BitVec 32 := 2#32
  let v0 : BitVec 32 := Scalar.remsi arg0 c2_i32
  let v652 : Index := Scalar.indexCast v0
  let c32_301 : Index := 32#32
  let c1536_302 : Index := 1536#32
  ![v652.toNat, 32, 1536]
def k0_off104 (i : grid0.Coords) : Fin 3 → Nat :=
  let arg0 : BitVec 32 := BitVec.ofNat 32 (i 0).val
  let c2_i32 : BitVec 32 := 2#32
  let v0 : BitVec 32 := Scalar.remsi arg0 c2_i32
  let v677 : Index := Scalar.indexCast v0
  let c32_312 : Index := 32#32
  let c2304_313 : Index := 2304#32
  ![v677.toNat, 32, 2304]
def k0_off105 (i : grid0.Coords) : Fin 3 → Nat :=
  let arg0 : BitVec 32 := BitVec.ofNat 32 (i 0).val
  let c2_i32 : BitVec 32 := 2#32
  let v0 : BitVec 32 := Scalar.remsi arg0 c2_i32
  let v702 : Index := Scalar.indexCast v0
  let c32_323 : Index := 32#32
  let c3072_324 : Index := 3072#32
  ![v702.toNat, 32, 3072]
def k0_off106 (i : grid0.Coords) : Fin 3 → Nat :=
  let arg0 : BitVec 32 := BitVec.ofNat 32 (i 0).val
  let c2_i32 : BitVec 32 := 2#32
  let v0 : BitVec 32 := Scalar.remsi arg0 c2_i32
  let v727 : Index := Scalar.indexCast v0
  let c32_334 : Index := 32#32
  let c3840_335 : Index := 3840#32
  ![v727.toNat, 32, 3840]
def k0_off107 (i : grid0.Coords) : Fin 3 → Nat :=
  let arg0 : BitVec 32 := BitVec.ofNat 32 (i 0).val
  let c2_i32 : BitVec 32 := 2#32
  let v0 : BitVec 32 := Scalar.remsi arg0 c2_i32
  let v752 : Index := Scalar.indexCast v0
  let c32_345 : Index := 32#32
  let c4608_346 : Index := 4608#32
  ![v752.toNat, 32, 4608]
def k0_off108 (i : grid0.Coords) : Fin 3 → Nat :=
  let arg0 : BitVec 32 := BitVec.ofNat 32 (i 0).val
  let c2_i32 : BitVec 32 := 2#32
  let v0 : BitVec 32 := Scalar.remsi arg0 c2_i32
  let v777 : Index := Scalar.indexCast v0
  let c32_356 : Index := 32#32
  let c5376_357 : Index := 5376#32
  ![v777.toNat, 32, 5376]
def k0_off109 (i : grid0.Coords) : Fin 3 → Nat :=
  let arg0 : BitVec 32 := BitVec.ofNat 32 (i 0).val
  let c2_i32 : BitVec 32 := 2#32
  let v0 : BitVec 32 := Scalar.remsi arg0 c2_i32
  let v802 : Index := Scalar.indexCast v0
  let c32_367 : Index := 32#32
  let c6144_368 : Index := 6144#32
  ![v802.toNat, 32, 6144]
def k0_off110 (i : grid0.Coords) : Fin 3 → Nat :=
  let arg0 : BitVec 32 := BitVec.ofNat 32 (i 0).val
  let c2_i32 : BitVec 32 := 2#32
  let v0 : BitVec 32 := Scalar.remsi arg0 c2_i32
  let v807 : Index := Scalar.indexCast v0
  let c32_371 : Index := 32#32
  let c0_372 : Index := 0#32
  ![v807.toNat, 32, 0]
def k0_off111 (i : grid0.Coords) : Fin 3 → Nat :=
  let arg0 : BitVec 32 := BitVec.ofNat 32 (i 0).val
  let c2_i32 : BitVec 32 := 2#32
  let v0 : BitVec 32 := Scalar.remsi arg0 c2_i32
  let v1002 : Index := Scalar.indexCast v0
  let c64_468 : Index := 64#32
  let c0_469 : Index := 0#32
  ![v1002.toNat, 64, 0]
def k0_off112 (i : grid0.Coords) : Fin 3 → Nat :=
  let arg0 : BitVec 32 := BitVec.ofNat 32 (i 0).val
  let c2_i32 : BitVec 32 := 2#32
  let v0 : BitVec 32 := Scalar.remsi arg0 c2_i32
  let v1027 : Index := Scalar.indexCast v0
  let c64_479 : Index := 64#32
  let c768_480 : Index := 768#32
  ![v1027.toNat, 64, 768]
def k0_off113 (i : grid0.Coords) : Fin 3 → Nat :=
  let arg0 : BitVec 32 := BitVec.ofNat 32 (i 0).val
  let c2_i32 : BitVec 32 := 2#32
  let v0 : BitVec 32 := Scalar.remsi arg0 c2_i32
  let v1052 : Index := Scalar.indexCast v0
  let c64_490 : Index := 64#32
  let c1536_491 : Index := 1536#32
  ![v1052.toNat, 64, 1536]
def k0_off114 (i : grid0.Coords) : Fin 3 → Nat :=
  let arg0 : BitVec 32 := BitVec.ofNat 32 (i 0).val
  let c2_i32 : BitVec 32 := 2#32
  let v0 : BitVec 32 := Scalar.remsi arg0 c2_i32
  let v1077 : Index := Scalar.indexCast v0
  let c64_501 : Index := 64#32
  let c2304_502 : Index := 2304#32
  ![v1077.toNat, 64, 2304]
def k0_off115 (i : grid0.Coords) : Fin 3 → Nat :=
  let arg0 : BitVec 32 := BitVec.ofNat 32 (i 0).val
  let c2_i32 : BitVec 32 := 2#32
  let v0 : BitVec 32 := Scalar.remsi arg0 c2_i32
  let v1102 : Index := Scalar.indexCast v0
  let c64_512 : Index := 64#32
  let c3072_513 : Index := 3072#32
  ![v1102.toNat, 64, 3072]
def k0_off116 (i : grid0.Coords) : Fin 3 → Nat :=
  let arg0 : BitVec 32 := BitVec.ofNat 32 (i 0).val
  let c2_i32 : BitVec 32 := 2#32
  let v0 : BitVec 32 := Scalar.remsi arg0 c2_i32
  let v1127 : Index := Scalar.indexCast v0
  let c64_523 : Index := 64#32
  let c3840_524 : Index := 3840#32
  ![v1127.toNat, 64, 3840]
def k0_off117 (i : grid0.Coords) : Fin 3 → Nat :=
  let arg0 : BitVec 32 := BitVec.ofNat 32 (i 0).val
  let c2_i32 : BitVec 32 := 2#32
  let v0 : BitVec 32 := Scalar.remsi arg0 c2_i32
  let v1152 : Index := Scalar.indexCast v0
  let c64_534 : Index := 64#32
  let c4608_535 : Index := 4608#32
  ![v1152.toNat, 64, 4608]
def k0_off118 (i : grid0.Coords) : Fin 3 → Nat :=
  let arg0 : BitVec 32 := BitVec.ofNat 32 (i 0).val
  let c2_i32 : BitVec 32 := 2#32
  let v0 : BitVec 32 := Scalar.remsi arg0 c2_i32
  let v1177 : Index := Scalar.indexCast v0
  let c64_545 : Index := 64#32
  let c5376_546 : Index := 5376#32
  ![v1177.toNat, 64, 5376]
def k0_off119 (i : grid0.Coords) : Fin 3 → Nat :=
  let arg0 : BitVec 32 := BitVec.ofNat 32 (i 0).val
  let c2_i32 : BitVec 32 := 2#32
  let v0 : BitVec 32 := Scalar.remsi arg0 c2_i32
  let v1202 : Index := Scalar.indexCast v0
  let c64_556 : Index := 64#32
  let c6144_557 : Index := 6144#32
  ![v1202.toNat, 64, 6144]
def k0_off120 (i : grid0.Coords) : Fin 3 → Nat :=
  let arg0 : BitVec 32 := BitVec.ofNat 32 (i 0).val
  let c2_i32 : BitVec 32 := 2#32
  let v0 : BitVec 32 := Scalar.remsi arg0 c2_i32
  let v1207 : Index := Scalar.indexCast v0
  let c64_560 : Index := 64#32
  let c0_561 : Index := 0#32
  ![v1207.toNat, 64, 0]
def k0_off121 (i : grid0.Coords) : Fin 3 → Nat :=
  let arg0 : BitVec 32 := BitVec.ofNat 32 (i 0).val
  let c2_i32 : BitVec 32 := 2#32
  let v0 : BitVec 32 := Scalar.remsi arg0 c2_i32
  let v1402 : Index := Scalar.indexCast v0
  let c96_658 : Index := 96#32
  let c0_659 : Index := 0#32
  ![v1402.toNat, 96, 0]
def k0_off122 (i : grid0.Coords) : Fin 3 → Nat :=
  let arg0 : BitVec 32 := BitVec.ofNat 32 (i 0).val
  let c2_i32 : BitVec 32 := 2#32
  let v0 : BitVec 32 := Scalar.remsi arg0 c2_i32
  let v1427 : Index := Scalar.indexCast v0
  let c96_669 : Index := 96#32
  let c768_670 : Index := 768#32
  ![v1427.toNat, 96, 768]
def k0_off123 (i : grid0.Coords) : Fin 3 → Nat :=
  let arg0 : BitVec 32 := BitVec.ofNat 32 (i 0).val
  let c2_i32 : BitVec 32 := 2#32
  let v0 : BitVec 32 := Scalar.remsi arg0 c2_i32
  let v1452 : Index := Scalar.indexCast v0
  let c96_680 : Index := 96#32
  let c1536_681 : Index := 1536#32
  ![v1452.toNat, 96, 1536]
def k0_off124 (i : grid0.Coords) : Fin 3 → Nat :=
  let arg0 : BitVec 32 := BitVec.ofNat 32 (i 0).val
  let c2_i32 : BitVec 32 := 2#32
  let v0 : BitVec 32 := Scalar.remsi arg0 c2_i32
  let v1477 : Index := Scalar.indexCast v0
  let c96_691 : Index := 96#32
  let c2304_692 : Index := 2304#32
  ![v1477.toNat, 96, 2304]
def k0_off125 (i : grid0.Coords) : Fin 3 → Nat :=
  let arg0 : BitVec 32 := BitVec.ofNat 32 (i 0).val
  let c2_i32 : BitVec 32 := 2#32
  let v0 : BitVec 32 := Scalar.remsi arg0 c2_i32
  let v1502 : Index := Scalar.indexCast v0
  let c96_702 : Index := 96#32
  let c3072_703 : Index := 3072#32
  ![v1502.toNat, 96, 3072]
def k0_off126 (i : grid0.Coords) : Fin 3 → Nat :=
  let arg0 : BitVec 32 := BitVec.ofNat 32 (i 0).val
  let c2_i32 : BitVec 32 := 2#32
  let v0 : BitVec 32 := Scalar.remsi arg0 c2_i32
  let v1527 : Index := Scalar.indexCast v0
  let c96_713 : Index := 96#32
  let c3840_714 : Index := 3840#32
  ![v1527.toNat, 96, 3840]
def k0_off127 (i : grid0.Coords) : Fin 3 → Nat :=
  let arg0 : BitVec 32 := BitVec.ofNat 32 (i 0).val
  let c2_i32 : BitVec 32 := 2#32
  let v0 : BitVec 32 := Scalar.remsi arg0 c2_i32
  let v1552 : Index := Scalar.indexCast v0
  let c96_724 : Index := 96#32
  let c4608_725 : Index := 4608#32
  ![v1552.toNat, 96, 4608]
def k0_off128 (i : grid0.Coords) : Fin 3 → Nat :=
  let arg0 : BitVec 32 := BitVec.ofNat 32 (i 0).val
  let c2_i32 : BitVec 32 := 2#32
  let v0 : BitVec 32 := Scalar.remsi arg0 c2_i32
  let v1577 : Index := Scalar.indexCast v0
  let c96_735 : Index := 96#32
  let c5376_736 : Index := 5376#32
  ![v1577.toNat, 96, 5376]
def k0_off129 (i : grid0.Coords) : Fin 3 → Nat :=
  let arg0 : BitVec 32 := BitVec.ofNat 32 (i 0).val
  let c2_i32 : BitVec 32 := 2#32
  let v0 : BitVec 32 := Scalar.remsi arg0 c2_i32
  let v1602 : Index := Scalar.indexCast v0
  let c96_746 : Index := 96#32
  let c6144_747 : Index := 6144#32
  ![v1602.toNat, 96, 6144]
def k0_off130 (i : grid0.Coords) : Fin 3 → Nat :=
  let arg0 : BitVec 32 := BitVec.ofNat 32 (i 0).val
  let c2_i32 : BitVec 32 := 2#32
  let v0 : BitVec 32 := Scalar.remsi arg0 c2_i32
  let v1607 : Index := Scalar.indexCast v0
  let c96_750 : Index := 96#32
  let c0_751 : Index := 0#32
  ![v1607.toNat, 96, 0]
def k0_off131 (i : grid0.Coords) : Fin 3 → Nat :=
  let arg0 : BitVec 32 := BitVec.ofNat 32 (i 0).val
  let c2_i32 : BitVec 32 := 2#32
  let v0 : BitVec 32 := Scalar.remsi arg0 c2_i32
  let v1817 : Index := Scalar.indexCast v0
  let c128_856 : Index := 128#32
  let c0_857 : Index := 0#32
  ![v1817.toNat, 128, 0]
def k0_off132 (i : grid0.Coords) : Fin 3 → Nat :=
  let arg0 : BitVec 32 := BitVec.ofNat 32 (i 0).val
  let c2_i32 : BitVec 32 := 2#32
  let v0 : BitVec 32 := Scalar.remsi arg0 c2_i32
  let v1842 : Index := Scalar.indexCast v0
  let c128_867 : Index := 128#32
  let c768_868 : Index := 768#32
  ![v1842.toNat, 128, 768]
def k0_off133 (i : grid0.Coords) : Fin 3 → Nat :=
  let arg0 : BitVec 32 := BitVec.ofNat 32 (i 0).val
  let c2_i32 : BitVec 32 := 2#32
  let v0 : BitVec 32 := Scalar.remsi arg0 c2_i32
  let v1867 : Index := Scalar.indexCast v0
  let c128_878 : Index := 128#32
  let c1536_879 : Index := 1536#32
  ![v1867.toNat, 128, 1536]
def k0_off134 (i : grid0.Coords) : Fin 3 → Nat :=
  let arg0 : BitVec 32 := BitVec.ofNat 32 (i 0).val
  let c2_i32 : BitVec 32 := 2#32
  let v0 : BitVec 32 := Scalar.remsi arg0 c2_i32
  let v1892 : Index := Scalar.indexCast v0
  let c128_889 : Index := 128#32
  let c2304_890 : Index := 2304#32
  ![v1892.toNat, 128, 2304]
def k0_off135 (i : grid0.Coords) : Fin 3 → Nat :=
  let arg0 : BitVec 32 := BitVec.ofNat 32 (i 0).val
  let c2_i32 : BitVec 32 := 2#32
  let v0 : BitVec 32 := Scalar.remsi arg0 c2_i32
  let v1917 : Index := Scalar.indexCast v0
  let c128_900 : Index := 128#32
  let c3072_901 : Index := 3072#32
  ![v1917.toNat, 128, 3072]
def k0_off136 (i : grid0.Coords) : Fin 3 → Nat :=
  let arg0 : BitVec 32 := BitVec.ofNat 32 (i 0).val
  let c2_i32 : BitVec 32 := 2#32
  let v0 : BitVec 32 := Scalar.remsi arg0 c2_i32
  let v1942 : Index := Scalar.indexCast v0
  let c128_911 : Index := 128#32
  let c3840_912 : Index := 3840#32
  ![v1942.toNat, 128, 3840]
def k0_off137 (i : grid0.Coords) : Fin 3 → Nat :=
  let arg0 : BitVec 32 := BitVec.ofNat 32 (i 0).val
  let c2_i32 : BitVec 32 := 2#32
  let v0 : BitVec 32 := Scalar.remsi arg0 c2_i32
  let v1967 : Index := Scalar.indexCast v0
  let c128_922 : Index := 128#32
  let c4608_923 : Index := 4608#32
  ![v1967.toNat, 128, 4608]
def k0_off138 (i : grid0.Coords) : Fin 3 → Nat :=
  let arg0 : BitVec 32 := BitVec.ofNat 32 (i 0).val
  let c2_i32 : BitVec 32 := 2#32
  let v0 : BitVec 32 := Scalar.remsi arg0 c2_i32
  let v1992 : Index := Scalar.indexCast v0
  let c128_933 : Index := 128#32
  let c5376_934 : Index := 5376#32
  ![v1992.toNat, 128, 5376]
def k0_off139 (i : grid0.Coords) : Fin 3 → Nat :=
  let arg0 : BitVec 32 := BitVec.ofNat 32 (i 0).val
  let c2_i32 : BitVec 32 := 2#32
  let v0 : BitVec 32 := Scalar.remsi arg0 c2_i32
  let v2017 : Index := Scalar.indexCast v0
  let c128_944 : Index := 128#32
  let c6144_945 : Index := 6144#32
  ![v2017.toNat, 128, 6144]
def k0_off140 (i : grid0.Coords) : Fin 3 → Nat :=
  let arg0 : BitVec 32 := BitVec.ofNat 32 (i 0).val
  let c2_i32 : BitVec 32 := 2#32
  let v0 : BitVec 32 := Scalar.remsi arg0 c2_i32
  let v2022 : Index := Scalar.indexCast v0
  let c128_948 : Index := 128#32
  let c0_949 : Index := 0#32
  ![v2022.toNat, 128, 0]
def k0_off141 (i : grid0.Coords) : Fin 3 → Nat :=
  let arg0 : BitVec 32 := BitVec.ofNat 32 (i 0).val
  let c2_i32 : BitVec 32 := 2#32
  let v0 : BitVec 32 := Scalar.remsi arg0 c2_i32
  let v2217 : Index := Scalar.indexCast v0
  let c160_1046 : Index := 160#32
  let c0_1047 : Index := 0#32
  ![v2217.toNat, 160, 0]
def k0_off142 (i : grid0.Coords) : Fin 3 → Nat :=
  let arg0 : BitVec 32 := BitVec.ofNat 32 (i 0).val
  let c2_i32 : BitVec 32 := 2#32
  let v0 : BitVec 32 := Scalar.remsi arg0 c2_i32
  let v2242 : Index := Scalar.indexCast v0
  let c160_1057 : Index := 160#32
  let c768_1058 : Index := 768#32
  ![v2242.toNat, 160, 768]
def k0_off143 (i : grid0.Coords) : Fin 3 → Nat :=
  let arg0 : BitVec 32 := BitVec.ofNat 32 (i 0).val
  let c2_i32 : BitVec 32 := 2#32
  let v0 : BitVec 32 := Scalar.remsi arg0 c2_i32
  let v2267 : Index := Scalar.indexCast v0
  let c160_1068 : Index := 160#32
  let c1536_1069 : Index := 1536#32
  ![v2267.toNat, 160, 1536]
def k0_off144 (i : grid0.Coords) : Fin 3 → Nat :=
  let arg0 : BitVec 32 := BitVec.ofNat 32 (i 0).val
  let c2_i32 : BitVec 32 := 2#32
  let v0 : BitVec 32 := Scalar.remsi arg0 c2_i32
  let v2292 : Index := Scalar.indexCast v0
  let c160_1079 : Index := 160#32
  let c2304_1080 : Index := 2304#32
  ![v2292.toNat, 160, 2304]
def k0_off145 (i : grid0.Coords) : Fin 3 → Nat :=
  let arg0 : BitVec 32 := BitVec.ofNat 32 (i 0).val
  let c2_i32 : BitVec 32 := 2#32
  let v0 : BitVec 32 := Scalar.remsi arg0 c2_i32
  let v2317 : Index := Scalar.indexCast v0
  let c160_1090 : Index := 160#32
  let c3072_1091 : Index := 3072#32
  ![v2317.toNat, 160, 3072]
def k0_off146 (i : grid0.Coords) : Fin 3 → Nat :=
  let arg0 : BitVec 32 := BitVec.ofNat 32 (i 0).val
  let c2_i32 : BitVec 32 := 2#32
  let v0 : BitVec 32 := Scalar.remsi arg0 c2_i32
  let v2342 : Index := Scalar.indexCast v0
  let c160_1101 : Index := 160#32
  let c3840_1102 : Index := 3840#32
  ![v2342.toNat, 160, 3840]
def k0_off147 (i : grid0.Coords) : Fin 3 → Nat :=
  let arg0 : BitVec 32 := BitVec.ofNat 32 (i 0).val
  let c2_i32 : BitVec 32 := 2#32
  let v0 : BitVec 32 := Scalar.remsi arg0 c2_i32
  let v2367 : Index := Scalar.indexCast v0
  let c160_1112 : Index := 160#32
  let c4608_1113 : Index := 4608#32
  ![v2367.toNat, 160, 4608]
def k0_off148 (i : grid0.Coords) : Fin 3 → Nat :=
  let arg0 : BitVec 32 := BitVec.ofNat 32 (i 0).val
  let c2_i32 : BitVec 32 := 2#32
  let v0 : BitVec 32 := Scalar.remsi arg0 c2_i32
  let v2392 : Index := Scalar.indexCast v0
  let c160_1123 : Index := 160#32
  let c5376_1124 : Index := 5376#32
  ![v2392.toNat, 160, 5376]
def k0_off149 (i : grid0.Coords) : Fin 3 → Nat :=
  let arg0 : BitVec 32 := BitVec.ofNat 32 (i 0).val
  let c2_i32 : BitVec 32 := 2#32
  let v0 : BitVec 32 := Scalar.remsi arg0 c2_i32
  let v2417 : Index := Scalar.indexCast v0
  let c160_1134 : Index := 160#32
  let c6144_1135 : Index := 6144#32
  ![v2417.toNat, 160, 6144]
def k0_off150 (i : grid0.Coords) : Fin 3 → Nat :=
  let arg0 : BitVec 32 := BitVec.ofNat 32 (i 0).val
  let c2_i32 : BitVec 32 := 2#32
  let v0 : BitVec 32 := Scalar.remsi arg0 c2_i32
  let v2422 : Index := Scalar.indexCast v0
  let c160_1138 : Index := 160#32
  let c0_1139 : Index := 0#32
  ![v2422.toNat, 160, 0]
def k0_off151 (i : grid0.Coords) : Fin 3 → Nat :=
  let arg0 : BitVec 32 := BitVec.ofNat 32 (i 0).val
  let c2_i32 : BitVec 32 := 2#32
  let v0 : BitVec 32 := Scalar.remsi arg0 c2_i32
  let v2617 : Index := Scalar.indexCast v0
  let c192_1235 : Index := 192#32
  let c0_1236 : Index := 0#32
  ![v2617.toNat, 192, 0]
def k0_off152 (i : grid0.Coords) : Fin 3 → Nat :=
  let arg0 : BitVec 32 := BitVec.ofNat 32 (i 0).val
  let c2_i32 : BitVec 32 := 2#32
  let v0 : BitVec 32 := Scalar.remsi arg0 c2_i32
  let v2642 : Index := Scalar.indexCast v0
  let c192_1246 : Index := 192#32
  let c768_1247 : Index := 768#32
  ![v2642.toNat, 192, 768]
def k0_off153 (i : grid0.Coords) : Fin 3 → Nat :=
  let arg0 : BitVec 32 := BitVec.ofNat 32 (i 0).val
  let c2_i32 : BitVec 32 := 2#32
  let v0 : BitVec 32 := Scalar.remsi arg0 c2_i32
  let v2667 : Index := Scalar.indexCast v0
  let c192_1257 : Index := 192#32
  let c1536_1258 : Index := 1536#32
  ![v2667.toNat, 192, 1536]
def k0_off154 (i : grid0.Coords) : Fin 3 → Nat :=
  let arg0 : BitVec 32 := BitVec.ofNat 32 (i 0).val
  let c2_i32 : BitVec 32 := 2#32
  let v0 : BitVec 32 := Scalar.remsi arg0 c2_i32
  let v2692 : Index := Scalar.indexCast v0
  let c192_1268 : Index := 192#32
  let c2304_1269 : Index := 2304#32
  ![v2692.toNat, 192, 2304]
def k0_off155 (i : grid0.Coords) : Fin 3 → Nat :=
  let arg0 : BitVec 32 := BitVec.ofNat 32 (i 0).val
  let c2_i32 : BitVec 32 := 2#32
  let v0 : BitVec 32 := Scalar.remsi arg0 c2_i32
  let v2717 : Index := Scalar.indexCast v0
  let c192_1279 : Index := 192#32
  let c3072_1280 : Index := 3072#32
  ![v2717.toNat, 192, 3072]
def k0_off156 (i : grid0.Coords) : Fin 3 → Nat :=
  let arg0 : BitVec 32 := BitVec.ofNat 32 (i 0).val
  let c2_i32 : BitVec 32 := 2#32
  let v0 : BitVec 32 := Scalar.remsi arg0 c2_i32
  let v2742 : Index := Scalar.indexCast v0
  let c192_1290 : Index := 192#32
  let c3840_1291 : Index := 3840#32
  ![v2742.toNat, 192, 3840]
def k0_off157 (i : grid0.Coords) : Fin 3 → Nat :=
  let arg0 : BitVec 32 := BitVec.ofNat 32 (i 0).val
  let c2_i32 : BitVec 32 := 2#32
  let v0 : BitVec 32 := Scalar.remsi arg0 c2_i32
  let v2767 : Index := Scalar.indexCast v0
  let c192_1301 : Index := 192#32
  let c4608_1302 : Index := 4608#32
  ![v2767.toNat, 192, 4608]
def k0_off158 (i : grid0.Coords) : Fin 3 → Nat :=
  let arg0 : BitVec 32 := BitVec.ofNat 32 (i 0).val
  let c2_i32 : BitVec 32 := 2#32
  let v0 : BitVec 32 := Scalar.remsi arg0 c2_i32
  let v2792 : Index := Scalar.indexCast v0
  let c192_1312 : Index := 192#32
  let c5376_1313 : Index := 5376#32
  ![v2792.toNat, 192, 5376]
def k0_off159 (i : grid0.Coords) : Fin 3 → Nat :=
  let arg0 : BitVec 32 := BitVec.ofNat 32 (i 0).val
  let c2_i32 : BitVec 32 := 2#32
  let v0 : BitVec 32 := Scalar.remsi arg0 c2_i32
  let v2817 : Index := Scalar.indexCast v0
  let c192_1323 : Index := 192#32
  let c6144_1324 : Index := 6144#32
  ![v2817.toNat, 192, 6144]
def k0_off160 (i : grid0.Coords) : Fin 3 → Nat :=
  let arg0 : BitVec 32 := BitVec.ofNat 32 (i 0).val
  let c2_i32 : BitVec 32 := 2#32
  let v0 : BitVec 32 := Scalar.remsi arg0 c2_i32
  let v2822 : Index := Scalar.indexCast v0
  let c192_1327 : Index := 192#32
  let c0_1328 : Index := 0#32
  ![v2822.toNat, 192, 0]
def k0_off161 (i : grid0.Coords) : Fin 3 → Nat :=
  let arg0 : BitVec 32 := BitVec.ofNat 32 (i 0).val
  let c2_i32 : BitVec 32 := 2#32
  let v0 : BitVec 32 := Scalar.remsi arg0 c2_i32
  let v3017 : Index := Scalar.indexCast v0
  let c224_1424 : Index := 224#32
  let c0_1425 : Index := 0#32
  ![v3017.toNat, 224, 0]
def k0_off162 (i : grid0.Coords) : Fin 3 → Nat :=
  let arg0 : BitVec 32 := BitVec.ofNat 32 (i 0).val
  let c2_i32 : BitVec 32 := 2#32
  let v0 : BitVec 32 := Scalar.remsi arg0 c2_i32
  let v3042 : Index := Scalar.indexCast v0
  let c224_1435 : Index := 224#32
  let c768_1436 : Index := 768#32
  ![v3042.toNat, 224, 768]
def k0_off163 (i : grid0.Coords) : Fin 3 → Nat :=
  let arg0 : BitVec 32 := BitVec.ofNat 32 (i 0).val
  let c2_i32 : BitVec 32 := 2#32
  let v0 : BitVec 32 := Scalar.remsi arg0 c2_i32
  let v3067 : Index := Scalar.indexCast v0
  let c224_1446 : Index := 224#32
  let c1536_1447 : Index := 1536#32
  ![v3067.toNat, 224, 1536]
def k0_off164 (i : grid0.Coords) : Fin 3 → Nat :=
  let arg0 : BitVec 32 := BitVec.ofNat 32 (i 0).val
  let c2_i32 : BitVec 32 := 2#32
  let v0 : BitVec 32 := Scalar.remsi arg0 c2_i32
  let v3092 : Index := Scalar.indexCast v0
  let c224_1457 : Index := 224#32
  let c2304_1458 : Index := 2304#32
  ![v3092.toNat, 224, 2304]
def k0_off165 (i : grid0.Coords) : Fin 3 → Nat :=
  let arg0 : BitVec 32 := BitVec.ofNat 32 (i 0).val
  let c2_i32 : BitVec 32 := 2#32
  let v0 : BitVec 32 := Scalar.remsi arg0 c2_i32
  let v3117 : Index := Scalar.indexCast v0
  let c224_1468 : Index := 224#32
  let c3072_1469 : Index := 3072#32
  ![v3117.toNat, 224, 3072]
def k0_off166 (i : grid0.Coords) : Fin 3 → Nat :=
  let arg0 : BitVec 32 := BitVec.ofNat 32 (i 0).val
  let c2_i32 : BitVec 32 := 2#32
  let v0 : BitVec 32 := Scalar.remsi arg0 c2_i32
  let v3142 : Index := Scalar.indexCast v0
  let c224_1479 : Index := 224#32
  let c3840_1480 : Index := 3840#32
  ![v3142.toNat, 224, 3840]
def k0_off167 (i : grid0.Coords) : Fin 3 → Nat :=
  let arg0 : BitVec 32 := BitVec.ofNat 32 (i 0).val
  let c2_i32 : BitVec 32 := 2#32
  let v0 : BitVec 32 := Scalar.remsi arg0 c2_i32
  let v3167 : Index := Scalar.indexCast v0
  let c224_1490 : Index := 224#32
  let c4608_1491 : Index := 4608#32
  ![v3167.toNat, 224, 4608]
def k0_off168 (i : grid0.Coords) : Fin 3 → Nat :=
  let arg0 : BitVec 32 := BitVec.ofNat 32 (i 0).val
  let c2_i32 : BitVec 32 := 2#32
  let v0 : BitVec 32 := Scalar.remsi arg0 c2_i32
  let v3192 : Index := Scalar.indexCast v0
  let c224_1501 : Index := 224#32
  let c5376_1502 : Index := 5376#32
  ![v3192.toNat, 224, 5376]
def k0_off169 (i : grid0.Coords) : Fin 3 → Nat :=
  let arg0 : BitVec 32 := BitVec.ofNat 32 (i 0).val
  let c2_i32 : BitVec 32 := 2#32
  let v0 : BitVec 32 := Scalar.remsi arg0 c2_i32
  let v3217 : Index := Scalar.indexCast v0
  let c224_1512 : Index := 224#32
  let c6144_1513 : Index := 6144#32
  ![v3217.toNat, 224, 6144]
def k0_off170 (i : grid0.Coords) : Fin 3 → Nat :=
  let arg0 : BitVec 32 := BitVec.ofNat 32 (i 0).val
  let c2_i32 : BitVec 32 := 2#32
  let v0 : BitVec 32 := Scalar.remsi arg0 c2_i32
  let v3222 : Index := Scalar.indexCast v0
  let c224_1516 : Index := 224#32
  let c0_1517 : Index := 0#32
  ![v3222.toNat, 224, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c59_i32 : BitVec 32 := 59#32
  let v0 : BitVec 32 := Scalar.minsi arg0 c59_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c59_i32 : BitVec 32 := 59#32
  let v0 : BitVec 32 := Scalar.minsi arg0 c59_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c59_i32 : BitVec 32 := 59#32
  let v0 : BitVec 32 := Scalar.minsi arg0 c59_i32
  let c0_i32 : BitVec 32 := 0#32
  let c0_i32_0 : BitVec 32 := 0#32
  ![v0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6912 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S640x6912 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x6912 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownRefIdeal.lean ====
abbrev S15360x6912 : Shape := ⟨2, ![15360, 6912]⟩
abbrev S15360x2560 : Shape := ⟨2, ![15360, 2560]⟩
abbrev S6912 : Shape := ⟨1, ![6912]⟩
abbrev S640x6912 : Shape := ⟨2, ![640, 6912]⟩
abbrev S_ : Shape := ⟨0, ![]⟩
abbrev S15360 : Shape := ⟨1, ![15360]⟩
abbrev S15360x1 : Shape := ⟨2, ![15360, 1]⟩
abbrev S1x6912 : Shape := ⟨2, ![1, 6912]⟩
abbrev S4 : Shape := ⟨1, ![4]⟩
abbrev S1x640x6912 : Shape := ⟨3, ![1, 640, 6912]⟩
abbrev S4x1x1 : Shape := ⟨3, ![4, 1, 1]⟩
abbrev S4x640x6912 : Shape := ⟨3, ![4, 640, 6912]⟩
abbrev S2560x6912 : Shape := ⟨2, ![2560, 6912]⟩

abbrev nBuf : Space → Nat
  | .hbm => 76
  | .vmem => 0
  | .smem => 0
  | _ => 0

abbrev bufTy : (tb : Table) → Fin (tcTables nBuf tb) → BufTy
  | .hbm, ⟨0, _⟩ => ⟨S15360x6912, .f32⟩
  | .hbm, ⟨1, _⟩ => ⟨S15360x2560, .f32⟩
  | .hbm, ⟨2, _⟩ => ⟨S6912, .f32⟩
  | .hbm, ⟨3, _⟩ => ⟨S640x6912, .i8⟩
  | .hbm, ⟨4, _⟩ => ⟨S_, .f32⟩
  | .hbm, ⟨5, _⟩ => ⟨S15360x6912, .f32⟩
  | .hbm, ⟨6, _⟩ => ⟨S_, .f32⟩
  | .hbm, ⟨7, _⟩ => ⟨S15360, .f32⟩
  | .hbm, ⟨8, _⟩ => ⟨S15360x1, .f32⟩
  | .hbm, ⟨9, _⟩ => ⟨S_, .f32⟩
  | .hbm, ⟨10, _⟩ => ⟨S15360x1, .f32⟩
  | .hbm, ⟨11, _⟩ => ⟨S15360x1, .f32⟩
  | .hbm, ⟨12, _⟩ => ⟨S_, .f32⟩
  | .hbm, ⟨13, _⟩ => ⟨S15360x1, .f32⟩
  | .hbm, ⟨14, _⟩ => ⟨S15360x1, .f32⟩
  | .hbm, ⟨15, _⟩ => ⟨S15360x1, .f32⟩
  | .hbm, ⟨16, _⟩ => ⟨S15360x6912, .f32⟩
  | .hbm, ⟨17, _⟩ => ⟨S15360x6912, .f32⟩
  | .hbm, ⟨18, _⟩ => ⟨S1x6912, .f32⟩
  | .hbm, ⟨19, _⟩ => ⟨S15360x6912, .f32⟩
  | .hbm, ⟨20, _⟩ => ⟨S15360x6912, .f32⟩
  | .hbm, ⟨21, _⟩ => ⟨S15360x6912, .f32⟩
  | .hbm, ⟨22, _⟩ => ⟨S_, .f32⟩
  | .hbm, ⟨23, _⟩ => ⟨S15360, .f32⟩
  | .hbm, ⟨24, _⟩ => ⟨S_, .f32⟩
  | .hbm, ⟨25, _⟩ => ⟨S15360, .f32⟩
  | .hbm, ⟨26, _⟩ => ⟨S15360, .i1⟩
  | .hbm, ⟨27, _⟩ => ⟨S_, .f32⟩
  | .hbm, ⟨28, _⟩ => ⟨S15360, .f32⟩
  | .hbm, ⟨29, _⟩ => ⟨S15360, .f32⟩
  | .hbm, ⟨30, _⟩ => ⟨S_, .f32⟩
  | .hbm, ⟨31, _⟩ => ⟨S15360, .f32⟩
  | .hbm, ⟨32, _⟩ => ⟨S15360, .f32⟩
  | .hbm, ⟨33, _⟩ => ⟨S15360x1, .f32⟩
  | .hbm, ⟨34, _⟩ => ⟨S15360x6912, .f32⟩
  | .hbm, ⟨35, _⟩ => ⟨S15360x6912, .f32⟩
  | .hbm, ⟨36, _⟩ => ⟨S15360x6912, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S15360x6912, .f32⟩
  | .hbm, ⟨41, _⟩ => ⟨S15360x6912, .f32⟩
  | .hbm, ⟨42, _⟩ => ⟨S_, .f32⟩
  | .hbm, ⟨43, _⟩ => ⟨S15360x6912, .f32⟩
  | .hbm, ⟨44, _⟩ => ⟨S15360x6912, .f32⟩
  | .hbm, ⟨45, _⟩ => ⟨S15360x6912, .i32⟩
  | .hbm, ⟨46, _⟩ => ⟨S15360x6912, .i8⟩
  | .hbm, ⟨47, _⟩ => ⟨S15360x1, .f32⟩
  | .hbm, ⟨48, _⟩ => ⟨S15360x6912, .i32⟩
  | .hbm, ⟨49, _⟩ => ⟨S15360x6912, .bf16⟩
  | .hbm, ⟨50, _⟩ => ⟨S4, .i32⟩
  | .hbm, ⟨51, _⟩ => ⟨S_, .i32⟩
  | .hbm, ⟨52, _⟩ => ⟨S4, .i32⟩
  | .hbm, ⟨53, _⟩ => ⟨S4, .i32⟩
  | .hbm, ⟨54, _⟩ => ⟨S640x6912, .i32⟩
  | .hbm, ⟨55, _⟩ => ⟨S1x640x6912, .i32⟩
  | .hbm, ⟨56, _⟩ => ⟨S4x1x1, .i32⟩
  | .hbm, ⟨57, _⟩ => ⟨S4x640x6912, .i32⟩
  | .hbm, ⟨58, _⟩ => ⟨S4x640x6912, .i32⟩
  | .hbm, ⟨59, _⟩ => ⟨S4x640x6912, .i32⟩
  | .hbm, ⟨60, _⟩ => ⟨S_, .i32⟩
  | .hbm, ⟨61, _⟩ => ⟨S4x640x6912, .i32⟩
  | .hbm, ⟨62, _⟩ => ⟨S4x640x6912, .i32⟩
  | .hbm, ⟨63, _⟩ => ⟨S4x640x6912, .i32⟩
  | .hbm, ⟨64, _⟩ => ⟨S_, .i32⟩
  | .hbm, ⟨65, _⟩ => ⟨S4x640x6912, .i32⟩
  | .hbm, ⟨66, _⟩ => ⟨S4x640x6912, .i32⟩
  | .hbm, ⟨67, _⟩ => ⟨S4x640x6912, .bf16⟩
  | .hbm, ⟨68, _⟩ => ⟨S2560x6912, .bf16⟩
  | .hbm, ⟨69, _⟩ => ⟨S15360x2560, .f32⟩
  | .hbm, ⟨70, _⟩ => ⟨S15360x2560, .f32⟩
  | .hbm, ⟨71, _⟩ => ⟨S15360x2560, .f32⟩
  | .hbm, ⟨72, _⟩ => ⟨S15360x2560, .f32⟩
  | .hbm, ⟨73, _⟩ => ⟨S15360x2560, .f32⟩
  | .hbm, ⟨74, _⟩ => ⟨S15360x2560, .f32⟩
  | .hbm, ⟨75, _⟩ => ⟨S15360x2560, .bf16⟩
  | _, _ => ⟨S15360x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_c_6 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== Proof.Ternary.lean ====
/-
  Packed ternary weights. Four two-bit fields are packed in a byte; field `f` of the byte `b` is the weight
  `((b >>> 2f) &&& 3) - 1`. A kernel unpacks four bytes at a time: it reads four rows of a column as one 32-bit word,
  shifts the word, masks it, adds `0x7F` to each byte, flips the top bit of each byte, and reads the word as four rows
  again. `unpack_ix2` says that this leaves `field f` of each byte in its place.
-/
module

public import Idealize.ShloMosaic.Lib.BitcastFour
public import Idealize.ShloMosaic.Lib.ValueIdxCore
public import Idealize.ShloMosaic.PureOps.Vector
public import Mathlib.Tactic.FinCases
public import Mathlib.Tactic.IntervalCases

@[expose] public section

namespace Cert.Ternary

open Idealize.ShloMosaic Idealize.ShloMosaic.ValueIdx

/-- Weight field `f` of a packed byte, as a signed byte. -/
def field (f : ℕ) (b : BitVec 8) : BitVec 8 := ((b >>> (2 * f)) &&& 3#8) - 1#8

/-- Byte `j` of a word. -/
def byteOf (w : BitVec 32) (j : ℕ) : BitVec 8 := w.extractLsb' (8 * j) 8

/-- The two bits of field `f` of a byte. -/
def bits2 (f : ℕ) (b : BitVec 8) : BitVec 8 := (b >>> (2 * f)) &&& 3#8

theorem getLsbD_three (i : ℕ) : (3#8 : BitVec 8).getLsbD i = decide (i < 2) := by
  by_cases h : i < 8
  · interval_cases i <;> rfl
  · rw [BitVec.getLsbD_of_ge _ _ (by omega)]
    exact (decide_eq_false (by omega)).symm

theorem getLsbD_mask (i : ℕ) (hi : i < 32) : (50529027#32 : BitVec 32).getLsbD i = decide (i % 8 < 2) := by
  interval_cases i <;> rfl

/-- A word shifted by `2f` and masked to the two low bits of each byte holds the two bits of field `f` of each byte. -/
theorem masked_eq (w : BitVec 32) (f : ℕ) (hf : f < 4) :
    (w >>> (2 * f)) &&& 50529027#32
      = bits2 f (byteOf w 3) ++ bits2 f (byteOf w 2) ++ bits2 f (byteOf w 1) ++ bits2 f (byteOf w 0) := by
  apply BitVec.eq_of_getLsbD_eq
  intro i hi
  have hb : ∀ (j k : ℕ), (bits2 f (byteOf w j)).getLsbD k = (w.getLsbD (8 * j + (2 * f + k)) && decide (k < 2)) := by
    intro j k
    simp only [bits2, byteOf, BitVec.getLsbD_and, BitVec.getLsbD_ushiftRight, BitVec.getLsbD_extractLsb', getLsbD_three]
    by_cases hk : k < 2
    · simp [hk, show 2 * f + k < 8 by omega]
    · simp [hk]
  simp only [BitVec.getLsbD_and, BitVec.getLsbD_ushiftRight, getLsbD_mask i hi, BitVec.getLsbD_append, hb]
  by_cases h0 : i < 8
  · simp only [h0, if_true]
    rw [show 8 * 0 + (2 * f + i) = 2 * f + i by omega, show i % 8 = i by omega]
  · by_cases h1 : i < 16
    · simp only [h0, if_false, show i - 8 < 8 by omega, if_true]
      by_cases h : i - 8 < 2
      · simp only [show i % 8 < 2 by omega, h, decide_true, Bool.and_true]
        congr 1; omega
      · simp only [show ¬ i % 8 < 2 by omega, h, decide_false, Bool.and_false]
    · by_cases h2 : i < 24
      · simp only [h0, if_false, show ¬ i - 8 < 8 by omega, show i - 8 - 8 < 8 by omega, if_true]
        by_cases h : i - 8 - 8 < 2
        · simp only [show i % 8 < 2 by omega, h, decide_true, Bool.and_true]
          congr 1; omega
        · simp only [show ¬ i % 8 < 2 by omega, h, decide_false, Bool.and_false]
      · simp only [h0, if_false, show ¬ i - 8 < 8 by omega, show ¬ i - 8 - 8 < 8 by omega]
        by_cases h : i - 8 - 8 - 8 < 2
        · simp only [show i % 8 < 2 by omega, h, decide_true, Bool.and_true]
          congr 1; omega
        · simp only [show ¬ i % 8 < 2 by omega, h, decide_false, Bool.and_false]

/-- The two bits of a field are one of `0, 1, 2, 3`. -/
theorem bits2_eq (f : ℕ) (b : BitVec 8) : ∃ k : Fin 4, bits2 f b = BitVec.ofNat 8 k.val := by
  have h : (bits2 f b).toNat < 4 := by
    unfold bits2
    rw [BitVec.toNat_and]
    exact Nat.lt_of_le_of_lt Nat.and_le_right (by decide)
  exact ⟨⟨_, h⟩, by simp⟩

/-- The add and the flip, on four two-bit fields held one to a byte: each byte becomes its field less one. -/
theorem add_flip : ∀ t3 t2 t1 t0 : Fin 4, ∀ j : Fin 4,
    byteOf (((BitVec.ofNat 8 t3.val ++ BitVec.ofNat 8 t2.val ++ BitVec.ofNat 8 t1.val ++ BitVec.ofNat 8 t0.val : BitVec 32)
        + 2139062143#32) ^^^ 2155905152#32) j.val
      = BitVec.ofNat 8 ((![t0, t1, t2, t3] : Fin 4 → Fin 4) j).val - 1#8 := by
  decide +kernel

/-- Byte `j` of the unpacked word is field `f` of byte `j` of the packed word. -/
theorem byteOf_unpacked (w : BitVec 32) (f : ℕ) (hf : f < 4) (j : ℕ) (hj : j < 4) :
    byteOf ((((w >>> (2 * f)) &&& 50529027#32) + 2139062143#32) ^^^ 2155905152#32) j = field f (byteOf w j) := by
  rw [masked_eq w f hf]
  have hfield : field f (byteOf w j) = bits2 f (byteOf w j) - 1#8 := rfl
  rw [hfield]
  obtain ⟨t0, e0⟩ := bits2_eq f (byteOf w 0)
  obtain ⟨t1, e1⟩ := bits2_eq f (byteOf w 1)
  obtain ⟨t2, e2⟩ := bits2_eq f (byteOf w 2)
  obtain ⟨t3, e3⟩ := bits2_eq f (byteOf w 3)
  have h := add_flip t3 t2 t1 t0 ⟨j, hj⟩
  rw [e0, e1, e2, e3]
  refine h.trans ?_
  interval_cases j
  · rw [e0]; rfl
  · rw [e1]; rfl
  · rw [e2]; rfl
  · rw [e3]; rfl

/-- Words read as four rows of bytes: row `p` is byte `p % 4` of word row `p / 4`. -/
theorem bitcast_32_8_ix2 {R r n : ℕ} (y : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 y h (ix2 p l) = byteOf (y (ix2 a l)) (p.val % 4) := by
  apply BitVec.eq_of_getLsbD_eq
  intro i hi
  rw [bitcast_getLsbD y h _ i hi (by decide)]
  unfold byteOf
  rw [BitVec.getLsbD_extractLsb']
  have hrow : (⟨2, ![R, n]⟩ : Shape).row (ix2 p l) = p.val := rfl
  have ep : ((⟨2, ![R, n]⟩ : Shape).row (ix2 p l) * 8 + i) / 32 = a.val := by rw [hrow]; omega
  have eq : ((⟨2, ![R, n]⟩ : Shape).row (ix2 p l) * 8 + i) % 32 = 8 * (p.val % 4) + i := by rw [hrow]; omega
  rw [eq]
  simp only [hi, decide_true, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

/-- Four rows of bytes read as a word: byte `j` of word row `a` is row `4a + j`. -/
theorem byteOf_bitcast_8_32 {R r n : ℕ} (x : (⟨2, ![R, n]⟩ : Shape).Idx → BitVec 8)
    (h : (⟨2, ![R, n]⟩ : Shape).Bitcasts 8 ⟨2, ![r, n]⟩ 32) (a : Fin r) (l : Fin n) (j : ℕ) (hj : j < 4) (p : Fin R)
    (hp : p.val = 4 * a.val + j) :
    byteOf (bitcast ⟨2, ![r, n]⟩ 32 x h (ix2 a l)) j = x (ix2 p l) := by
  apply BitVec.eq_of_getLsbD_eq
  intro i hi
  unfold byteOf
  rw [BitVec.getLsbD_extractLsb',
    bitcast_8_32_getLsbD_ix2 x h a l (8 * j + i) (by omega) p (by omega), show (8 * j + i) % 8 = i by omega]
  simp [hi]

/-- The kernel's unpacking, read at an index: field `f` of the byte there. -/
theorem unpack_ix2 {R r n : ℕ} (hR : R = 4 * r) (x : IVec ⟨2, ![R, n]⟩ 8) (s : BitVec 32) (f : ℕ) (hf : f < 4)
    (hs : s = BitVec.ofNat 32 (2 * f))
    (h1 : (⟨2, ![R, n]⟩ : Shape).Bitcasts 8 ⟨2, ![r, n]⟩ 32) (h2 : (⟨2, ![r, n]⟩ : Shape).Bitcasts 32 ⟨2, ![R, n]⟩ 8)
    (p : Fin R) (l : Fin n) :
    bitcast ⟨2, ![R, n]⟩ 8
        (xori (addi (andi (shrui (bitcast ⟨2, ![r, n]⟩ 32 x h1) (broadcast ⟨2, ![r, n]⟩ s))
          (broadcast ⟨2, ![r, n]⟩ 50529027#32)) (broadcast ⟨2, ![r, n]⟩ 2139062143#32))
          (broadcast ⟨2, ![r, n]⟩ 2155905152#32)) h2 (ix2 p l)
      = field f (x (ix2 p l)) := by
  have ha : p.val / 4 < r := by have := p.isLt; omega
  rw [bitcast_32_8_ix2 _ h2 p l ⟨p.val / 4, ha⟩ rfl]
  have hs2 : s.toNat = 2 * f := by rw [hs, BitVec.toNat_ofNat]; omega
  have e : ∀ w : BitVec 32, IntOp.shrui .vector w s = w >>> (2 * f) := fun w => by
    unfold IntOp.shrui
    rw [if_pos (by omega)]
    show w >>> s.toNat = _
    rw [hs2]
  show byteOf ((((IntOp.shrui .vector (bitcast ⟨2, ![r, n]⟩ 32 x h1 (ix2 ⟨p.val / 4, ha⟩ l)) s) &&& 50529027#32) + 2139062143#32)
    ^^^ 2155905152#32) (p.val % 4) = _
  rw [e, byteOf_unpacked _ f hf _ (Nat.mod_lt _ (by decide)),
    byteOf_bitcast_8_32 x h1 ⟨p.val / 4, ha⟩ l (p.val % 4) (Nat.mod_lt _ (by decide)) p (by show p.val = 4 * (p.val / 4) + p.val % 4; omega)]

/-- A field as a signed integer: the byte's two bits less one. -/
theorem toInt_field : ∀ f : Fin 4, ∀ b : BitVec 8,
    (field f.val b).toInt = (((b.setWidth 32 >>> (2 * f.val)) &&& 3#32) - 1#32 : BitVec 32).toInt := by
  decide +kernel

end Cert.Ternary
-- ==== Proof.Strips.lean ====
/-
  Buffers written piece by piece. A list of pieces that all hold the values of one function `G` leaves `G` wherever some
  piece lies, in whatever order they were written; and a counted loop that writes one strip of rows per trip covers the
  rows of its trips.
-/
module

public import Idealize.ShloMosaic.Lib.WritesUnit
public import Idealize.ShloMosaic.Lib.VecWindow

@[expose] public section

namespace Idealize.ShloMosaic.View

variable {sig : RefSig} {κ : Kind} {sp : Space} {s : Shape} {e : EltTy} {Val : EltTy → Type}

/-- The piece `p` holds the values of `G`. -/
def Agrees (G : s.Idx → Val e) (p : Piece Val s e) : Prop := ∀ x : p.1.shape.Idx, p.2 x = G (p.1.emb x)

/-- Pieces that all hold the values of `G`: after they are written, the buffer reads `G` at each index that some piece
holds, and at each index where it read `G` before. -/
theorem read_writes_agree (v : View sig κ sp s e) (f : v.ty.Contents Val) (G : s.Idx → Val e) :
    ∀ (L : List (Piece Val s e)), (∀ p ∈ L, Agrees G p) → ∀ (y : s.Idx),
      ((∃ p ∈ L, y ∈ p.1.set) ∨ v.read Val f y = G y) → v.read Val (v.writes Val f L) y = G y
  | [], _, y, h => by
    rcases h with ⟨p, hp, _⟩ | h
    · exact absurd hp List.not_mem_nil
    · exact h
  | p :: L, hL, y, h => by
    by_cases hy : y ∈ p.1.set
    · obtain ⟨x, rfl⟩ := p.1.exists_idx_of_mem hy
      obtain ⟨r, w⟩ := p
      change v.read Val (v.writes Val f (⟨r, w⟩ :: L)) (r.emb x) = G (r.emb x)
      rw [read_writes_cons_emb]
      exact hL ⟨r, w⟩ List.mem_cons_self x
    · rw [writes_cons, read_slice_write_of_not_mem _ _ _ _ (by rw [Rect.map_emb_univ]; exact hy)]
      refine read_writes_agree v f G L (fun q hq => hL q (List.mem_cons_of_mem _ hq)) y ?_
      rcases h with ⟨q, hq, hyq⟩ | h
      · rcases List.mem_cons.mp hq with rfl | hq
        · exact absurd hyq hy
        · exact Or.inl ⟨q, hq, hyq⟩
      · exact Or.inr h

/-- A counted loop's pieces: each trip puts one piece in front, each piece holds the values of `G`, and trip `k`'s piece
holds the `S` rows from `o + S k`. Then the pieces of the trips before `k` hold the values of `G` and cover the rows
from `o` to `o + S k`. -/
theorem strips {d : Fin 2 → ℕ} {T : ℕ} (G : (⟨2, d⟩ : Shape).Idx → Val e) (pb : ℕ → List (Piece Val (⟨2, d⟩ : Shape) e))
    (trip : Fin T → Piece Val (⟨2, d⟩ : Shape) e) (o S : ℕ) (h0 : pb 0 = [])
    (hs : ∀ k : Fin T, pb (k.val + 1) = [trip k] ++ pb k.val) (hA : ∀ k, Agrees G (trip k))
    (hset : ∀ k y, o + S * k.val ≤ (y (0 : Fin 2)).val → (y (0 : Fin 2)).val < o + S * k.val + S → y ∈ (trip k).1.set) :
    ∀ k, k ≤ T → (∀ p ∈ pb k, Agrees G p) ∧
      ∀ y, o ≤ (y (0 : Fin 2)).val → (y (0 : Fin 2)).val < o + S * k → ∃ p ∈ pb k, y ∈ p.1.set
  | 0, _ => by
    rw [h0]
    exact ⟨fun p hp => absurd hp List.not_mem_nil, fun y h1 h2 => absurd h2 (by omega)⟩
  | k + 1, hk => by
    obtain ⟨ih1, ih2⟩ := strips G pb trip o S h0 hs hA hset k (Nat.le_of_succ_le hk)
    rw [hs ⟨k, hk⟩]
    refine ⟨fun p hp => ?_, fun y h1 h2 => ?_⟩
    · rcases List.mem_append.mp hp with hp | hp
      · rw [List.mem_singleton.mp hp]; exact hA _
      · exact ih1 p hp
    · by_cases h : (y (0 : Fin 2)).val < o + S * k
      · obtain ⟨p, hp, hy⟩ := ih2 y h1 h
        exact ⟨p, List.mem_append_right _ hp, hy⟩
      · refine ⟨trip ⟨k, hk⟩, List.mem_append_left _ (List.mem_singleton.mpr rfl), hset _ y (by show o + S * k ≤ _; omega) ?_⟩
        show _ < o + S * k + S
        rw [Nat.mul_succ] at h2
        omega

end Idealize.ShloMosaic.View
-- ==== Proof.GateUpOffsets.lean ====
/-
  The unpacked weight blocks of the gate/up kernel. A block of 2304 weight rows is unpacked in four runs of 576 rows,
  each from one bit field of 576 packed rows, 32 rows to a loop trip. `wblock nb p` is the block in closed form; the
  loops' offsets and payloads, and the strip of one trip.
-/
module

public import proofs.«01_k».proof.Proof.Gen.GateUpIdeal.Loops
public import proofs.«01_k».proof.Proof.Ternary
public import proofs.«01_k».proof.Proof.Strips
public import Idealize.ShloMosaic.Lib.Pipeline.Value

@[expose] public section

set_option maxRecDepth 16384

noncomputable section

namespace Cert.GateUpIdeal.Hand

open Idealize.ShloMosaic Idealize.ShloMosaic.TcCoe Idealize.ShloMosaic.Tactic Idealize.ShloMosaic.ValueIdx
open Cert.GateUpIdeal.Gen Cert.Ternary
open Idealize.SL.Sem

variable {F : FTy → Type} [FloatOps F]

/-- Weight block `nb` of the packed matrix `p`: row `r` of the block is weight row `2304 nb + r`, which lies in packed
row `(2304 nb + r) % 1728`, bit field `(2304 nb + r) / 1728`. -/
def wblock (nb : ℕ) (p : Vec F S1728x2560 .i8) : Vec F S2304x2560 .bf16 := fun y =>
  FloatOps.sitofp .bf16 (field ((nb * 2304 + (y (0 : Fin 2)).val) / 1728)
    (p (ix2 (⟨(nb * 2304 + (y (0 : Fin 2)).val) % 1728, Nat.mod_lt _ (by decide)⟩ : Fin 1728) (y (1 : Fin 2)))))

theorem coord_lt (i : grid0.Coords) : (i 0).val < 3 := (i 0).isLt

/-- A row of the weight block, by the packed row and the bit field it comes from. -/
theorem wblock_at (P : Vec F S1728x2560 .i8) (nb u t : ℕ) (hu : u < 4) (ht : t < 576) (y : S2304x2560.Idx) (z : S1728x2560.Idx)
    (hy : (y (0 : Fin 2)).val = 576 * u + t) (hz : (z (0 : Fin 2)).val = 576 * ((4 * nb + u) % 3) + t)
    (h1 : (z (1 : Fin 2)).val = (y (1 : Fin 2)).val) :
    wblock nb P y = FloatOps.sitofp .bf16 (field ((4 * nb + u) / 3) (P z)) := by
  unfold wblock
  have hq : (nb * 2304 + (y (0 : Fin 2)).val) / 1728 = (4 * nb + u) / 3 := by omega
  rw [hq]
  congr 3
  funext a
  match a with
  | ⟨0, _⟩ =>
    refine Fin.ext ?_
    show (nb * 2304 + (y (0 : Fin 2)).val) % 1728 = (z (0 : Fin 2)).val
    omega
  | ⟨1, _⟩ => exact Fin.ext h1.symm

/-- One strip of 32 rows, unpacked from bit field `(4 nb + u) / 3` of the packed rows from `576 ((4 nb + u) % 3) + 32 k`,
holds the values of the weight block. -/
theorem agrees_strip (V : View sig .tc .vmem S1728x2560 .i8) (X : BufTy.Contents (Elt F) V.ty) (nb u k : ℕ) (hnb : nb < 3)
    (hu : u < 4) (hk : k < 18) (off off' : Fin 2 → ℕ) (inb : ∀ a, off a + S32x2560.size a ≤ S1728x2560.size a)
    (inb' : ∀ a, off' a + S32x2560.size a ≤ S2304x2560.size a) (hoff : off = ![576 * ((4 * nb + u) % 3) + 32 * k, 0])
    (hoff' : off' = ![576 * u + 32 * k, 0]) (pay : Vec F S32x2560 .i8 → FVec F S32x2560 .bf16)
    (hpay : ∀ x p l, pay x (ix2 p l) = FloatOps.sitofp .bf16 (field ((4 * nb + u) / 3) (x (ix2 p l)))) :
    View.Agrees (wblock nb (V.read (Elt F) X))
      (⟨Rect.unit (s := S2304x2560) off' S32x2560.size inb',
        pay (V.readAt (Elt F) (Rect.unit (s := S1728x2560) off S32x2560.size inb).toLoadRect X)⟩ :
        View.Piece (Elt F) S2304x2560 .bf16) := by
  subst hoff hoff'
  intro x
  obtain ⟨p, l, rfl⟩ : ∃ (p : Fin 32) (l : Fin 2560), x = ix2 p l := ⟨x 0, x 1, by funext a; match a with | ⟨0, _⟩ => rfl | ⟨1, _⟩ => rfl⟩
  have hp := p.isLt
  refine (hpay _ p l).trans (Eq.symm ?_)
  refine wblock_at (V.read (Elt F) X) nb u (32 * k + p.val) hu (by omega) _ _ ?_ ?_ ?_
  · show 576 * u + 32 * k + 1 * p.val = _; omega
  · show 576 * ((4 * nb + u) % 3) + 32 * k + 1 * p.val = _; omega
  · show 0 + 1 * l.val = 0 + 1 * l.val; rfl

/-- Rows of a strip lie in its rectangle. -/
theorem mem_strip (o : ℕ) (off' : Fin 2 → ℕ) (inb' : ∀ a, off' a + S32x2560.size a ≤ S2304x2560.size a) (hoff' : off' = ![o, 0])
    (y : S2304x2560.Idx) (h1 : o ≤ (y (0 : Fin 2)).val) (h2 : (y (0 : Fin 2)).val < o + 32) :
    y ∈ (Rect.unit (s := S2304x2560) off' S32x2560.size inb').set := by
  subst hoff'
  rw [Rect.mem_set_unit]
  intro a
  match a with
  | ⟨0, _⟩ => exact ⟨h1, h2⟩
  | ⟨1, _⟩ => exact ⟨Nat.zero_le _, Nat.lt_of_lt_of_eq (idx2_lt1 y) (Nat.zero_add _).symm⟩

/-- What the third part of the unpacking hands to the fourth: the index `4 nb + 3`, the divisor, and the quotient. -/
def part3Words (nb : ℕ) (v c3 w : BitVec 32) : Prop :=
  v = Scalar.addi (Scalar.muli (BitVec.ofNat 32 nb) 4#32) 3#32 ∧ c3 = 3#32 ∧
    w = Scalar.divsi (Scalar.addi (Scalar.muli (BitVec.ofNat 32 nb) 4#32) 3#32) 3#32

theorem off1_eq (i : grid0.Coords) (k : Fin k0_t1_loop.trips) :
    k0_off1 i k = ![576 * ((4 * (i 0).val + 0) % 3) + 32 * k.val, 0] := by
  have h0 := coord_lt i
  have hk : k.val < 18 := Nat.lt_of_lt_of_le k.isLt k0_t1_abs.2.1
  unfold k0_off1
  generalize (i 0).val = a at h0 ⊢
  generalize k.val = b at hk ⊢
  interval_cases a <;> interval_cases b <;> rfl

theorem off2_eq (k : Fin k0_t1_loop.trips) : k0_off2 k = ![576 * 0 + 32 * k.val, 0] := by
  have hk : k.val < 18 := Nat.lt_of_lt_of_le k.isLt k0_t1_abs.2.1
  unfold k0_off2
  generalize k.val = b at hk ⊢
  interval_cases b <;> rfl

theorem pay3_ix2 (nb : ℕ) (hnb : nb < 3) (arg0 : BitVec 32) (h : arg0 = BitVec.ofNat 32 nb)
    (x : Vec F S32x2560 .i8) (p : Fin 32) (l : Fin 2560) :
    k0_pay3 (F := F) arg0 x (ix2 p l) = FloatOps.sitofp .bf16 (field ((4 * nb + 0) / 3) (x (ix2 p l))) := by
  subst h
  dsimp only [k0_pay3]
  rw [shapeCast_self]
  refine congrArg (FloatOps.sitofp (F := F) .bf16) (unpack_ix2 (R := 32) (r := 8) (n := 2560) rfl x _ _ (by omega) ?_ _ _ p l)
  interval_cases nb <;> decide

theorem off3_eq (i : grid0.Coords) (k : Fin k0_t2_loop.trips) :
    k0_off3 i k = ![576 * ((4 * (i 0).val + 0) % 3) + 32 * k.val, 0] := by
  have h0 := coord_lt i
  have hk : k.val < 18 := Nat.lt_of_lt_of_le k.isLt k0_t2_abs.2.1
  unfold k0_off3
  generalize (i 0).val = a at h0 ⊢
  generalize k.val = b at hk ⊢
  interval_cases a <;> interval_cases b <;> rfl

theorem off4_eq (k : Fin k0_t2_loop.trips) : k0_off4 k = ![576 * 0 + 32 * k.val, 0] := by
  have hk : k.val < 18 := Nat.lt_of_lt_of_le k.isLt k0_t2_abs.2.1
  unfold k0_off4
  generalize k.val = b at hk ⊢
  interval_cases b <;> rfl

theorem pay4_ix2 (nb : ℕ) (hnb : nb < 3) (arg0 : BitVec 32) (h : arg0 = BitVec.ofNat 32 nb)
    (x : Vec F S32x2560 .i8) (p : Fin 32) (l : Fin 2560) :
    k0_pay4 (F := F) arg0 x (ix2 p l) = FloatOps.sitofp .bf16 (field ((4 * nb + 0) / 3) (x (ix2 p l))) := by
  subst h
  dsimp only [k0_pay4]
  rw [shapeCast_self]
  refine congrArg (FloatOps.sitofp (F := F) .bf16) (unpack_ix2 (R := 32) (r := 8) (n := 2560) rfl x _ _ (by omega) ?_ _ _ p l)
  interval_cases nb <;> decide

theorem off5_eq (i : grid0.Coords) (k : Fin k0_t3_loop.trips) :
    k0_off5 i k = ![576 * ((4 * (i 0).val + 1) % 3) + 32 * k.val, 0] := by
  have h0 := coord_lt i
  have hk : k.val < 18 := Nat.lt_of_lt_of_le k.isLt k0_t3_abs.2.1
  unfold k0_off5
  generalize (i 0).val = a at h0 ⊢
  generalize k.val = b at hk ⊢
  interval_cases a <;> interval_cases b <;> rfl

theorem off6_eq (k : Fin k0_t3_loop.trips) : k0_off6 k = ![576 * 1 + 32 * k.val, 0] := by
  have hk : k.val < 18 := Nat.lt_of_lt_of_le k.isLt k0_t3_abs.2.1
  unfold k0_off6
  generalize k.val = b at hk ⊢
  interval_cases b <;> rfl

theorem pay5_ix2 (nb : ℕ) (hnb : nb < 3) (v : BitVec 32) (h : v = Scalar.muli (BitVec.ofNat 32 nb) 4#32)
    (x : Vec F S32x2560 .i8) (p : Fin 32) (l : Fin 2560) :
    k0_pay5 (F := F) v x (ix2 p l) = FloatOps.sitofp .bf16 (field ((4 * nb + 1) / 3) (x (ix2 p l))) := by
  subst h
  dsimp only [k0_pay5]
  rw [shapeCast_self]
  refine congrArg (FloatOps.sitofp (F := F) .bf16) (unpack_ix2 (R := 32) (r := 8) (n := 2560) rfl x _ _ (by omega) ?_ _ _ p l)
  interval_cases nb <;> decide

theorem off7_eq (i : grid0.Coords) (k : Fin k0_t4_loop.trips) :
    k0_off7 i k = ![576 * ((4 * (i 0).val + 1) % 3) + 32 * k.val, 0] := by
  have h0 := coord_lt i
  have hk : k.val < 18 := Nat.lt_of_lt_of_le k.isLt k0_t4_abs.2.1
  unfold k0_off7
  generalize (i 0).val = a at h0 ⊢
  generalize k.val = b at hk ⊢
  interval_cases a <;> interval_cases b <;> rfl

theorem off8_eq (k : Fin k0_t4_loop.trips) : k0_off8 k = ![576 * 1 + 32 * k.val, 0] := by
  have hk : k.val < 18 := Nat.lt_of_lt_of_le k.isLt k0_t4_abs.2.1
  unfold k0_off8
  generalize k.val = b at hk ⊢
  interval_cases b <;> rfl

theorem pay6_ix2 (nb : ℕ) (hnb : nb < 3) (v : BitVec 32) (h : v = Scalar.muli (BitVec.ofNat 32 nb) 4#32)
    (x : Vec F S32x2560 .i8) (p : Fin 32) (l : Fin 2560) :
    k0_pay6 (F := F) v x (ix2 p l) = FloatOps.sitofp .bf16 (field ((4 * nb + 1) / 3) (x (ix2 p l))) := by
  subst h
  dsimp only [k0_pay6]
  rw [shapeCast_self]
  refine congrArg (FloatOps.sitofp (F := F) .bf16) (unpack_ix2 (R := 32) (r := 8) (n := 2560) rfl x _ _ (by omega) ?_ _ _ p l)
  interval_cases nb <;> decide

theorem off9_eq (i : grid0.Coords) (k : Fin k0_t5_loop.trips) :
    k0_off9 i k = ![576 * ((4 * (i 0).val + 2) % 3) + 32 * k.val, 0] := by
  have h0 := coord_lt i
  have hk : k.val < 18 := Nat.lt_of_lt_of_le k.isLt k0_t5_abs.2.1
  unfold k0_off9
  generalize (i 0).val = a at h0 ⊢
  generalize k.val = b at hk ⊢
  interval_cases a <;> interval_cases b <;> rfl

theorem off10_eq (k : Fin k0_t5_loop.trips) : k0_off10 k = ![576 * 2 + 32 * k.val, 0] := by
  have hk : k.val < 18 := Nat.lt_of_lt_of_le k.isLt k0_t5_abs.2.1
  unfold k0_off10
  generalize k.val = b at hk ⊢
  interval_cases b <;> rfl

theorem pay7_ix2 (nb : ℕ) (hnb : nb < 3) (v : BitVec 32) (h : v = Scalar.addi (Scalar.muli (BitVec.ofNat 32 nb) 4#32) 2#32)
    (x : Vec F S32x2560 .i8) (p : Fin 32) (l : Fin 2560) :
    k0_pay7 (F := F) v x (ix2 p l) = FloatOps.sitofp .bf16 (field ((4 * nb + 2) / 3) (x (ix2 p l))) := by
  subst h
  dsimp only [k0_pay7]
  rw [shapeCast_self]
  refine congrArg (FloatOps.sitofp (F := F) .bf16) (unpack_ix2 (R := 32) (r := 8) (n := 2560) rfl x _ _ (by omega) ?_ _ _ p l)
  interval_cases nb <;> decide

theorem off11_eq (i : grid0.Coords) (k : Fin k0_t6_loop.trips) :
    k0_off11 i k = ![576 * ((4 * (i 0).val + 2) % 3) + 32 * k.val, 0] := by
  have h0 := coord_lt i
  have hk : k.val < 18 := Nat.lt_of_lt_of_le k.isLt k0_t6_abs.2.1
  unfold k0_off11
  generalize (i 0).val = a at h0 ⊢
  generalize k.val = b at hk ⊢
  interval_cases a <;> interval_cases b <;> rfl

theorem off12_eq (k : Fin k0_t6_loop.trips) : k0_off12 k = ![576 * 2 + 32 * k.val, 0] := by
  have hk : k.val < 18 := Nat.lt_of_lt_of_le k.isLt k0_t6_abs.2.1
  unfold k0_off12
  generalize k.val = b at hk ⊢
  interval_cases b <;> rfl

theorem pay8_ix2 (nb : ℕ) (hnb : nb < 3) (v : BitVec 32) (h : v = Scalar.addi (Scalar.muli (BitVec.ofNat 32 nb) 4#32) 2#32)
    (x : Vec F S32x2560 .i8) (p : Fin 32) (l : Fin 2560) :
    k0_pay8 (F := F) v x (ix2 p l) = FloatOps.sitofp .bf16 (field ((4 * nb + 2) / 3) (x (ix2 p l))) := by
  subst h
  dsimp only [k0_pay8]
  rw [shapeCast_self]
  refine congrArg (FloatOps.sitofp (F := F) .bf16) (unpack_ix2 (R := 32) (r := 8) (n := 2560) rfl x _ _ (by omega) ?_ _ _ p l)
  interval_cases nb <;> decide

theorem off13_eq (i : grid0.Coords) (k : Fin k0_t7_loop.trips) :
    k0_off13 i k = ![576 * ((4 * (i 0).val + 3) % 3) + 32 * k.val, 0] := by
  have h0 := coord_lt i
  have hk : k.val < 18 := Nat.lt_of_lt_of_le k.isLt k0_t7_abs.2.1
  unfold k0_off13
  generalize (i 0).val = a at h0 ⊢
  generalize k.val = b at hk ⊢
  interval_cases a <;> interval_cases b <;> rfl

theorem off14_eq (k : Fin k0_t7_loop.trips) : k0_off14 k = ![576 * 3 + 32 * k.val, 0] := by
  have hk : k.val < 18 := Nat.lt_of_lt_of_le k.isLt k0_t7_abs.2.1
  unfold k0_off14
  generalize k.val = b at hk ⊢
  interval_cases b <;> rfl

theorem pay9_ix2 (nb : ℕ) (hnb : nb < 3) (v c3 w : BitVec 32) (h : part3Words nb v c3 w)
    (x : Vec F S32x2560 .i8) (p : Fin 32) (l : Fin 2560) :
    k0_pay9 (F := F) v c3 w x (ix2 p l) = FloatOps.sitofp .bf16 (field ((4 * nb + 3) / 3) (x (ix2 p l))) := by
  obtain ⟨rfl, rfl, rfl⟩ := h
  dsimp only [k0_pay9]
  rw [shapeCast_self]
  refine congrArg (FloatOps.sitofp (F := F) .bf16) (unpack_ix2 (R := 32) (r := 8) (n := 2560) rfl x _ _ (by omega) ?_ _ _ p l)
  interval_cases nb <;> decide

theorem off15_eq (i : grid0.Coords) (k : Fin k0_t8_loop.trips) :
    k0_off15 i k = ![576 * ((4 * (i 0).val + 3) % 3) + 32 * k.val, 0] := by
  have h0 := coord_lt i
  have hk : k.val < 18 := Nat.lt_of_lt_of_le k.isLt k0_t8_abs.2.1
  unfold k0_off15
  generalize (i 0).val = a at h0 ⊢
  generalize k.val = b at hk ⊢
  interval_cases a <;> interval_cases b <;> rfl

theorem off16_eq (k : Fin k0_t8_loop.trips) : k0_off16 k = ![576 * 3 + 32 * k.val, 0] := by
  have hk : k.val < 18 := Nat.lt_of_lt_of_le k.isLt k0_t8_abs.2.1
  unfold k0_off16
  generalize k.val = b at hk ⊢
  interval_cases b <;> rfl

theorem pay10_ix2 (nb : ℕ) (hnb : nb < 3) (v c3 w : BitVec 32) (h : part3Words nb v c3 w)
    (x : Vec F S32x2560 .i8) (p : Fin 32) (l : Fin 2560) :
    k0_pay10 (F := F) v c3 w x (ix2 p l) = FloatOps.sitofp .bf16 (field ((4 * nb + 3) / 3) (x (ix2 p l))) := by
  obtain ⟨rfl, rfl, rfl⟩ := h
  dsimp only [k0_pay10]
  rw [shapeCast_self]
  refine congrArg (FloatOps.sitofp (F := F) .bf16) (unpack_ix2 (R := 32) (r := 8) (n := 2560) rfl x _ _ (by omega) ?_ _ _ p l)
  interval_cases nb <;> decide

end Cert.GateUpIdeal.Hand
-- ==== Proof.GateUpStrips.lean ====
/-
  What each of the gate/up kernel's eight unpacking loops leaves: the rows of its run, equal to the weight block.
-/
module

public import proofs.«01_k».proof.Proof.GateUpOffsets

@[expose] public section

set_option maxRecDepth 16384

noncomputable section

namespace Cert.GateUpIdeal.Hand

open Idealize.ShloMosaic Idealize.ShloMosaic.TcCoe Idealize.ShloMosaic.Tactic Idealize.ShloMosaic.ValueIdx
open Cert.GateUpIdeal.Gen Cert.Ternary
open Idealize.SL.Sem

variable {F : FTy → Type} [FloatOps F]

/-- The pieces hold the values of `G` and cover the 576 rows from `o`. -/
abbrev Covers (G : Vec F S2304x2560 .bf16) (o : ℕ) (L : List (View.Piece (Elt F) S2304x2560 .bf16)) : Prop :=
  (∀ p ∈ L, View.Agrees G p) ∧
    ∀ y : S2304x2560.Idx, o ≤ (y (0 : Fin 2)).val → (y (0 : Fin 2)).val < o + 576 → ∃ p ∈ L, y ∈ p.1.set

/-- Four runs of rows written one after another, each holding the values of `G`: the buffer reads `G`. -/
theorem read_four (V : View sig .tc .vmem S2304x2560 .bf16) (f : BufTy.Contents (Elt F) V.ty) (G : Vec F S2304x2560 .bf16)
    (L1 L2 L3 L4 : List (View.Piece (Elt F) S2304x2560 .bf16)) (h1 : Covers G 0 L1) (h2 : Covers G 576 L2)
    (h3 : Covers G 1152 L3) (h4 : Covers G 1728 L4) :
    V.read (Elt F) (V.writes (Elt F) f (L4 ++ (L3 ++ (L2 ++ L1)))) = G := by
  rw [View.writes_append, View.writes_append, View.writes_append]
  funext y
  have hy : (y (0 : Fin 2)).val < 2304 := idx2_lt0 y
  refine View.read_writes_agree V _ G L4 h4.1 y ?_
  by_cases c4 : 1728 ≤ (y (0 : Fin 2)).val
  · exact Or.inl (h4.2 y c4 (by omega))
  refine Or.inr (View.read_writes_agree V _ G L3 h3.1 y ?_)
  by_cases c3 : 1152 ≤ (y (0 : Fin 2)).val
  · exact Or.inl (h3.2 y c3 (by omega))
  refine Or.inr (View.read_writes_agree V _ G L2 h2.1 y ?_)
  by_cases c2 : 576 ≤ (y (0 : Fin 2)).val
  · exact Or.inl (h2.2 y c2 (by omega))
  exact Or.inr (View.read_writes_agree V _ G L1 h1.1 y (Or.inl (h1.2 y (Nat.zero_le _) (by omega))))

variable (𝒱 : Variants) (c : Dev nD) (bd : Option 𝒱.V) (i : grid0.Coords) (arg2 : Memref sig .tc .smem S2 .f32) (harg2 : arg2.IsWhole) (arg3 : Memref sig .tc .vmem S512x2560 .i8) (harg3 : arg3.IsWhole) (arg4 : Memref sig .tc .vmem S512x1 .f32) (harg4 : arg4.IsWhole) (arg5 : Memref sig .tc .vmem S1728x2560 .i8) (harg5 : arg5.IsWhole) (arg6 : Memref sig .tc .vmem S1728x2560 .i8) (harg6 : arg6.IsWhole) (arg7 : Memref sig .tc .vmem S512x2304 .f32) (harg7 : arg7.IsWhole) (arg8 : Memref sig .tc .vmem S512x2304 .bf16) (harg8 : arg8.IsWhole) (arg9 : Memref sig .tc .vmem S2304x2560 .bf16) (harg9 : arg9.IsWhole) (arg10 : Memref sig .tc .vmem S2304x2560 .bf16) (harg10 : arg10.IsWhole)

/-- Loop 1: its pieces hold the values of the weight block and cover rows 0 to 576. -/
theorem pb1_spec (k0_h1 : k0_cond1 i = 1#1) (arg0 : BitVec 32) (h : arg0 = BitVec.ofNat 32 (i 0).val)
    (X : BufTy.Contents (Elt F) arg5.view.ty) :
    Covers (wblock (i 0).val (arg5.view.read (Elt F) X)) 0 (pb_k0_t1 (F := F) 𝒱 c bd i arg2 harg2 arg3 harg3 arg4 harg4 arg5 harg5 arg6 harg6 arg7 harg7 arg8 harg8 arg9 harg9 arg10 harg10 arg0 k0_h1 X k0_t1_loop.trips) :=
  View.strips (wblock (i 0).val (arg5.view.read (Elt F) X))
    (pb_k0_t1 (F := F) 𝒱 c bd i arg2 harg2 arg3 harg3 arg4 harg4 arg5 harg5 arg6 harg6 arg7 harg7 arg8 harg8 arg9 harg9 arg10 harg10 arg0 k0_h1 X)
    (fun k : Fin k0_t1_loop.trips => (⟨Rect.unit (s := S2304x2560) (k0_off2 k) S32x2560.size (k0_off2_inb i k k0_h1),
      k0_pay3 arg0 (arg5.view.readAt (Elt F) (Rect.unit (s := S1728x2560) (k0_off1 i k) S32x2560.size (k0_off1_inb i k k0_h1)).toLoadRect X)⟩ :
      View.Piece (Elt F) S2304x2560 .bf16)) (576 * 0) 32 rfl
    (fun k => by
      rw [pb_k0_t1_succ]
      refine congrArg (· ++ _) ?_
      unfold tripL_k0_t1 trip_k0_t1
      rfl)
    (fun k => agrees_strip arg5.view X (i 0).val 0 k.val (coord_lt i) (by decide) (Nat.lt_of_lt_of_le k.isLt k0_t1_abs.2.1) _ _ _ _
      (off1_eq i k) (off2_eq k) _ (fun x p l => pay3_ix2 _ (coord_lt i) arg0 h x p l))
    (fun k y h1 h2 => mem_strip _ _ (k0_off2_inb i k k0_h1) (off2_eq k) y h1 h2)
    k0_t1_loop.trips (Nat.le_refl _)

/-- Loop 2: its pieces hold the values of the weight block and cover rows 0 to 576. -/
theorem pb2_spec (k0_h1 : k0_cond1 i = 1#1) (arg0 : BitVec 32) (h : arg0 = BitVec.ofNat 32 (i 0).val)
    (X : BufTy.Contents (Elt F) arg6.view.ty) :
    Covers (wblock (i 0).val (arg6.view.read (Elt F) X)) 0 (pb_k0_t2 (F := F) 𝒱 c bd i arg2 harg2 arg3 harg3 arg4 harg4 arg5 harg5 arg6 harg6 arg7 harg7 arg8 harg8 arg9 harg9 arg10 harg10 arg0 k0_h1 X k0_t2_loop.trips) :=
  View.strips (wblock (i 0).val (arg6.view.read (Elt F) X))
    (pb_k0_t2 (F := F) 𝒱 c bd i arg2 harg2 arg3 harg3 arg4 harg4 arg5 harg5 arg6 harg6 arg7 harg7 arg8 harg8 arg9 harg9 arg10 harg10 arg0 k0_h1 X)
    (fun k : Fin k0_t2_loop.trips => (⟨Rect.unit (s := S2304x2560) (k0_off4 k) S32x2560.size (k0_off4_inb i k k0_h1),
      k0_pay4 arg0 (arg6.view.readAt (Elt F) (Rect.unit (s := S1728x2560) (k0_off3 i k) S32x2560.size (k0_off3_inb i k k0_h1)).toLoadRect X)⟩ :
      View.Piece (Elt F) S2304x2560 .bf16)) (576 * 0) 32 rfl
    (fun k => by
      rw [pb_k0_t2_succ]
      refine congrArg (· ++ _) ?_
      unfold tripL_k0_t2 trip_k0_t2
      rfl)
    (fun k => agrees_strip arg6.view X (i 0).val 0 k.val (coord_lt i) (by decide) (Nat.lt_of_lt_of_le k.isLt k0_t2_abs.2.1) _ _ _ _
      (off3_eq i k) (off4_eq k) _ (fun x p l => pay4_ix2 _ (coord_lt i) arg0 h x p l))
    (fun k y h1 h2 => mem_strip _ _ (k0_off4_inb i k k0_h1) (off4_eq k) y h1 h2)
    k0_t2_loop.trips (Nat.le_refl _)

/-- Loop 3: its pieces hold the values of the weight block and cover rows 576 to 1152. -/
theorem pb3_spec (k0_h1 : k0_cond1 i = 1#1) (arg0 : BitVec 32) (v : BitVec 32) (h : v = Scalar.muli (BitVec.ofNat 32 (i 0).val) 4#32)
    (X : BufTy.Contents (Elt F) arg5.view.ty) :
    Covers (wblock (i 0).val (arg5.view.read (Elt F) X)) 576 (pb_k0_t3 (F := F) 𝒱 c bd i arg2 harg2 arg3 harg3 arg4 harg4 arg5 harg5 arg6 harg6 arg7 harg7 arg8 harg8 arg9 harg9 arg10 harg10 arg0 k0_h1 v X k0_t3_loop.trips) :=
  View.strips (wblock (i 0).val (arg5.view.read (Elt F) X))
    (pb_k0_t3 (F := F) 𝒱 c bd i arg2 harg2 arg3 harg3 arg4 harg4 arg5 harg5 arg6 harg6 arg7 harg7 arg8 harg8 arg9 harg9 arg10 harg10 arg0 k0_h1 v X)
    (fun k : Fin k0_t3_loop.trips => (⟨Rect.unit (s := S2304x2560) (k0_off6 k) S32x2560.size (k0_off6_inb i k k0_h1),
      k0_pay5 v (arg5.view.readAt (Elt F) (Rect.unit (s := S1728x2560) (k0_off5 i k) S32x2560.size (k0_off5_inb i k k0_h1)).toLoadRect X)⟩ :
      View.Piece (Elt F) S2304x2560 .bf16)) (576 * 1) 32 rfl
    (fun k => by
      rw [pb_k0_t3_succ]
      refine congrArg (· ++ _) ?_
      unfold tripL_k0_t3 trip_k0_t3
      rfl)
    (fun k => agrees_strip arg5.view X (i 0).val 1 k.val (coord_lt i) (by decide) (Nat.lt_of_lt_of_le k.isLt k0_t3_abs.2.1) _ _ _ _
      (off5_eq i k) (off6_eq k) _ (fun x p l => pay5_ix2 _ (coord_lt i) v h x p l))
    (fun k y h1 h2 => mem_strip _ _ (k0_off6_inb i k k0_h1) (off6_eq k) y h1 h2)
    k0_t3_loop.trips (Nat.le_refl _)

/-- Loop 4: its pieces hold the values of the weight block and cover rows 576 to 1152. -/
theorem pb4_spec (k0_h1 : k0_cond1 i = 1#1) (arg0 : BitVec 32) (v : BitVec 32) (h : v = Scalar.muli (BitVec.ofNat 32 (i 0).val) 4#32)
    (X : BufTy.Contents (Elt F) arg6.view.ty) :
    Covers (wblock (i 0).val (arg6.view.read (Elt F) X)) 576 (pb_k0_t4 (F := F) 𝒱 c bd i arg2 harg2 arg3 harg3 arg4 harg4 arg5 harg5 arg6 harg6 arg7 harg7 arg8 harg8 arg9 harg9 arg10 harg10 arg0 k0_h1 v X k0_t4_loop.trips) :=
  View.strips (wblock (i 0).val (arg6.view.read (Elt F) X))
    (pb_k0_t4 (F := F) 𝒱 c bd i arg2 harg2 arg3 harg3 arg4 harg4 arg5 harg5 arg6 harg6 arg7 harg7 arg8 harg8 arg9 harg9 arg10 harg10 arg0 k0_h1 v X)
    (fun k : Fin k0_t4_loop.trips => (⟨Rect.unit (s := S2304x2560) (k0_off8 k) S32x2560.size (k0_off8_inb i k k0_h1),
      k0_pay6 v (arg6.view.readAt (Elt F) (Rect.unit (s := S1728x2560) (k0_off7 i k) S32x2560.size (k0_off7_inb i k k0_h1)).toLoadRect X)⟩ :
      View.Piece (Elt F) S2304x2560 .bf16)) (576 * 1) 32 rfl
    (fun k => by
      rw [pb_k0_t4_succ]
      refine congrArg (· ++ _) ?_
      unfold tripL_k0_t4 trip_k0_t4
      rfl)
    (fun k => agrees_strip arg6.view X (i 0).val 1 k.val (coord_lt i) (by decide) (Nat.lt_of_lt_of_le k.isLt k0_t4_abs.2.1) _ _ _ _
      (off7_eq i k) (off8_eq k) _ (fun x p l => pay6_ix2 _ (coord_lt i) v h x p l))
    (fun k y h1 h2 => mem_strip _ _ (k0_off8_inb i k k0_h1) (off8_eq k) y h1 h2)
    k0_t4_loop.trips (Nat.le_refl _)

/-- Loop 5: its pieces hold the values of the weight block and cover rows 1152 to 1728. -/
theorem pb5_spec (k0_h1 : k0_cond1 i = 1#1) (arg0 : BitVec 32) (v : BitVec 32) (h : v = Scalar.addi (Scalar.muli (BitVec.ofNat 32 (i 0).val) 4#32) 2#32)
    (X : BufTy.Contents (Elt F) arg5.view.ty) :
    Covers (wblock (i 0).val (arg5.view.read (Elt F) X)) 1152 (pb_k0_t5 (F := F) 𝒱 c bd i arg2 harg2 arg3 harg3 arg4 harg4 arg5 harg5 arg6 harg6 arg7 harg7 arg8 harg8 arg9 harg9 arg10 harg10 arg0 k0_h1 v X k0_t5_loop.trips) :=
  View.strips (wblock (i 0).val (arg5.view.read (Elt F) X))
    (pb_k0_t5 (F := F) 𝒱 c bd i arg2 harg2 arg3 harg3 arg4 harg4 arg5 harg5 arg6 harg6 arg7 harg7 arg8 harg8 arg9 harg9 arg10 harg10 arg0 k0_h1 v X)
    (fun k : Fin k0_t5_loop.trips => (⟨Rect.unit (s := S2304x2560) (k0_off10 k) S32x2560.size (k0_off10_inb i k k0_h1),
      k0_pay7 v (arg5.view.readAt (Elt F) (Rect.unit (s := S1728x2560) (k0_off9 i k) S32x2560.size (k0_off9_inb i k k0_h1)).toLoadRect X)⟩ :
      View.Piece (Elt F) S2304x2560 .bf16)) (576 * 2) 32 rfl
    (fun k => by
      rw [pb_k0_t5_succ]
      refine congrArg (· ++ _) ?_
      unfold tripL_k0_t5 trip_k0_t5
      rfl)
    (fun k => agrees_strip arg5.view X (i 0).val 2 k.val (coord_lt i) (by decide) (Nat.lt_of_lt_of_le k.isLt k0_t5_abs.2.1) _ _ _ _
      (off9_eq i k) (off10_eq k) _ (fun x p l => pay7_ix2 _ (coord_lt i) v h x p l))
    (fun k y h1 h2 => mem_strip _ _ (k0_off10_inb i k k0_h1) (off10_eq k) y h1 h2)
    k0_t5_loop.trips (Nat.le_refl _)

/-- Loop 6: its pieces hold the values of the weight block and cover rows 1152 to 1728. -/
theorem pb6_spec (k0_h1 : k0_cond1 i = 1#1) (arg0 : BitVec 32) (v : BitVec 32) (h : v = Scalar.addi (Scalar.muli (BitVec.ofNat 32 (i 0).val) 4#32) 2#32)
    (X : BufTy.Contents (Elt F) arg6.view.ty) :
    Covers (wblock (i 0).val (arg6.view.read (Elt F) X)) 1152 (pb_k0_t6 (F := F) 𝒱 c bd i arg2 harg2 arg3 harg3 arg4 harg4 arg5 harg5 arg6 harg6 arg7 harg7 arg8 harg8 arg9 harg9 arg10 harg10 arg0 k0_h1 v X k0_t6_loop.trips) :=
  View.strips (wblock (i 0).val (arg6.view.read (Elt F) X))
    (pb_k0_t6 (F := F) 𝒱 c bd i arg2 harg2 arg3 harg3 arg4 harg4 arg5 harg5 arg6 harg6 arg7 harg7 arg8 harg8 arg9 harg9 arg10 harg10 arg0 k0_h1 v X)
    (fun k : Fin k0_t6_loop.trips => (⟨Rect.unit (s := S2304x2560) (k0_off12 k) S32x2560.size (k0_off12_inb i k k0_h1),
      k0_pay8 v (arg6.view.readAt (Elt F) (Rect.unit (s := S1728x2560) (k0_off11 i k) S32x2560.size (k0_off11_inb i k k0_h1)).toLoadRect X)⟩ :
      View.Piece (Elt F) S2304x2560 .bf16)) (576 * 2) 32 rfl
    (fun k => by
      rw [pb_k0_t6_succ]
      refine congrArg (· ++ _) ?_
      unfold tripL_k0_t6 trip_k0_t6
      rfl)
    (fun k => agrees_strip arg6.view X (i 0).val 2 k.val (coord_lt i) (by decide) (Nat.lt_of_lt_of_le k.isLt k0_t6_abs.2.1) _ _ _ _
      (off11_eq i k) (off12_eq k) _ (fun x p l => pay8_ix2 _ (coord_lt i) v h x p l))
    (fun k y h1 h2 => mem_strip _ _ (k0_off12_inb i k k0_h1) (off12_eq k) y h1 h2)
    k0_t6_loop.trips (Nat.le_refl _)

/-- Loop 7: its pieces hold the values of the weight block and cover rows 1728 to 2304. -/
theorem pb7_spec (k0_h1 : k0_cond1 i = 1#1) (v c3 w : BitVec 32) (h : part3Words (i 0).val v c3 w)
    (X : BufTy.Contents (Elt F) arg5.view.ty) :
    Covers (wblock (i 0).val (arg5.view.read (Elt F) X)) 1728 (pb_k0_t7 (F := F) 𝒱 c bd i arg2 harg2 arg3 harg3 arg4 harg4 arg5 harg5 arg6 harg6 arg7 harg7 arg8 harg8 arg9 harg9 arg10 harg10 k0_h1 v c3 w X k0_t7_loop.trips) :=
  View.strips (wblock (i 0).val (arg5.view.read (Elt F) X))
    (pb_k0_t7 (F := F) 𝒱 c bd i arg2 harg2 arg3 harg3 arg4 harg4 arg5 harg5 arg6 harg6 arg7 harg7 arg8 harg8 arg9 harg9 arg10 harg10 k0_h1 v c3 w X)
    (fun k : Fin k0_t7_loop.trips => (⟨Rect.unit (s := S2304x2560) (k0_off14 k) S32x2560.size (k0_off14_inb i k k0_h1),
      k0_pay9 v c3 w (arg5.view.readAt (Elt F) (Rect.unit (s := S1728x2560) (k0_off13 i k) S32x2560.size (k0_off13_inb i k k0_h1)).toLoadRect X)⟩ :
      View.Piece (Elt F) S2304x2560 .bf16)) (576 * 3) 32 rfl
    (fun k => by
      rw [pb_k0_t7_succ]
      refine congrArg (· ++ _) ?_
      unfold tripL_k0_t7 trip_k0_t7
      rfl)
    (fun k => agrees_strip arg5.view X (i 0).val 3 k.val (coord_lt i) (by decide) (Nat.lt_of_lt_of_le k.isLt k0_t7_abs.2.1) _ _ _ _
      (off13_eq i k) (off14_eq k) _ (fun x p l => pay9_ix2 _ (coord_lt i) v c3 w h x p l))
    (fun k y h1 h2 => mem_strip _ _ (k0_off14_inb i k k0_h1) (off14_eq k) y h1 h2)
    k0_t7_loop.trips (Nat.le_refl _)

/-- Loop 8: its pieces hold the values of the weight block and cover rows 1728 to 2304. -/
theorem pb8_spec (k0_h1 : k0_cond1 i = 1#1) (v c3 w : BitVec 32) (h : part3Words (i 0).val v c3 w)
    (X : BufTy.Contents (Elt F) arg6.view.ty) :
    Covers (wblock (i 0).val (arg6.view.read (Elt F) X)) 1728 (pb_k0_t8 (F := F) 𝒱 c bd i arg2 harg2 arg3 harg3 arg4 harg4 arg5 harg5 arg6 harg6 arg7 harg7 arg8 harg8 arg9 harg9 arg10 harg10 k0_h1 v c3 w X k0_t8_loop.trips) :=
  View.strips (wblock (i 0).val (arg6.view.read (Elt F) X))
    (pb_k0_t8 (F := F) 𝒱 c bd i arg2 harg2 arg3 harg3 arg4 harg4 arg5 harg5 arg6 harg6 arg7 harg7 arg8 harg8 arg9 harg9 arg10 harg10 k0_h1 v c3 w X)
    (fun k : Fin k0_t8_loop.trips => (⟨Rect.unit (s := S2304x2560) (k0_off16 k) S32x2560.size (k0_off16_inb i k k0_h1),
      k0_pay10 v c3 w (arg6.view.readAt (Elt F) (Rect.unit (s := S1728x2560) (k0_off15 i k) S32x2560.size (k0_off15_inb i k k0_h1)).toLoadRect X)⟩ :
      View.Piece (Elt F) S2304x2560 .bf16)) (576 * 3) 32 rfl
    (fun k => by
      rw [pb_k0_t8_succ]
      refine congrArg (· ++ _) ?_
      unfold tripL_k0_t8 trip_k0_t8
      rfl)
    (fun k => agrees_strip arg6.view X (i 0).val 3 k.val (coord_lt i) (by decide) (Nat.lt_of_lt_of_le k.isLt k0_t8_abs.2.1) _ _ _ _
      (off15_eq i k) (off16_eq k) _ (fun x p l => pay10_ix2 _ (coord_lt i) v c3 w h x p l))
    (fun k y h1 h2 => mem_strip _ _ (k0_off16_inb i k k0_h1) (off16_eq k) y h1 h2)
    k0_t8_loop.trips (Nat.le_refl _)

end Cert.GateUpIdeal.Hand
-- ==== Proof.GateUpUnpack.lean ====
/-
  The unpacking branch of the gate/up kernel's body. At the first row block of a weight block it leaves both scratch
  buffers equal to the unpacked weight block; at the other row blocks it does nothing.
-/
module

public import proofs.«01_k».proof.Proof.GateUpStrips
public import Idealize.ShloMosaic.Lib.Pipeline.FrameBody
public import Idealize.ShloMosaic.Lib.Ring
public import Idealize.ShloMosaic.Lib.Tactic

@[expose] public section

set_option maxRecDepth 16384

noncomputable section

namespace Cert.GateUpIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal.Gen Cert.Ternary

variable {F : FTy → Type} [FloatOps F]

local notation "𝕄" => MT nD τ sig Unit (Elt F) ℕ (UR sig nD τ) ℕ

/-- The branch, over the parts of the printed body. -/
def branchProg (i : grid0.Coords) (arg2 : Memref sig .tc .smem S2 .f32) (harg2 : arg2.IsWhole) (arg3 : Memref sig .tc .vmem S512x2560 .i8) (harg3 : arg3.IsWhole) (arg4 : Memref sig .tc .vmem S512x1 .f32) (harg4 : arg4.IsWhole) (arg5 : Memref sig .tc .vmem S1728x2560 .i8) (harg5 : arg5.IsWhole) (arg6 : Memref sig .tc .vmem S1728x2560 .i8) (harg6 : arg6.IsWhole) (arg7 : Memref sig .tc .vmem S512x2304 .f32) (harg7 : arg7.IsWhole) (arg8 : Memref sig .tc .vmem S512x2304 .bf16) (harg8 : arg8.IsWhole) (arg9 : Memref sig .tc .vmem S2304x2560 .bf16) (harg9 : arg9.IsWhole) (arg10 : Memref sig .tc .vmem S2304x2560 .bf16) (harg10 : arg10.IsWhole) :
    Prog (TpuEff nD τ sig (Elt F) Λ₀ .tc) PUnit := do
  if k0_h1 : k0_cond1 i = 1#1 then do
    let v227 : BitVec 32 ← k0_part1 i arg2 harg2 arg3 harg3 arg4 harg4 arg5 harg5 arg6 harg6 arg7 harg7 arg8 harg8 arg9 harg9 arg10 harg10 (BitVec.ofNat 32 (i 0).val) k0_h1
    let v260 : BitVec 32 ← k0_part2 i arg2 harg2 arg3 harg3 arg4 harg4 arg5 harg5 arg6 harg6 arg7 harg7 arg8 harg8 arg9 harg9 arg10 harg10 (BitVec.ofNat 32 (i 0).val) k0_h1 v227
    let ⟨v292, c3_i32_179, v293⟩ : Σ' (v292 : BitVec 32) (c3_i32_179 : BitVec 32), BitVec 32 ← k0_part3 i arg2 harg2 arg3 harg3 arg4 harg4 arg5 harg5 arg6 harg6 arg7 harg7 arg8 harg8 arg9 harg9 arg10 harg10 (BitVec.ofNat 32 (i 0).val) k0_h1 v260
    Scf.Loop.for k0_t7_loop (k0_t7_ok i k0_h1) ⟨⟩ (k0_t7_body i arg2 harg2 arg3 harg3 arg4 harg4 arg5 harg5 arg6 harg6 arg7 harg7 arg8 harg8 arg9 harg9 arg10 harg10 k0_h1 v292 c3_i32_179 v293)
    Scf.Loop.for k0_t8_loop (k0_t8_ok i k0_h1) ⟨⟩ (k0_t8_body i arg2 harg2 arg3 harg3 arg4 harg4 arg5 harg5 arg6 harg6 arg7 harg7 arg8 harg8 arg9 harg9 arg10 harg10 k0_h1 v292 c3_i32_179 v293)
    pure ⟨⟩
  else do
    pure ⟨⟩

set_option maxHeartbeats 800000 in
/-- The branch taken: both scratch buffers end equal to the weight block. -/
theorem branch_taken (c : Dev nD) (i : grid0.Coords) (arg2 : Memref sig .tc .smem S2 .f32) (harg2 : arg2.IsWhole) (arg3 : Memref sig .tc .vmem S512x2560 .i8) (harg3 : arg3.IsWhole) (arg4 : Memref sig .tc .vmem S512x1 .f32) (harg4 : arg4.IsWhole) (arg5 : Memref sig .tc .vmem S1728x2560 .i8) (harg5 : arg5.IsWhole) (arg6 : Memref sig .tc .vmem S1728x2560 .i8) (harg6 : arg6.IsWhole) (arg7 : Memref sig .tc .vmem S512x2304 .f32) (harg7 : arg7.IsWhole) (arg8 : Memref sig .tc .vmem S512x2304 .bf16) (harg8 : arg8.IsWhole) (arg9 : Memref sig .tc .vmem S2304x2560 .bf16) (harg9 : arg9.IsWhole) (arg10 : Memref sig .tc .vmem S2304x2560 .bf16) (harg10 : arg10.IsWhole) (hc : k0_cond1 i = 1#1) (x3 x4 : Vec F S1728x2560 .i8) :
    ∀ (E : Set ℕ) (K : PUnit → sProp 𝕄),
      iprop(owns (c : Thread nD τ) arg5 fullShare x3 ∗ owns (c : Thread nD τ) arg6 fullShare x4 ∗ (∃ d, owns (c : Thread nD τ) arg9 fullShare d) ∗ (∃ d, owns (c : Thread nD τ) arg10 fullShare d)
          ∗ (iprop(owns (c : Thread nD τ) arg5 fullShare x3 ∗ owns (c : Thread nD τ) arg6 fullShare x4 ∗ owns (c : Thread nD τ) arg9 fullShare (wblock (i 0).val x3) ∗ owns (c : Thread nD τ) arg10 fullShare (wblock (i 0).val x4)) -∗ K ⟨⟩))
        ⊢ wp frame (wpE (defs₀ (F := F)) Variants.none c none) E (branchProg i arg2 harg2 arg3 harg3 arg4 harg4 arg5 harg5 arg6 harg6 arg7 harg7 arg8 harg8 arg9 harg9 arg10 harg10) K := by
  intro E K
  unfold branchProg
  simp only [k0_part1_eq_skeleton, k0_part2_eq_skeleton, k0_part3_eq_skeleton]
  unfold owns
  iintro ⟨⟨%f3, %hf3, H3⟩, ⟨%f4, %hf4, H4⟩, ⟨%ds0, %fs0, -, HS0⟩, ⟨%ds1, %fs1, -, HS1⟩, Hk⟩
  sl_exec (disch := first | sl_exact hc)
  sl_step
  iapply Hk
  isplitl [H3]
  · iexists _; isplitr; · ipureintro; exact hf3
    iexact H3
  isplitl [H4]
  · iexists _; isplitr; · ipureintro; exact hf4
    iexact H4
  isplitl [HS0]
  · iexists _; isplitr; swap; · iexact HS0
    ipureintro
    subst hf3
    refine read_four (F := F) _ _ _ _ _ _ _ ?_ ?_ ?_ ?_
    · exact pb1_spec _ _ _ i arg2 harg2 arg3 harg3 arg4 harg4 arg5 harg5 arg6 harg6 arg7 harg7 arg8 harg8 arg9 harg9 arg10 harg10 hc _ rfl _
    · exact pb3_spec _ _ _ i arg2 harg2 arg3 harg3 arg4 harg4 arg5 harg5 arg6 harg6 arg7 harg7 arg8 harg8 arg9 harg9 arg10 harg10 hc _ _ rfl _
    · exact pb5_spec _ _ _ i arg2 harg2 arg3 harg3 arg4 harg4 arg5 harg5 arg6 harg6 arg7 harg7 arg8 harg8 arg9 harg9 arg10 harg10 hc _ _ rfl _
    · exact pb7_spec _ _ _ i arg2 harg2 arg3 harg3 arg4 harg4 arg5 harg5 arg6 harg6 arg7 harg7 arg8 harg8 arg9 harg9 arg10 harg10 hc _ _ _ ⟨rfl, rfl, rfl⟩ _
  iexists _; isplitr; swap; · iexact HS1
  ipureintro
  subst hf4
  refine read_four (F := F) _ _ _ _ _ _ _ ?_ ?_ ?_ ?_
  · exact pb2_spec _ _ _ i arg2 harg2 arg3 harg3 arg4 harg4 arg5 harg5 arg6 harg6 arg7 harg7 arg8 harg8 arg9 harg9 arg10 harg10 hc _ rfl _
  · exact pb4_spec _ _ _ i arg2 harg2 arg3 harg3 arg4 harg4 arg5 harg5 arg6 harg6 arg7 harg7 arg8 harg8 arg9 harg9 arg10 harg10 hc _ _ rfl _
  · exact pb6_spec _ _ _ i arg2 harg2 arg3 harg3 arg4 harg4 arg5 harg5 arg6 harg6 arg7 harg7 arg8 harg8 arg9 harg9 arg10 harg10 hc _ _ rfl _
  · exact pb8_spec _ _ _ i arg2 harg2 arg3 harg3 arg4 harg4 arg5 harg5 arg6 harg6 arg7 harg7 arg8 harg8 arg9 harg9 arg10 harg10 hc _ _ _ ⟨rfl, rfl, rfl⟩ _

/-- The branch not taken: the scratch buffers stay as they were. -/
theorem branch_not_taken (c : Dev nD) (i : grid0.Coords) (arg2 : Memref sig .tc .smem S2 .f32) (harg2 : arg2.IsWhole) (arg3 : Memref sig .tc .vmem S512x2560 .i8) (harg3 : arg3.IsWhole) (arg4 : Memref sig .tc .vmem S512x1 .f32) (harg4 : arg4.IsWhole) (arg5 : Memref sig .tc .vmem S1728x2560 .i8) (harg5 : arg5.IsWhole) (arg6 : Memref sig .tc .vmem S1728x2560 .i8) (harg6 : arg6.IsWhole) (arg7 : Memref sig .tc .vmem S512x2304 .f32) (harg7 : arg7.IsWhole) (arg8 : Memref sig .tc .vmem S512x2304 .bf16) (harg8 : arg8.IsWhole) (arg9 : Memref sig .tc .vmem S2304x2560 .bf16) (harg9 : arg9.IsWhole) (arg10 : Memref sig .tc .vmem S2304x2560 .bf16) (harg10 : arg10.IsWhole) (hc : ¬ k0_cond1 i = 1#1) (E : Set ℕ) (K : PUnit → sProp 𝕄) :
    K ⟨⟩ ⊢ wp frame (wpE (defs₀ (F := F)) Variants.none c none) E (branchProg i arg2 harg2 arg3 harg3 arg4 harg4 arg5 harg5 arg6 harg6 arg7 harg7 arg8 harg8 arg9 harg9 arg10 harg10) K := by
  unfold branchProg
  rw [dif_neg hc]
  iintro H
  sl_step
  iexact H

end Cert.GateUpIdeal.Hand
-- ==== Proof.GateUpBody.lean ====
/-
  The gate/up kernel's body after its unpacking branch: nine column chunks of 256, each the squared relu of the gate
  product times the up product, from the unpacked weight blocks.
-/
module

public import proofs.«01_k».proof.Proof.GateUpUnpack

@[expose] public section

set_option maxRecDepth 16384

noncomputable section

namespace Cert.GateUpIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal.Gen Cert.Ternary

variable {F : FTy → Type} [FloatOps F]

local notation "𝕄" => MT nD τ sig Unit (Elt F) ℕ (UR sig nD τ) ℕ

theorem chunk_inb (o : ℕ) (h : o + 256 ≤ 2304) (a : Fin 2) : (![o, 0] : Fin 2 → ℕ) a + S256x2560.size a ≤ S2304x2560.size a := by
  match a with
  | ⟨0, _⟩ => exact h
  | ⟨1, _⟩ => exact Nat.le_refl _

theorem first_pos : 0 < S1.numel := by decide

/-- One chunk of 256 columns, from the rows `o` to `o + 256` of the two weight blocks. -/
def chunk (ws : Vec F S2 .f32) (codes : Vec F S512x2560 .i8) (scales : Vec F S512x1 .f32) (X9 X10 : Vec F S2304x2560 .bf16)
    (o : ℕ) (h : o + 256 ≤ 2304) : FVec F S512x256 .f32 :=
  k0_pay12 scales codes (VecWindow.window X9 ![o, 0] S256x2560.size (chunk_inb o h)) (ws (ix1 (0 : Fin 2)))
    (VecWindow.window X10 ![o, 0] S256x2560.size (chunk_inb o h)) (ws (ix1 (1 : Fin 2)))

/-- The same chunk, over the loads the kernel performs. -/
def rawChunk (arg2 : Memref sig .tc .smem S2 .f32) (harg2 : arg2.IsWhole) (arg3 : Memref sig .tc .vmem S512x2560 .i8) (harg3 : arg3.IsWhole) (arg4 : Memref sig .tc .vmem S512x1 .f32) (harg4 : arg4.IsWhole)
    (arg9 : Memref sig .tc .vmem S2304x2560 .bf16) (harg9 : arg9.IsWhole) (arg10 : Memref sig .tc .vmem S2304x2560 .bf16) (harg10 : arg10.IsWhole)
    (ws : Vec F S2 .f32) (codes : Vec F S512x2560 .i8) (scales : Vec F S512x1 .f32) (X9 X10 : Vec F S2304x2560 .bf16)
    (o : ℕ) (h : o + 256 ≤ 2304) : FVec F S512x256 .f32 :=
  k0_pay12 (arg4.view.readAt (Elt F) (Rect.unit (s := S512x1) ![0, 0] S512x1.size inb_S512x1_S512x1_0_0).toLoadRect (harg4.unread scales))
    (arg3.view.readAt (Elt F) (Rect.unit (s := S512x2560) ![0, 0] S512x2560.size inb_S512x2560_S512x2560_0_0).toLoadRect (harg3.unread codes))
    (arg9.view.readAt (Elt F) (Rect.unit (s := S2304x2560) ![o, 0] S256x2560.size (chunk_inb o h)).toLoadRect (harg9.unread X9))
    (arg2.view.readAt (Elt F) (Rect.unit (s := S2) ![0] S1.size inb_S2_S1_0).toLoadRect (harg2.unread ws) (Shape.Idx.first first_pos))
    (arg10.view.readAt (Elt F) (Rect.unit (s := S2304x2560) ![o, 0] S256x2560.size (chunk_inb o h)).toLoadRect (harg10.unread X10))
    (arg2.view.readAt (Elt F) (Rect.unit (s := S2) ![1] S1.size inb_S2_S1_1).toLoadRect (harg2.unread ws) (Shape.Idx.first first_pos))

theorem rawChunk_eq (arg2 : Memref sig .tc .smem S2 .f32) (harg2 : arg2.IsWhole) (arg3 : Memref sig .tc .vmem S512x2560 .i8) (harg3 : arg3.IsWhole) (arg4 : Memref sig .tc .vmem S512x1 .f32) (harg4 : arg4.IsWhole)
    (arg9 : Memref sig .tc .vmem S2304x2560 .bf16) (harg9 : arg9.IsWhole) (arg10 : Memref sig .tc .vmem S2304x2560 .bf16) (harg10 : arg10.IsWhole)
    (ws : Vec F S2 .f32) (codes : Vec F S512x2560 .i8) (scales : Vec F S512x1 .f32) (X9 X10 : Vec F S2304x2560 .bf16)
    (o : ℕ) (h : o + 256 ≤ 2304) :
    rawChunk arg2 harg2 arg3 harg3 arg4 harg4 arg9 harg9 arg10 harg10 ws codes scales X9 X10 o h = chunk ws codes scales X9 X10 o h := by
  unfold rawChunk chunk
  have e0 : arg2.view.readAt (Elt F) (Rect.unit (s := S2) ![0] S1.size inb_S2_S1_0).toLoadRect (harg2.unread ws) (Shape.Idx.first first_pos) = ws (ix1 (0 : Fin 2)) := by
    rw [View.readAt_apply, harg2.read_unread]
    exact congrArg ws (funext fun a => by match a with | ⟨0, _⟩ => rfl)
  have e1 : arg2.view.readAt (Elt F) (Rect.unit (s := S2) ![1] S1.size inb_S2_S1_1).toLoadRect (harg2.unread ws) (Shape.Idx.first first_pos) = ws (ix1 (1 : Fin 2)) := by
    rw [View.readAt_apply, harg2.read_unread]
    exact congrArg ws (funext fun a => by match a with | ⟨0, _⟩ => rfl)
  rw [e0, e1, View.readAt_full, View.readAt_full, harg3.read_unread, harg4.read_unread, View.readAt_unit _ _ (chunk_inb o h) rfl (chunk_inb o h), View.readAt_unit _ _ (chunk_inb o h) rfl (chunk_inb o h),
    harg9.read_unread, harg10.read_unread]

section Payloads

variable (v3 : Vec F S512x1 .f32) (v4 : Vec F S512x2560 .i8) (w w' : Vec F S256x2560 .bf16) (s s' : Elt F .f32)

/-! The nine chunks' payloads are one chain of operations. -/

theorem payB0 : k0_pay13 v3 v4 w s w' s' = truncf .bf16 (k0_pay12 v3 v4 w s w' s') bitsLt_bf16_f32 := rfl
theorem payF1 : k0_pay15 v3 (k0_pay11 v4) (k0_pay14 v3 v4 w) s w' s' = k0_pay12 v3 v4 w s w' s' := rfl
theorem payB1 : k0_pay16 v3 (k0_pay11 v4) (k0_pay14 v3 v4 w) s w' s' = truncf .bf16 (k0_pay12 v3 v4 w s w' s') bitsLt_bf16_f32 := rfl
theorem payF2 : k0_pay17 v3 (k0_pay11 v4) w s w' s' = k0_pay12 v3 v4 w s w' s' := rfl
theorem payB2 : k0_pay18 v3 (k0_pay11 v4) w s w' s' = truncf .bf16 (k0_pay12 v3 v4 w s w' s') bitsLt_bf16_f32 := rfl
theorem payF3 : k0_pay19 v3 (k0_pay11 v4) w s w' s' = k0_pay12 v3 v4 w s w' s' := rfl
theorem payB3 : k0_pay20 v3 (k0_pay11 v4) w s w' s' = truncf .bf16 (k0_pay12 v3 v4 w s w' s') bitsLt_bf16_f32 := rfl
theorem payF4 : k0_pay24 (k0_pay21 v3 (k0_pay11 v4) w s) (k0_pay22 v3 (k0_pay11 v4) w') (k0_pay23 s') = k0_pay12 v3 v4 w s w' s' := rfl
theorem payB4 : k0_pay25 (k0_pay21 v3 (k0_pay11 v4) w s) (k0_pay22 v3 (k0_pay11 v4) w') (k0_pay23 s') = truncf .bf16 (k0_pay12 v3 v4 w s w' s') bitsLt_bf16_f32 := rfl
theorem payF5 : k0_pay26 v3 (k0_pay11 v4) w s w' s' = k0_pay12 v3 v4 w s w' s' := rfl
theorem payB5 : k0_pay27 v3 (k0_pay11 v4) w s w' s' = truncf .bf16 (k0_pay12 v3 v4 w s w' s') bitsLt_bf16_f32 := rfl
theorem payF6 : k0_pay29 v3 (k0_pay11 v4) (k0_pay28 v3 (k0_pay11 v4) w) s w' s' = k0_pay12 v3 v4 w s w' s' := rfl
theorem payB6 : k0_pay30 v3 (k0_pay11 v4) (k0_pay28 v3 (k0_pay11 v4) w) s w' s' = truncf .bf16 (k0_pay12 v3 v4 w s w' s') bitsLt_bf16_f32 := rfl
theorem payF7 : k0_pay31 v3 (k0_pay11 v4) w s w' s' = k0_pay12 v3 v4 w s w' s' := rfl
theorem payB7 : k0_pay32 v3 (k0_pay11 v4) w s w' s' = truncf .bf16 (k0_pay12 v3 v4 w s w' s') bitsLt_bf16_f32 := rfl
theorem payF8 : k0_pay1 v3 (k0_pay11 v4) w s w' s' = k0_pay12 v3 v4 w s w' s' := rfl
theorem payB8 : k0_pay2 v3 (k0_pay11 v4) w s w' s' = truncf .bf16 (k0_pay12 v3 v4 w s w' s') bitsLt_bf16_f32 := rfl

end Payloads

/-- Nine chunks of 256 columns, side by side. -/
def nine {e : EltTy} (C : (o : ℕ) → o + 256 ≤ 2304 → Vec F S512x256 e) : Vec F S512x2304 e := fun y =>
  C (256 * ((y (1 : Fin 2)).val / 256)) (by have := idx2_lt1 y; omega) (ix2 (y (0 : Fin 2)) (⟨(y (1 : Fin 2)).val % 256, Nat.mod_lt _ (by decide)⟩ : Fin 256))

/-- What the body leaves in its `f32` output block. -/
def outF (ws : Vec F S2 .f32) (codes : Vec F S512x2560 .i8) (scales : Vec F S512x1 .f32) (X9 X10 : Vec F S2304x2560 .bf16) : Vec F S512x2304 .f32 :=
  nine (F := F) fun o h => chunk ws codes scales X9 X10 o h

/-- What the body leaves in its `bf16` output block: the same, rounded. -/
def outB (ws : Vec F S2 .f32) (codes : Vec F S512x2560 .i8) (scales : Vec F S512x1 .f32) (X9 X10 : Vec F S2304x2560 .bf16) : Vec F S512x2304 .bf16 :=
  truncf .bf16 (outF ws codes scales X9 X10) bitsLt_bf16_f32

theorem agrees_nine {e : EltTy} (C : (o : ℕ) → o + 256 ≤ 2304 → Vec F S512x256 e) (j : ℕ) (o : ℕ) (ho : o = 256 * j) (h : o + 256 ≤ 2304)
    (inb : ∀ a, (![0, o] : Fin 2 → ℕ) a + S512x256.size a ≤ S512x2304.size a) (w : Vec F S512x256 e) (hw : w = C o h) :
    View.Agrees (nine C) (⟨Rect.unit (s := S512x2304) ![0, o] S512x256.size inb, w⟩ : View.Piece (Elt F) S512x2304 e) := by
  subst hw
  intro x
  obtain ⟨r, l, rfl⟩ : ∃ (r : Fin 512) (l : Fin 256), x = ix2 r l := ⟨x 0, x 1, by funext a; match a with | ⟨0, _⟩ => rfl | ⟨1, _⟩ => rfl⟩
  have hl := l.isLt
  have key : ∀ (o' : ℕ) (h' : o' + 256 ≤ 2304) (z : S512x256.Idx), o' = o → z = ix2 r l → C o h (ix2 r l) = C o' h' z := by
    rintro o' h' z rfl rfl; rfl
  refine key _ _ _ ?_ ?_
  · show 256 * ((o + 1 * l.val) / 256) = o; omega
  · funext a
    match a with
    | ⟨0, _⟩ => exact Fin.ext (by show 0 + 1 * r.val = r.val; omega)
    | ⟨1, _⟩ => exact Fin.ext (by show (o + 1 * l.val) % 256 = l.val; omega)

theorem mem_nine (o : ℕ) (inb : ∀ a, (![0, o] : Fin 2 → ℕ) a + S512x256.size a ≤ S512x2304.size a) (y : S512x2304.Idx)
    (h1 : o ≤ (y (1 : Fin 2)).val) (h2 : (y (1 : Fin 2)).val < o + 256) :
    y ∈ (Rect.unit (s := S512x2304) ![0, o] S512x256.size inb).set := by
  rw [Rect.mem_set_unit]
  intro a
  match a with
  | ⟨0, _⟩ => exact ⟨Nat.zero_le _, Nat.lt_of_lt_of_eq (idx2_lt0 y) (Nat.zero_add _).symm⟩
  | ⟨1, _⟩ => exact ⟨h1, h2⟩

/-- Nine pieces written side by side: the buffer reads the nine chunks. -/
theorem read_nine {e : EltTy} (V : View sig .tc .vmem S512x2304 e) (f : BufTy.Contents (Elt F) V.ty) (C : (o : ℕ) → o + 256 ≤ 2304 → Vec F S512x256 e)
    (i0 : ∀ a, (![0, 0] : Fin 2 → ℕ) a + S512x256.size a ≤ S512x2304.size a) (i1 : ∀ a, (![0, 256] : Fin 2 → ℕ) a + S512x256.size a ≤ S512x2304.size a) (i2 : ∀ a, (![0, 512] : Fin 2 → ℕ) a + S512x256.size a ≤ S512x2304.size a) (i3 : ∀ a, (![0, 768] : Fin 2 → ℕ) a + S512x256.size a ≤ S512x2304.size a) (i4 : ∀ a, (![0, 1024] : Fin 2 → ℕ) a + S512x256.size a ≤ S512x2304.size a) (i5 : ∀ a, (![0, 1280] : Fin 2 → ℕ) a + S512x256.size a ≤ S512x2304.size a) (i6 : ∀ a, (![0, 1536] : Fin 2 → ℕ) a + S512x256.size a ≤ S512x2304.size a) (i7 : ∀ a, (![0, 1792] : Fin 2 → ℕ) a + S512x256.size a ≤ S512x2304.size a) (i8 : ∀ a, (![0, 2048] : Fin 2 → ℕ) a + S512x256.size a ≤ S512x2304.size a)
    (w0 w1 w2 w3 w4 w5 w6 w7 w8 : Vec F S512x256 e) (h0 : w0 = C 0 (by decide)) (h1 : w1 = C 256 (by decide)) (h2 : w2 = C 512 (by decide)) (h3 : w3 = C 768 (by decide)) (h4 : w4 = C 1024 (by decide))
    (h5 : w5 = C 1280 (by decide)) (h6 : w6 = C 1536 (by decide)) (h7 : w7 = C 1792 (by decide)) (h8 : w8 = C 2048 (by decide)) :
    V.read (Elt F) (V.writes (Elt F) f [⟨Rect.unit (s := S512x2304) ![0, 2048] S512x256.size i8, w8⟩,
      ⟨Rect.unit (s := S512x2304) ![0, 1792] S512x256.size i7, w7⟩,
      ⟨Rect.unit (s := S512x2304) ![0, 1536] S512x256.size i6, w6⟩,
      ⟨Rect.unit (s := S512x2304) ![0, 1280] S512x256.size i5, w5⟩,
      ⟨Rect.unit (s := S512x2304) ![0, 1024] S512x256.size i4, w4⟩,
      ⟨Rect.unit (s := S512x2304) ![0, 768] S512x256.size i3, w3⟩,
      ⟨Rect.unit (s := S512x2304) ![0, 512] S512x256.size i2, w2⟩,
      ⟨Rect.unit (s := S512x2304) ![0, 256] S512x256.size i1, w1⟩,
      ⟨Rect.unit (s := S512x2304) ![0, 0] S512x256.size i0, w0⟩]) = nine C := by
  funext y
  refine View.read_writes_agree V f (nine C) _ ?_ y (Or.inl ?_)
  · intro p hp
    simp only [List.mem_cons, List.not_mem_nil, or_false] at hp
    rcases hp with rfl | rfl | rfl | rfl | rfl | rfl | rfl | rfl | rfl
    · exact agrees_nine C 8 2048 rfl (by decide) i8 w8 h8
    · exact agrees_nine C 7 1792 rfl (by decide) i7 w7 h7
    · exact agrees_nine C 6 1536 rfl (by decide) i6 w6 h6
    · exact agrees_nine C 5 1280 rfl (by decide) i5 w5 h5
    · exact agrees_nine C 4 1024 rfl (by decide) i4 w4 h4
    · exact agrees_nine C 3 768 rfl (by decide) i3 w3 h3
    · exact agrees_nine C 2 512 rfl (by decide) i2 w2 h2
    · exact agrees_nine C 1 256 rfl (by decide) i1 w1 h1
    · exact agrees_nine C 0 0 rfl (by decide) i0 w0 h0
  · have hy := idx2_lt1 y
    have hcases : (y (1 : Fin 2)).val / 256 < 9 := by omega
    obtain ⟨q, hq⟩ : ∃ q, (y (1 : Fin 2)).val / 256 = q := ⟨_, rfl⟩
    rw [hq] at hcases
    interval_cases q
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_nine 0 i0 y (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_nine 256 i1 y (by omega) (by omega)⟩
    · exact ⟨_, List.mem_cons_of_mem _ (List.mem_cons_of_mem _ (List.mem_cons_of_mem _ (List.mem_cons_of_mem _ (List.mem_cons_of_mem _ (List.mem_cons_of_mem _ (List.mem_cons_self)))))), mem_nine 512 i2 y (by omega) (by omega)⟩
    · exact ⟨_, List.mem_cons_of_mem _ (List.mem_cons_of_mem _ (List.mem_cons_of_mem _ (List.mem_cons_of_mem _ (List.mem_cons_of_mem _ (List.mem_cons_self))))), mem_nine 768 i3 y (by omega) (by omega)⟩
    · exact ⟨_, List.mem_cons_of_mem _ (List.mem_cons_of_mem _ (List.mem_cons_of_mem _ (List.mem_cons_of_mem _ (List.mem_cons_self)))), mem_nine 1024 i4 y (by omega) (by omega)⟩
    · exact ⟨_, List.mem_cons_of_mem _ (List.mem_cons_of_mem _ (List.mem_cons_of_mem _ (List.mem_cons_self))), mem_nine 1280 i5 y (by omega) (by omega)⟩
    · exact ⟨_, List.mem_cons_of_mem _ (List.mem_cons_of_mem _ (List.mem_cons_self)), mem_nine 1536 i6 y (by omega) (by omega)⟩
    · exact ⟨_, List.mem_cons_of_mem _ (List.mem_cons_self), mem_nine 1792 i7 y (by omega) (by omega)⟩
    · exact ⟨_, List.mem_cons_self, mem_nine 2048 i8 y (by omega) (by omega)⟩

/-- The first part of the body after the branch. -/
def part4Tail (i : grid0.Coords) (arg2 : Memref sig .tc .smem S2 .f32) (harg2 : arg2.IsWhole) (arg3 : Memref sig .tc .vmem S512x2560 .i8) (harg3 : arg3.IsWhole) (arg4 : Memref sig .tc .vmem S512x1 .f32) (harg4 : arg4.IsWhole) (arg5 : Memref sig .tc .vmem S1728x2560 .i8) (harg5 : arg5.IsWhole) (arg6 : Memref sig .tc .vmem S1728x2560 .i8) (harg6 : arg6.IsWhole) (arg7 : Memref sig .tc .vmem S512x2304 .f32) (harg7 : arg7.IsWhole) (arg8 : Memref sig .tc .vmem S512x2304 .bf16) (harg8 : arg8.IsWhole) (arg9 : Memref sig .tc .vmem S2304x2560 .bf16) (harg9 : arg9.IsWhole) (arg10 : Memref sig .tc .vmem S2304x2560 .bf16) (harg10 : arg10.IsWhole) :
    Prog (TpuEff nD τ sig (Elt F) Λ₀ .tc) (Σ' (v3 : Vec F S512x1 .f32) (v5 : FVec F S512x2560 .bf16) (v30 : FVec F S512x256 .f32), Elt F .f32) := do
  let v3 : Vec F S512x1 .f32 ← Prog.lift (.load arg4 (Rect.unit (s := S512x1) ![0, 0] S512x1.size inb_S512x1_S512x1_0_0).toLoadRect (View.loadsAt_vmem h_S512x1))
  let v4 : Vec F S512x2560 .i8 ← Prog.lift (.load arg3 (Rect.unit (s := S512x2560) ![0, 0] S512x2560.size inb_S512x2560_S512x2560_0_0).toLoadRect (View.loadsAt_vmem h_S512x2560))
  let v6 : Vec F S256x2560 .bf16 ← Prog.lift (.load arg9 (Rect.unit (s := S2304x2560) ![0, 0] S256x2560.size inb_S2304x2560_S256x2560_0_0).toLoadRect (View.loadsAt_vmem h_S256x2560))
  let v10 : Elt F .f32 ← smemLoad arg2 (Rect.unit (s := S2) ![0] S1.size inb_S2_S1_0) numel1_S1 rfl
  let v13 : Vec F S256x2560 .bf16 ← Prog.lift (.load arg10 (Rect.unit (s := S2304x2560) ![0, 0] S256x2560.size inb_S2304x2560_S256x2560_0_0).toLoadRect (View.loadsAt_vmem h_S256x2560))
  let v17 : Elt F .f32 ← smemLoad arg2 (Rect.unit (s := S2) ![1] S1.size inb_S2_S1_1) numel1_S1 rfl
  let v24 : Vec F S512x256 .f32 ← Prog.lift (.load arg7 (Rect.unit (s := S512x2304) ![0, 0] S512x256.size inb_S512x2304_S512x256_0_0).toLoadRect (View.loadsAt_vmem h_S512x256))
  Prog.lift (.store arg7 (Rect.unit (s := S512x2304) ![0, 0] S512x256.size inb_S512x2304_S512x256_0_0) (k0_pay12 v3 v4 v6 v10 v13 v17) Finset.univ (View.stores_vmem_bits_univ h_S512x256 rfl) (.inl rfl))
  let v26 : Vec F S512x256 .bf16 ← Prog.lift (.load arg8 (Rect.unit (s := S512x2304) ![0, 0] S512x256.size inb_S512x2304_S512x256_0_0).toLoadRect (View.loadsAt_vmem h_S512x256))
  Prog.lift (.store arg8 (Rect.unit (s := S512x2304) ![0, 0] S512x256.size inb_S512x2304_S512x256_0_0) (k0_pay13 v3 v4 v6 v10 v13 v17) Finset.univ (View.stores_vmem h_S512x256 (harg8.storeExact_slice rfl _ packedbf16_S512x2304_S512x256_0_0) (fun _ => rfl)) (.inl rfl))
  let v27 : Vec F S256x2560 .bf16 ← Prog.lift (.load arg9 (Rect.unit (s := S2304x2560) ![256, 0] S256x2560.size inb_S2304x2560_S256x2560_256_0).toLoadRect (View.loadsAt_vmem h_S256x2560))
  let v31 : Elt F .f32 ← smemLoad arg2 (Rect.unit (s := S2) ![0] S1.size inb_S2_S1_0) numel1_S1 rfl
  pure ⟨v3, k0_pay11 v4, k0_pay14 v3 v4 v27, v31⟩

/-- The first part of the body is the unpacking branch, then its tail. -/
theorem part4_split (i : grid0.Coords) (arg2 : Memref sig .tc .smem S2 .f32) (harg2 : arg2.IsWhole) (arg3 : Memref sig .tc .vmem S512x2560 .i8) (harg3 : arg3.IsWhole) (arg4 : Memref sig .tc .vmem S512x1 .f32) (harg4 : arg4.IsWhole) (arg5 : Memref sig .tc .vmem S1728x2560 .i8) (harg5 : arg5.IsWhole) (arg6 : Memref sig .tc .vmem S1728x2560 .i8) (harg6 : arg6.IsWhole) (arg7 : Memref sig .tc .vmem S512x2304 .f32) (harg7 : arg7.IsWhole) (arg8 : Memref sig .tc .vmem S512x2304 .bf16) (harg8 : arg8.IsWhole) (arg9 : Memref sig .tc .vmem S2304x2560 .bf16) (harg9 : arg9.IsWhole) (arg10 : Memref sig .tc .vmem S2304x2560 .bf16) (harg10 : arg10.IsWhole) :
    k0_part4_skel (F := F) i arg2 harg2 arg3 harg3 arg4 harg4 arg5 harg5 arg6 harg6 arg7 harg7 arg8 harg8 arg9 harg9 arg10 harg10 = branchProg i arg2 harg2 arg3 harg3 arg4 harg4 arg5 harg5 arg6 harg6 arg7 harg7 arg8 harg8 arg9 harg9 arg10 harg10 >>= fun _ => part4Tail i arg2 harg2 arg3 harg3 arg4 harg4 arg5 harg5 arg6 harg6 arg7 harg7 arg8 harg8 arg9 harg9 arg10 harg10 := by
  unfold k0_part4_skel branchProg
  by_cases hc : k0_cond1 i = 1#1
  · rw [dif_pos hc]
    simp only [dif_pos hc, bind_assoc, pure_bind]
    rfl
  · rw [dif_neg hc]
    simp only [dif_neg hc, pure_bind]
    rfl

set_option maxHeartbeats 1600000 in
theorem body_run (c : Dev nD) (i : grid0.Coords) (arg2 : Memref sig .tc .smem S2 .f32) (harg2 : arg2.IsWhole) (arg3 : Memref sig .tc .vmem S512x2560 .i8) (harg3 : arg3.IsWhole) (arg4 : Memref sig .tc .vmem S512x1 .f32) (harg4 : arg4.IsWhole) (arg5 : Memref sig .tc .vmem S1728x2560 .i8) (harg5 : arg5.IsWhole) (arg6 : Memref sig .tc .vmem S1728x2560 .i8) (harg6 : arg6.IsWhole) (arg7 : Memref sig .tc .vmem S512x2304 .f32) (harg7 : arg7.IsWhole) (arg8 : Memref sig .tc .vmem S512x2304 .bf16) (harg8 : arg8.IsWhole) (arg9 : Memref sig .tc .vmem S2304x2560 .bf16) (harg9 : arg9.IsWhole) (arg10 : Memref sig .tc .vmem S2304x2560 .bf16) (harg10 : arg10.IsWhole) (x0 : Vec F S2 .f32) (x1 : Vec F S512x2560 .i8) (x2 : Vec F S512x1 .f32) (x3 : Vec F S1728x2560 .i8) (x4 : Vec F S1728x2560 .i8)
    (X9 X10 : Vec F S2304x2560 .bf16) (P9 : sProp 𝕄) (E : Set ℕ) (K : PUnit → sProp 𝕄)
    (hbranch : ∀ K' : PUnit → sProp 𝕄, iprop(P9 ∗ owns (c : Thread nD τ) arg5 fullShare x3 ∗ owns (c : Thread nD τ) arg6 fullShare x4 ∗ (iprop(owns (c : Thread nD τ) arg5 fullShare x3 ∗ owns (c : Thread nD τ) arg6 fullShare x4 ∗ owns (c : Thread nD τ) arg9 fullShare X9 ∗ owns (c : Thread nD τ) arg10 fullShare X10) -∗ K' ⟨⟩))
        ⊢ wp frame (wpE (defs₀ (F := F)) Variants.none c none) E (branchProg i arg2 harg2 arg3 harg3 arg4 harg4 arg5 harg5 arg6 harg6 arg7 harg7 arg8 harg8 arg9 harg9 arg10 harg10) K') :
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ P9
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outF x0 x1 x2 X9 X10) ∗ owns (c : Thread nD τ) arg8 fullShare (outB x0 x1 x2 X9 X10) ∗ owns (c : Thread nD τ) arg9 fullShare X9 ∗ owns (c : Thread nD τ) arg10 fullShare X10) -∗ K ⟨⟩))
        ⊢ wp frame (wpE (defs₀ (F := F)) Variants.none c none) E (cc0_gate_up i arg2 harg2 arg3 harg3 arg4 harg4 arg5 harg5 arg6 harg6 arg7 harg7 arg8 harg8 arg9 harg9 arg10 harg10) K := by
  simp only [cc0_gate_up_eq_skeleton]; unfold cc0_gate_up_skel
  rw [k0_part4_eq_skeleton, part4_split, bind_assoc, wp_bind]
  iintro ⟨H0, H1, H2, H3, H4, H5, H6, HP, Hk⟩
  iapply (hbranch _)
  isplitl [HP]; · iexact HP
  isplitl [H3]; · iexact H3
  isplitl [H4]; · iexact H4
  iintro ⟨H3, H4, HS0, HS1⟩
  unfold part4Tail
  simp only [k0_part5_eq_skeleton, k0_part6_eq_skeleton, k0_part7_eq_skeleton, k0_part8_eq_skeleton]
  unfold owns
  icases H0 with ⟨%f0, %hf0, H0⟩
  icases H1 with ⟨%f1, %hf1, H1⟩
  icases H2 with ⟨%f2, %hf2, H2⟩
  icases H5 with ⟨%d5, %f5, -, H5⟩
  icases H6 with ⟨%d6, %f6, -, H6⟩
  icases HS0 with ⟨%fs0, %hfs0, HS0⟩
  icases HS1 with ⟨%fs1, %hfs1, HS1⟩
  obtain rfl := harg2.eq_unread hf0; obtain rfl := harg3.eq_unread hf1; obtain rfl := harg4.eq_unread hf2
  obtain rfl := harg9.eq_unread hfs0; obtain rfl := harg10.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexact H3
  isplitl [H4]
  · iexact H4
  isplitl [H5]
  · iexists _; isplitr; swap; · iexact H5
    ipureintro
    unfold outF
    simp only [← rawChunk_eq arg2 harg2 arg3 harg3 arg4 harg4 arg9 harg9 arg10 harg10]
    refine read_nine (F := F) _ _ _ _ _ _ _ _ _ _ _ _ _ _ _ _ _ _ _ _ _ ?_ ?_ ?_ ?_ ?_ ?_ ?_ ?_ ?_
    · rfl
    · exact payF1 _ _ _ _ _ _
    · exact payF2 _ _ _ _ _ _
    · exact payF3 _ _ _ _ _ _
    · exact payF4 _ _ _ _ _ _
    · exact payF5 _ _ _ _ _ _
    · exact payF6 _ _ _ _ _ _
    · exact payF7 _ _ _ _ _ _
    · exact payF8 _ _ _ _ _ _
  isplitl [H6]
  · iexists _; isplitr; swap; · iexact H6
    ipureintro
    have e : outB x0 x1 x2 X9 X10 = nine (F := F) fun o h => truncf .bf16 (chunk x0 x1 x2 X9 X10 o h) bitsLt_bf16_f32 := rfl
    rw [e]
    simp only [← rawChunk_eq arg2 harg2 arg3 harg3 arg4 harg4 arg9 harg9 arg10 harg10]
    refine read_nine (F := F) _ _ _ _ _ _ _ _ _ _ _ _ _ _ _ _ _ _ _ _ _ ?_ ?_ ?_ ?_ ?_ ?_ ?_ ?_ ?_
    · exact (payB0 _ _ _ _ _ _).trans (congrArg (fun z => truncf .bf16 z bitsLt_bf16_f32) rfl)
    · exact (payB1 _ _ _ _ _ _).trans (congrArg (fun z => truncf .bf16 z bitsLt_bf16_f32) rfl)
    · exact (payB2 _ _ _ _ _ _).trans (congrArg (fun z => truncf .bf16 z bitsLt_bf16_f32) rfl)
    · exact (payB3 _ _ _ _ _ _).trans (congrArg (fun z => truncf .bf16 z bitsLt_bf16_f32) rfl)
    · exact (payB4 _ _ _ _ _ _).trans (congrArg (fun z => truncf .bf16 z bitsLt_bf16_f32) rfl)
    · exact (payB5 _ _ _ _ _ _).trans (congrArg (fun z => truncf .bf16 z bitsLt_bf16_f32) rfl)
    · exact (payB6 _ _ _ _ _ _).trans (congrArg (fun z => truncf .bf16 z bitsLt_bf16_f32) rfl)
    · exact (payB7 _ _ _ _ _ _).trans (congrArg (fun z => truncf .bf16 z bitsLt_bf16_f32) rfl)
    · exact (payB8 _ _ _ _ _ _).trans (congrArg (fun z => truncf .bf16 z bitsLt_bf16_f32) rfl)
  isplitl [HS0]
  · iexists _; isplitr; swap; · iexact HS0
    ipureintro; exact harg9.read_unread _
  iexists _; isplitr; swap; · iexact HS1
  ipureintro; exact harg10.read_unread _

end Cert.GateUpIdeal.Hand
-- ==== Proof.GateUpRun.lean ====
/-
  The gate/up kernel over its whole grid: what the two weight scratch buffers hold between grid points, what each point
  leaves in the two outputs, and the run of the program.
-/
module

public import proofs.«01_k».proof.Proof.GateUpBody
public import proofs.«01_k».proof.Proof.Gen.GateUpIdeal.Frame
public import Idealize.ShloMosaic.Lib.Pipeline.FrameBody
public import Idealize.ShloMosaic.Lib.Claim

@[expose] public section

set_option maxRecDepth 16384

noncomputable section

namespace Cert.GateUpIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal.Gen Cert.Ternary

variable {F : FTy → Type} [FloatOps F]

local notation "𝕄" => MT nD τ sig Unit (Elt F) ℕ (UR sig nD τ) ℕ

/-! ## The grid -/

theorem coord0 (t : Fin cfg0.N) : (grid0.coords t 0).val = t.val / 30 := by
  have ht : t.val < 90 := Nat.lt_of_lt_of_eq t.isLt N_0
  have e0 : (grid0.coords t 0).val = t.val / 30 % 3 := Pipeline.Grid.coords_val (G := grid0) t 0 (by decide) rfl
  omega

theorem coord1 (t : Fin cfg0.N) : (grid0.coords t 1).val = t.val % 30 := by
  have ht : t.val < 90 := Nat.lt_of_lt_of_eq t.isLt N_0
  have e0 : (grid0.coords t 1).val = t.val / 1 % 30 := Pipeline.Grid.coords_val (G := grid0) t 1 (by decide) rfl
  omega

/-- The weight blocks are unpacked at the first row block of each column block. -/
theorem hcond : ∀ t : Fin cfg0.N, k0_cond1 (grid0.coords t) = 1#1 ↔ t.val % 30 = 0 :=
  (fun t => by
    have ht : t.val < 90 := Nat.lt_of_lt_of_eq t.isLt N_0
    have e0 : (grid0.coords t 0).val = t.val / 30 % 3 := Pipeline.Grid.coords_val t 0 (by decide) rfl
    have e1 : (grid0.coords t 1).val = t.val / 1 % 30 := Pipeline.Grid.coords_val t 1 (by decide) rfl
    simp only [k0_cond1, e0, e1]
    word_cmp
   : ∀ t : Fin grid0.N, k0_cond1 (grid0.coords t) = 1#1 ↔ t.val % 30 = 0)

/-! ## The memrefs -/

abbrev ms0 (t : Fin cfg0.N) : Memref sig .tc .smem S2 .f32 := win0_0.stage (cfg0.slots t 0)
abbrev ms1 (t : Fin cfg0.N) : Memref sig .tc .vmem S512x2560 .i8 := win0_1.stage (cfg0.slots t 1)
abbrev ms2 (t : Fin cfg0.N) : Memref sig .tc .vmem S512x1 .f32 := win0_2.stage (cfg0.slots t 2)
abbrev ms3 (t : Fin cfg0.N) : Memref sig .tc .vmem S1728x2560 .i8 := win0_3.stage (cfg0.slots t 3)
abbrev ms4 (t : Fin cfg0.N) : Memref sig .tc .vmem S1728x2560 .i8 := win0_4.stage (cfg0.slots t 4)
abbrev ms5 (t : Fin cfg0.N) : Memref sig .tc .vmem S512x2304 .f32 := win0_5.stage (cfg0.slots t 5)
abbrev ms6 (t : Fin cfg0.N) : Memref sig .tc .vmem S512x2304 .bf16 := win0_6.stage (cfg0.slots t 6)
abbrev scGate : Memref sig .tc .vmem S2304x2560 .bf16 := Memref.whole cc0_scratch0
abbrev scUp : Memref sig .tc .vmem S2304x2560 .bf16 := Memref.whole cc0_scratch1

theorem PhiA_eq (c : Dev nD) : (Pipeline.ΦA spec0 c : sProp 𝕄) = iprop(iprop((∃ d, owns (c : Thread nD τ) scGate fullShare d) ∗ (∃ d, owns (c : Thread nD τ) scUp fullShare d)) ∗ (∃ r, prngReg c r)) := by
  unfold Pipeline.ΦA; rw [scopedRest0_eq]; simp only [scGate, scUp, owns_whole]; try rfl

variable (m : (ℓ : Loc nD τ sig) → Buf (Elt F) ℓ) (ρ : Dev nD → PrngReg)

/-! ## The blocks of the inputs -/

/-- The packed gate weights, and the packed up weights, whole. -/
def packedGate (c : Dev nD) : Vec F S1728x2560 .i8 := V m c main_arg2
def packedUp (c : Dev nD) : Vec F S1728x2560 .i8 := V m c main_arg3

theorem iblk3_eq (c : Dev nD) (t : Fin cfg0.N) : (iblk m c 3 t : Vec F S1728x2560 .i8) = packedGate m c := by
  funext y
  show V m c main_arg2 (((cfg0.win 3).blk t).view.emb y) = V m c main_arg2 y
  congr 1
  funext a; apply Fin.ext
  match a with
  | ⟨0, _⟩ => show 0 * 1728 + 1 * (y 0).val = (y 0).val; omega
  | ⟨1, _⟩ => show 0 * 2560 + 1 * (y 1).val = (y 1).val; omega

theorem iblk4_eq (c : Dev nD) (t : Fin cfg0.N) : (iblk m c 4 t : Vec F S1728x2560 .i8) = packedUp m c := by
  funext y
  show V m c main_arg3 (((cfg0.win 4).blk t).view.emb y) = V m c main_arg3 y
  congr 1
  funext a; apply Fin.ext
  match a with
  | ⟨0, _⟩ => show 0 * 1728 + 1 * (y 0).val = (y 0).val; omega
  | ⟨1, _⟩ => show 0 * 2560 + 1 * (y 1).val = (y 1).val; omega

/-! ## The proof data -/

/-- What the two scratch buffers hold when `n` grid points are done: from the first point on, the unpacked blocks of
    the last point's columns. -/
def held (c : Dev nD) (n : ℕ) : sProp 𝕄 :=
  iprop(iprop((∃ d, ⌜0 < n → d = wblock ((n - 1) / 30) (packedGate m c)⌝ ∗ owns (c : Thread nD τ) scGate fullShare d)
    ∗ (∃ d, ⌜0 < n → d = wblock ((n - 1) / 30) (packedUp m c)⌝ ∗ owns (c : Thread nD τ) scUp fullShare d)) ∗ (∃ r, prngReg c r))

/-- The two outputs' blocks at point `t`. -/
def blockF (c : Dev nD) (t : Fin cfg0.N) : Vec F S512x2304 .f32 :=
  outF (iblk m c 0 t) (iblk m c 1 t) (iblk m c 2 t) (wblock (t.val / 30) (packedGate m c)) (wblock (t.val / 30) (packedUp m c))
def blockB (c : Dev nD) (t : Fin cfg0.N) : Vec F S512x2304 .bf16 :=
  outB (iblk m c 0 t) (iblk m c 1 t) (iblk m c 2 t) (wblock (t.val / 30) (packedGate m c)) (wblock (t.val / 30) (packedUp m c))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockF m c t
    | ⟨6, _⟩ => blockB m c t
  Φ t := held m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = blockF m c t := by dsimp only [dats]
theorem after0_6 (c : Dev nD) (t : Fin cfg0.N) : (dats m 0 c).after 6 t = blockB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.castSucc = held m c t.val from rfl, show (dats m 0 c).Φ t.succ = held m c (t.val + 1) from rfl]
  rw [iblk3_eq, iblk4_eq]
  unfold held blockF blockB
  have hN : t.val < 90 := lt_of_lt_of_eq t.isLt (show cfg0.N = 90 from N_0)
  by_cases h0 : t.val % 30 = 0
  · iintro ⟨⟨⟨⟨%dg, -, HS0⟩, ⟨%du, -, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply (body_run c (grid0.coords t) _ _ _ _ _ _ _ _ _ _ _ _ _ _ scGate _ scUp _ (iblk m c 0 t) (iblk m c 1 t) (iblk m c 2 t) (packedGate m c) (packedUp m c)
      (wblock (t.val / 30) (packedGate m c)) (wblock (t.val / 30) (packedUp m c))
      iprop((∃ d, owns (c : Thread nD τ) scGate fullShare d) ∗ (∃ d, owns (c : Thread nD τ) scUp fullShare d)) Set.univ _ (by
        intro K'
        iintro ⟨⟨HS0, HS1⟩, H3, H4, Hk⟩
        iapply (branch_taken c (grid0.coords t) _ _ _ _ _ _ _ _ _ _ _ _ _ _ scGate _ scUp _ ((hcond t).mpr h0) (packedGate m c) (packedUp m c) Set.univ K')
        isplitl [H3]; · iexact H3
        isplitl [H4]; · iexact H4
        isplitl [HS0]; · iexact HS0
        isplitl [HS1]; · iexact HS1
        rw [coord0 t]
        iexact Hk))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0 HS1]
    · isplitl [HS0]
      · iexists _; iexact HS0
      iexists _; iexact HS1
    iintro ⟨H0, H1, H2, H3, H4, H5, H6, HS0, HS1⟩
    isplitl [HS0 HS1 Hg]
    · isplitl [HS0 HS1]
      · isplitl [HS0]
        · iexists _; isplitr; swap; · iexact HS0
          ipureintro; intro _; rw [Nat.add_sub_cancel]
        iexists _; isplitr; swap; · iexact HS1
        ipureintro; intro _; rw [Nat.add_sub_cancel]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨⟨%dg, %hg, HS0⟩, ⟨%du, %hu, HS1⟩⟩, Hg⟩, Ho, ⟨%d0, H0⟩, ⟨%d1, H1⟩, ⟨%d2, H2⟩, ⟨%d3, H3⟩, ⟨%d4, H4⟩, ⟨%d5, H5⟩, ⟨%d6, H6⟩⟩
    have hpos : 0 < t.val := by omega
    have hq : (t.val - 1) / 30 = t.val / 30 := by omega
    have hg' := hg hpos
    have hu' := hu hpos
    rw [hq] at hg' hu'
    subst hg' hu'
    iapply (body_run c (grid0.coords t) _ _ _ _ _ _ _ _ _ _ _ _ _ _ scGate _ scUp _ (iblk m c 0 t) (iblk m c 1 t) (iblk m c 2 t) (packedGate m c) (packedUp m c)
      (wblock (t.val / 30) (packedGate m c)) (wblock (t.val / 30) (packedUp m c))
      iprop(owns (c : Thread nD τ) scGate fullShare (wblock (t.val / 30) (packedGate m c)) ∗ owns (c : Thread nD τ) scUp fullShare (wblock (t.val / 30) (packedUp m c))) Set.univ _ (by
        intro K'
        iintro ⟨⟨HS0, HS1⟩, H3, H4, Hk⟩
        iapply (branch_not_taken c (grid0.coords t) _ _ _ _ _ _ _ _ _ _ _ _ _ _ scGate _ scUp _ (fun h => h0 ((hcond t).mp h)) Set.univ K')
        iapply Hk
        isplitl [H3]; · iexact H3
        isplitl [H4]; · iexact H4
        isplitl [HS0]; · iexact HS0
        iexact HS1))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0 HS1]
    · isplitl [HS0]
      · iexact HS0
      iexact HS1
    iintro ⟨H0, H1, H2, H3, H4, H5, H6, HS0, HS1⟩
    isplitl [HS0 HS1 Hg]
    · isplitl [HS0 HS1]
      · isplitl [HS0]
        · iexists _; isplitr; swap; · iexact HS0
          ipureintro; intro _; rw [Nat.add_sub_cancel]
        iexists _; isplitr; swap; · iexact HS1
        ipureintro; intro _; rw [Nat.add_sub_cancel]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem held_in (c : Dev nD) : (Pipeline.ΦA spec0 c : sProp 𝕄) ⊢ held m c 0 := by
  rw [PhiA_eq]; unfold held
  iintro ⟨⟨⟨%d, H0⟩, ⟨%e, H1⟩⟩, Hg⟩
  isplitl [H0 H1]
  · isplitl [H0]
    · iexists _; isplitr; swap; · iexact H0
      ipureintro; intro h; exact absurd h (Nat.lt_irrefl 0)
    iexists _; isplitr; swap; · iexact H1
    ipureintro; intro h; exact absurd h (Nat.lt_irrefl 0)
  iexact Hg

theorem held_out (c : Dev nD) (n : ℕ) : held m c n ⊢ (Pipeline.ΦA spec0 c : sProp 𝕄) := by
  rw [PhiA_eq]; unfold held
  iintro ⟨⟨⟨%d, -, H0⟩, ⟨%e, -, H1⟩⟩, Hg⟩
  isplitl [H0 H1]
  · isplitl [H0]
    · iexists _; iexact H0
    iexists _; iexact H1
  iexact Hg

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => held_in m c) (hout := fun c => held_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and no semaphore is left pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.GateUpIdeal.Hand
-- ==== Proof.Product.lean ====
/-
  The scaled product of integer codes with a packed ternary weight, written once for the kernel and the reference:
  row `r` of the codes against column `n` of the weight, times the row's scale, times the weight's scale.
-/
module

public import proofs.«01_k».proof.Proof.Ternary
public import Idealize.ShloMosaic.Lib.MatmulPlain
public import Idealize.ShloMosaic.Lib.Pipeline.Value

@[expose] public section

set_option maxRecDepth 16384

noncomputable section

namespace Cert.Ternary

open Idealize.ShloMosaic Idealize.ShloMosaic.ValueIdx
open scoped BigOperators

/-- The weight of column `n` at depth `k`: bit field `n / R` of byte `n % R` of the packed array's column `k`. -/
def weight {R K : ℕ} (hR : 0 < R) (p : IVec ⟨2, ![R, K]⟩ 8) (n : ℕ) (k : Fin K) : EReal :=
  FloatOps.sitofp (F := Ideal) .bf16 (field (n / R) (p (ix2 (⟨n % R, Nat.mod_lt _ hR⟩ : Fin R) k)))

/-- Σ_k code[r, k] · weight[n, k], times the row's scale, times the weight's. -/
def product {M R K : ℕ} (hR : 0 < R) (c : IVec ⟨2, ![M, K]⟩ 8) (s : FVec Ideal ⟨2, ![M, 1]⟩ .f32) (p : IVec ⟨2, ![R, K]⟩ 8) (w : EReal)
    (r : Fin M) (n : ℕ) : EReal :=
  (∑ k : Fin K, FloatOps.sitofp (F := Ideal) .bf16 (c (ix2 r k)) * weight hR p n k) * s (ix2 r (0 : Fin 1)) * w

/-- The squared relu of the gate, times the up product. -/
def gated (g u : EReal) : EReal := max g 0 * max g 0 * u

/-- A column of row scales, broadcast along the rows. -/
theorem broadcastTo_col {α : Type} {a b : ℕ} (hb : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ => exact (if_neg hb).symm
  | ⟨1, _⟩ => rfl

/-- A host's unpacking of one field: shift the byte, widened to 32 bits, by twice the field's number, mask, subtract one, cast. -/
theorem host_field (f : Fin 4) (b : BitVec 8) :
    FloatOps.sitofp (F := Ideal) .bf16 (IntOp.subi (IntOp.andi (IntOp.shrui .host (b.setWidth 32) (IntOp.muli 2#32 (BitVec.ofNat 32 f.val))) 3#32) 1#32)
      = FloatOps.sitofp (F := Ideal) .bf16 (field f.val b) := by
  have h : IntOp.subi (IntOp.andi (IntOp.shrui .host (b.setWidth 32) (IntOp.muli 2#32 (BitVec.ofNat 32 f.val))) 3#32) 1#32
      = (((b.setWidth 32 >>> (2 * f.val)) &&& 3#32) - 1#32 : BitVec 32) := by
    fin_cases f <;> rfl
  rw [h]
  show (((((b.setWidth 32 >>> (2 * f.val)) &&& 3#32) - 1#32 : BitVec 32).toInt : ℝ) : EReal) = (((field f.val b).toInt : ℝ) : EReal)
  rw [toInt_field]

/-- An 8-bit code widened to 32 bits before its cast has the code's value. -/
theorem host_code (b : BitVec 8) : FloatOps.sitofp (F := Ideal) .bf16 (b.signExtend 32) = FloatOps.sitofp (F := Ideal) .bf16 b := by
  show (((b.signExtend 32).toInt : ℝ) : EReal) = ((b.toInt : ℝ) : EReal)
  rw [BitVec.toInt_signExtend_of_le (by decide)]

end Cert.Ternary
-- ==== Proof.GateUpValue.lean ====
/-
  What the gate/up kernel leaves in its two result arrays, over the reals: at row `r` and column `n` the squared relu of
  the gate product times the up product.
-/
module

public import proofs.«01_k».proof.Proof.GateUpRun
public import proofs.«01_k».proof.Proof.Product

@[expose] public section

set_option maxRecDepth 16384

noncomputable section

namespace Cert.GateUpIdeal.Hand

open Idealize.ShloMosaic Idealize.ShloMosaic.TcCoe Idealize.ShloMosaic.ValueIdx
open Idealize.SL Idealize.SL.RA Idealize.SL.Sem
open Idealize.ShloMosaic.Pipeline (Dat Cfg Window cellOf)
open Cert.GateUpIdeal.Gen Cert.Ternary
open scoped BigOperators

/-- One matrix product of a chunk. -/
theorem mm_ix2 (codes : Vec Ideal S512x2560 .i8) (W : FVec Ideal S256x2560 .bf16) (r : Fin 512) (l : Fin 256) :
    matmul dot_S512x2560_S256x2560_S512x256_1_1_0_0_n_n none (k0_pay11 (F := Ideal) codes) W (constant S512x256 .f32 0x00000000#32) (ix2 r l)
      = ∑ k : Fin 2560, FloatOps.sitofp (F := Ideal) .bf16 (codes (ix2 r k)) * W (ix2 l k) := by
  refine (Ideal.matmul_transposedRhs_apply (M := 512) (K := 2560) (N := 256) none (k0_pay11 (F := Ideal) codes) W (constant S512x256 .f32 0x00000000#32) r l).trans ?_
  show Ideal.ofBits .f32 0x00000000#32 + _ = _
  rw [Ideal.ofBits_zero_f32, zero_add]
  rfl

/-- A chunk at one place. -/
theorem chunk_ix2 (ws : Vec Ideal S2 .f32) (codes : Vec Ideal S512x2560 .i8) (scales : Vec Ideal S512x1 .f32) (X9 X10 : Vec Ideal S2304x2560 .bf16)
    (o : ℕ) (h : o + 256 ≤ 2304) (r : Fin 512) (l : Fin 256) (y : Fin 2304) (hy : y.val = o + l.val) :
    chunk (F := Ideal) ws codes scales X9 X10 o h (ix2 r l)
      = gated ((∑ k : Fin 2560, FloatOps.sitofp (F := Ideal) .bf16 (codes (ix2 r k)) * X9 (ix2 y k)) * scales (ix2 r (0 : Fin 1)) * ws (ix1 (0 : Fin 2)))
          ((∑ k : Fin 2560, FloatOps.sitofp (F := Ideal) .bf16 (codes (ix2 r k)) * X10 (ix2 y k)) * scales (ix2 r (0 : Fin 1)) * ws (ix1 (1 : Fin 2))) := by
  have hw : ∀ (X : Vec Ideal S2304x2560 .bf16) (k : Fin 2560), VecWindow.window X ![o, 0] S256x2560.size (chunk_inb o h) (ix2 l k) = X (ix2 y k) := by
    intro X k
    show X _ = X _
    congr 1
    funext a; apply Fin.ext
    match a with
    | ⟨0, _⟩ => show o + 1 * l.val = y.val; omega
    | ⟨1, _⟩ => show 0 + 1 * k.val = k.val; omega
  have hb := broadcastTo_col (a := 512) (b := 256) (by decide) scales broadcasts_S512x1_S512x256 r l
  have hg := mm_ix2 codes (VecWindow.window X9 ![o, 0] S256x2560.size (chunk_inb o h)) r l
  have hu := mm_ix2 codes (VecWindow.window X10 ![o, 0] S256x2560.size (chunk_inb o h)) r l
  simp only [hw] at hg hu
  unfold chunk
  dsimp only [k0_pay12]
  show (max ((matmul dot_S512x2560_S256x2560_S512x256_1_1_0_0_n_n none (k0_pay11 (F := Ideal) codes) (VecWindow.window X9 ![o, 0] S256x2560.size (chunk_inb o h)) (constant S512x256 .f32 0x00000000#32) (ix2 r l)
        * broadcastTo S512x256 scales broadcasts_S512x1_S512x256 (ix2 r l)) * ws (ix1 (0 : Fin 2))) (Ideal.ofBits .f32 0x00000000#32) *
      max ((matmul dot_S512x2560_S256x2560_S512x256_1_1_0_0_n_n none (k0_pay11 (F := Ideal) codes) (VecWindow.window X9 ![o, 0] S256x2560.size (chunk_inb o h)) (constant S512x256 .f32 0x00000000#32) (ix2 r l)
        * broadcastTo S512x256 scales broadcasts_S512x1_S512x256 (ix2 r l)) * ws (ix1 (0 : Fin 2))) (Ideal.ofBits .f32 0x00000000#32)) *
      ((matmul dot_S512x2560_S256x2560_S512x256_1_1_0_0_n_n none (k0_pay11 (F := Ideal) codes) (VecWindow.window X10 ![o, 0] S256x2560.size (chunk_inb o h)) (constant S512x256 .f32 0x00000000#32) (ix2 r l)
        * broadcastTo S512x256 scales broadcasts_S512x1_S512x256 (ix2 r l)) * ws (ix1 (1 : Fin 2))) = _
  rw [hg, hu, hb, Ideal.ofBits_zero_f32]
  rfl

variable (m : (ℓ : Loc nD τ sig) → Buf (Elt Ideal) ℓ) (ρ : Dev nD → PrngReg)

/-- The two weight scales, stacked by the host. -/
theorem scales_stacked (c : Dev nD) : V m c main_v2 = concatenate S2 0 [⟨S1, broadcastInDim S1 ![] bcast_S_S1 (m ((c : Thread nD τ).loc main_arg4))⟩, ⟨S1, broadcastInDim S1 ![] bcast_S_S1 (m ((c : Thread nD τ).loc main_arg5))⟩] concatenates_S1_S1_S2_d0 := by
  dsimp only [V, hostOps0]
  after_results_simp <;> rfl

/-- The gate's and the up product's weight scale. -/
def wsGate (c : Dev nD) : EReal := m ((c : Thread nD τ).loc main_arg4) (fun a => a.elim0)
def wsUp (c : Dev nD) : EReal := m ((c : Thread nD τ).loc main_arg5) (fun a => a.elim0)

theorem iblk0_0 (c : Dev nD) (t : Fin cfg0.N) : (iblk m c 0 t : Vec Ideal S2 .f32) (ix1 (0 : Fin 2)) = wsGate m c := by
  show V m c main_v2 (((cfg0.win 0).blk t).view.emb (ix1 (0 : Fin 2))) = _
  rw [scales_stacked]
  refine (concatenate_pair_apply_left (t := S2) 0 _ _ concatenates_S1_S1_S2_d0 _ rfl (ix1 (0 : Fin 1)) fun b => ?_).trans ?_
  · match b with
    | ⟨0, _⟩ => rfl
  · exact broadcastInDim_apply _ bcast_S_S1 _ _ _ (fun a => a.elim0)

theorem iblk0_1 (c : Dev nD) (t : Fin cfg0.N) : (iblk m c 0 t : Vec Ideal S2 .f32) (ix1 (1 : Fin 2)) = wsUp m c := by
  show V m c main_v2 (((cfg0.win 0).blk t).view.emb (ix1 (1 : Fin 2))) = _
  rw [scales_stacked]
  refine (concatenate_pair_apply_right (t := S2) 0 _ _ concatenates_S1_S1_S2_d0 _ rfl rfl (ix1 (0 : Fin 1)) (fun b hb => ?_) ?_).trans ?_
  · exact absurd (Fin.ext (by have := b.isLt; show b.val = 0; exact Nat.lt_one_iff.1 this)) hb
  · rfl
  · exact broadcastInDim_apply _ bcast_S_S1 _ _ _ (fun a => a.elim0)

/-- The grid's index maps. -/
theorem idx_facts : ∀ t : Fin cfg0.N, win0_1.index t (0 : Fin 2) = t.val % 30 ∧ win0_1.index t (1 : Fin 2) = 0
    ∧ win0_2.index t (0 : Fin 2) = t.val % 30 ∧ win0_2.index t (1 : Fin 2) = 0
    ∧ win0_5.index t (0 : Fin 2) = t.val % 30 ∧ win0_5.index t (1 : Fin 2) = t.val / 30
    ∧ win0_6.index t (0 : Fin 2) = t.val % 30 ∧ win0_6.index t (1 : Fin 2) = t.val / 30 :=
  (by decide +kernel : ∀ t : Fin grid0.N, _)

/-- The row of the array that row `r` of the blocks at point `t` is. -/
def rowOf (t : Fin cfg0.N) (r : Fin 512) : Fin 15360 := ⟨t.val % 30 * 512 + r.val, by have := r.isLt; omega⟩

theorem iblk1_ix2 (c : Dev nD) (t : Fin cfg0.N) (r : Fin 512) (k : Fin 2560) :
    (iblk m c 1 t : Vec Ideal S512x2560 .i8) (ix2 r k) = (m ((c : Thread nD τ).loc main_arg0) : Vec Ideal S15360x2560 .i8) (ix2 (rowOf t r) k) := by
  obtain ⟨e0, e1, -⟩ := idx_facts t
  show V m c main_arg0 (((cfg0.win 1).blk t).view.emb (ix2 r k)) = _
  rw [V_main_arg0]
  congr 1
  funext a; apply Fin.ext
  match a with
  | ⟨0, _⟩ => show win0_1.index t (0 : Fin 2) * 512 + 1 * r.val = t.val % 30 * 512 + r.val; omega
  | ⟨1, _⟩ => show win0_1.index t (1 : Fin 2) * 2560 + 1 * k.val = k.val; omega

theorem iblk2_ix2 (c : Dev nD) (t : Fin cfg0.N) (r : Fin 512) :
    (iblk m c 2 t : Vec Ideal S512x1 .f32) (ix2 r (0 : Fin 1)) = (m ((c : Thread nD τ).loc main_arg1) : Vec Ideal S15360x1 .f32) (ix2 (rowOf t r) (0 : Fin 1)) := by
  obtain ⟨-, -, e0, e1, -⟩ := idx_facts t
  show V m c main_arg1 (((cfg0.win 2).blk t).view.emb (ix2 r (0 : Fin 1))) = _
  rw [V_main_arg1]
  congr 1
  funext a; apply Fin.ext
  match a with
  | ⟨0, _⟩ => show win0_2.index t (0 : Fin 2) * 512 + 1 * r.val = t.val % 30 * 512 + r.val; omega
  | ⟨1, _⟩ => show win0_2.index t (1 : Fin 2) * 1 + 1 * 0 = 0; omega

/-- The `f32` result, and the `bf16` one. -/
def resultAt (c : Dev nD) (r : Fin 15360) (n : ℕ) : EReal :=
  gated (product (R := 1728) (by decide) (m ((c : Thread nD τ).loc main_arg0)) (m ((c : Thread nD τ).loc main_arg1)) (m ((c : Thread nD τ).loc main_arg2)) (wsGate m c) r n)
    (product (R := 1728) (by decide) (m ((c : Thread nD τ).loc main_arg0)) (m ((c : Thread nD τ).loc main_arg1)) (m ((c : Thread nD τ).loc main_arg3)) (wsUp m c) r n)
def resultF (c : Dev nD) : Vec Ideal S15360x6912 .f32 := fun i => resultAt m c (i (0 : Fin 2)) (i (1 : Fin 2)).val
def resultB (c : Dev nD) : Vec Ideal S15360x6912 .bf16 := fun i => resultAt m c (i (0 : Fin 2)) (i (1 : Fin 2)).val

/-- A chunk's sum over the unpacked block is the sum over the packed array. -/
theorem sum_wblock (c : Dev nD) (t : Fin cfg0.N) (P : Vec Ideal S1728x2560 .i8) (r : Fin 512) (y : Fin 2304) :
    (∑ k : Fin 2560, FloatOps.sitofp (F := Ideal) .bf16 ((iblk m c 1 t : Vec Ideal S512x2560 .i8) (ix2 r k)) * wblock (F := Ideal) (t.val / 30) P (ix2 y k) : EReal)
      = ∑ k : Fin 2560, FloatOps.sitofp (F := Ideal) .bf16 ((m ((c : Thread nD τ).loc main_arg0) : Vec Ideal S15360x2560 .i8) (ix2 (rowOf t r) k))
          * weight (R := 1728) (by decide) P (t.val / 30 * 2304 + y.val) k := by
  refine Finset.sum_congr rfl fun k _ => ?_
  rw [iblk1_ix2]
  rfl

/-- The block of point `t`, at one place. -/
theorem blockF_ix2 (c : Dev nD) (t : Fin cfg0.N) (r : Fin 512) (y : Fin 2304) :
    blockF (F := Ideal) m c t (ix2 r y) = resultAt m c (rowOf t r) (t.val / 30 * 2304 + y.val) := by
  unfold blockF outF nine
  refine (chunk_ix2 _ _ _ _ _ _ _ r (⟨y.val % 256, Nat.mod_lt _ (by decide)⟩ : Fin 256) y (Nat.div_add_mod y.val 256).symm).trans ?_
  rw [sum_wblock, sum_wblock, iblk2_ix2, iblk0_0, iblk0_1]
  unfold resultAt product packedGate packedUp
  rw [V_main_arg2, V_main_arg3]

theorem blockB_ix2 (c : Dev nD) (t : Fin cfg0.N) (r : Fin 512) (y : Fin 2304) :
    blockB (F := Ideal) m c t (ix2 r y) = resultAt m c (rowOf t r) (t.val / 30 * 2304 + y.val) :=
  blockF_ix2 m c t r y

/-! ## The arrays after the run -/

theorem flushed5_eq (c : Dev nD) (t : Fin cfg0.N) :
    (dats m 0 c).flushed 5 t = ((cfg0.win 5).blk t).view.read (Elt Ideal) (resultF m c) := by
  show (cfg0.win 5).cut (grid0.coords t) ((dats m 0 c).after 5 t) = _
  rw [after0_5]
  obtain ⟨-, -, -, -, e0, e1, -⟩ := idx_facts t
  funext j
  obtain ⟨r, y, rfl⟩ : ∃ (r : Fin 512) (y : Fin 2304), j = ix2 r y := ⟨j 0, j 1, by funext a; match a with | ⟨0, _⟩ => rfl | ⟨1, _⟩ => rfl⟩
  refine (blockF_ix2 m c t r y).trans ?_
  show _ = resultAt m c ((((cfg0.win 5).blk t).view.emb (ix2 r y)) (0 : Fin 2)) ((((cfg0.win 5).blk t).view.emb (ix2 r y)) (1 : Fin 2)).val
  have h0 : rowOf t r = (((cfg0.win 5).blk t).view.emb (ix2 r y)) (0 : Fin 2) :=
    Fin.ext (by show t.val % 30 * 512 + r.val = win0_5.index t (0 : Fin 2) * 512 + 1 * r.val; omega)
  have h1 : t.val / 30 * 2304 + y.val = ((((cfg0.win 5).blk t).view.emb (ix2 r y)) (1 : Fin 2)).val := by
    show t.val / 30 * 2304 + y.val = win0_5.index t (1 : Fin 2) * 2304 + 1 * y.val; omega
  rw [h0, h1]

theorem flushed6_eq (c : Dev nD) (t : Fin cfg0.N) :
    (dats m 0 c).flushed 6 t = ((cfg0.win 6).blk t).view.read (Elt Ideal) (resultB m c) := by
  show (cfg0.win 6).cut (grid0.coords t) ((dats m 0 c).after 6 t) = _
  rw [after0_6]
  obtain ⟨-, -, -, -, -, -, e0, e1⟩ := idx_facts t
  funext j
  obtain ⟨r, y, rfl⟩ : ∃ (r : Fin 512) (y : Fin 2304), j = ix2 r y := ⟨j 0, j 1, by funext a; match a with | ⟨0, _⟩ => rfl | ⟨1, _⟩ => rfl⟩
  refine (blockB_ix2 m c t r y).trans ?_
  show _ = resultAt m c ((((cfg0.win 6).blk t).view.emb (ix2 r y)) (0 : Fin 2)) ((((cfg0.win 6).blk t).view.emb (ix2 r y)) (1 : Fin 2)).val
  have h0 : rowOf t r = (((cfg0.win 6).blk t).view.emb (ix2 r y)) (0 : Fin 2) :=
    Fin.ext (by show t.val % 30 * 512 + r.val = win0_6.index t (0 : Fin 2) * 512 + 1 * r.val; omega)
  have h1 : t.val / 30 * 2304 + y.val = ((((cfg0.win 6).blk t).view.emb (ix2 r y)) (1 : Fin 2)).val := by
    show t.val / 30 * 2304 + y.val = win0_6.index t (1 : Fin 2) * 2304 + 1 * y.val; omega
  rw [h0, h1]

/-- The grid point whose block holds row `r` and column `n`. -/
def pointOf (i : S15360x6912.Idx) : Fin cfg0.N :=
  ⟨(i (1 : Fin 2)).val / 2304 * 30 + (i (0 : Fin 2)).val / 512, by
    have h0 : (i (0 : Fin 2)).val < 15360 := (i (0 : Fin 2)).isLt
    have h1 : (i (1 : Fin 2)).val < 6912 := (i (1 : Fin 2)).isLt
    exact lt_of_lt_of_eq (show (i (1 : Fin 2)).val / 2304 * 30 + (i (0 : Fin 2)).val / 512 < 90 by omega) N_0.symm⟩

theorem covered5 (i : S15360x6912.Idx) : ∃ t : Fin cfg0.N, (cfg0.win 5).flush t = true ∧ i ∈ ((cfg0.win 5).blk t).view.set := by
  have h0 : (i (0 : Fin 2)).val < 15360 := (i (0 : Fin 2)).isLt
  have h1 : (i (1 : Fin 2)).val < 6912 := (i (1 : Fin 2)).isLt
  refine ⟨pointOf i, flush0_5 _, ?_⟩
  obtain ⟨-, -, -, -, e0, e1, -⟩ := idx_facts (pointOf i)
  have hp : (pointOf i).val = (i (1 : Fin 2)).val / 2304 * 30 + (i (0 : Fin 2)).val / 512 := rfl
  show i ∈ ((View.whole main_v3_0).slice (win0_5.rect (pointOf i))).set
  rw [View.set_slice_whole, Rect.mem_set_unit]
  intro a
  match a with
  | ⟨0, _⟩ => show win0_5.index (pointOf i) (0 : Fin 2) * 512 ≤ (i 0).val ∧ (i 0).val < win0_5.index (pointOf i) (0 : Fin 2) * 512 + 512; omega
  | ⟨1, _⟩ => show win0_5.index (pointOf i) (1 : Fin 2) * 2304 ≤ (i 1).val ∧ (i 1).val < win0_5.index (pointOf i) (1 : Fin 2) * 2304 + 2304; omega

theorem covered6 (i : S15360x6912.Idx) : ∃ t : Fin cfg0.N, (cfg0.win 6).flush t = true ∧ i ∈ ((cfg0.win 6).blk t).view.set := by
  have h0 : (i (0 : Fin 2)).val < 15360 := (i (0 : Fin 2)).isLt
  have h1 : (i (1 : Fin 2)).val < 6912 := (i (1 : Fin 2)).isLt
  refine ⟨pointOf i, flush0_6 _, ?_⟩
  obtain ⟨-, -, -, -, -, -, e0, e1⟩ := idx_facts (pointOf i)
  have hp : (pointOf i).val = (i (1 : Fin 2)).val / 2304 * 30 + (i (0 : Fin 2)).val / 512 := rfl
  show i ∈ ((View.whole main_v3_1).slice (win0_6.rect (pointOf i))).set
  rw [View.set_slice_whole, Rect.mem_set_unit]
  intro a
  match a with
  | ⟨0, _⟩ => show win0_6.index (pointOf i) (0 : Fin 2) * 512 ≤ (i 0).val ∧ (i 0).val < win0_6.index (pointOf i) (0 : Fin 2) * 512 + 512; omega
  | ⟨1, _⟩ => show win0_6.index (pointOf i) (1 : Fin 2) * 2304 ≤ (i 1).val ∧ (i 1).val < win0_6.index (pointOf i) (1 : Fin 2) * 2304 + 2304; omega

theorem final5 (c : Dev nD) : (dats m 0 c).arrAt 5 cfg0.N = resultF m c :=
  (dats m 0 c).arrAt_eq_of_cover 5 _ (fun t _ => flushed5_eq m c t) covered5
theorem final6 (c : Dev nD) : (dats m 0 c).arrAt 6 cfg0.N = resultB m c :=
  (dats m 0 c).arrAt_eq_of_cover 6 _ (fun t _ => flushed6_eq m c t) covered6

/-- The run: both results, and the arguments unchanged. -/
theorem run : θ_run defs (onTc (τ := τ) (main (F := Ideal))) ⟨m, fun _ => 0, ρ⟩ (fun r => ∀ c : Dev nD,
      r.2.mem ((c.tc : Thread nD τ).loc main_v3_0) = resultF m c
      ∧ r.2.mem ((c.tc : Thread nD τ).loc main_v3_1) = resultB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 5).trans (final5 m c), ((h.1 c).1 6).trans (final6 m c), h.2 c⟩)
    (θ_run_and (run_main m ρ) (frame_of m ρ (dats m) (A_eq m) (run_main m ρ)))

end Cert.GateUpIdeal.Hand
-- ==== Proof.GateUpRef.lean ====
/-
  What the gate/up reference computes, over the reals: the same function of the arguments as the kernel's.
-/
module

public import proofs.«01_k».proof.Proof.Gen.GateUpRefIdeal
public import proofs.«01_k».proof.Proof.Gen.GateUpRefIdeal.Read
public import proofs.«01_k».proof.Proof.Product

@[expose] public section

set_option maxRecDepth 16384

noncomputable section

namespace Cert.GateUpRefIdeal.Hand

open Idealize.ShloMosaic Idealize.ShloMosaic.TcCoe Idealize.ShloMosaic.ValueIdx
open Cert.GateUpRefIdeal.Read Cert.Ternary
open scoped BigOperators

/-- The unpacked weight at column `n` and depth `k`. -/
theorem weight_eq (p : IVec ⟨2, ![1728, 2560]⟩ 8) (n : Fin 6912) (k : Fin 2560) :
    val_main_v17 (F := Ideal) p (ix2 n k) = weight (R := 1728) (by decide) p n.val k := by
  have hn := n.isLt
  have hk := k.isLt
  rw [val_main_v17_apply, val_main_v16_apply, val_main_v15_apply, val_main_v13_apply, val_main_v12_apply, val_main_v10_apply, val_main_v8_apply,
    val_main_v6_apply, val_main_v5_apply, val_main_v9_apply, val_main_v7_apply, val_main_v4_apply, val_main_v3_apply, val_main_v2_apply, val_main_v11_apply,
    val_main_v14_apply]
  have hf : (n.val * 2560 + k.val) / 4423680 = n.val / 1728 := by omega
  have hi : idx_main_v6 (idx_main_v8 (idx_main_v17 (ix2 n k))) = ix2 (⟨n.val % 1728, Nat.mod_lt _ (by decide)⟩ : Fin 1728) k := by
    funext a; apply Fin.ext
    match a with
    | ⟨0, _⟩ => show (n.val * 2560 + k.val) / 2560 % 1728 = n.val % 1728; omega
    | ⟨1, _⟩ => show (n.val * 2560 + k.val) % 2560 = k.val; omega
  rw [hi]
  refine Eq.trans ?_ (host_field ⟨n.val / 1728, by omega⟩ _)
  show FloatOps.sitofp (F := Ideal) .bf16 (IntOp.subi (IntOp.andi (IntOp.shrui .host _ (IntOp.muli 2#32 (BitVec.ofNat 32 ((n.val * 2560 + k.val) / 4423680)))) 3#32) 1#32) = _
  rw [hf]

/-- One scaled product. -/
theorem product_eq (c : IVec ⟨2, ![15360, 2560]⟩ 8) (s : FVec Ideal ⟨2, ![15360, 1]⟩ .f32) (p : IVec ⟨2, ![1728, 2560]⟩ 8) (w : FVec Ideal ⟨0, ![]⟩ .f32)
    (r : Fin 15360) (n : Fin 6912) :
    val_main_v22 (F := Ideal) c s p w (ix2 r n) = product (R := 1728) (by decide) c s p (w (fun a => a.elim0)) r n.val := by
  have hc : ∀ k : Fin 2560, val_main_v1 (F := Ideal) c (lidx_main_v18 (ix2 r n) k) = FloatOps.sitofp (F := Ideal) .bf16 (c (ix2 r k)) := by
    intro k
    rw [val_main_v1_apply, val_main_v0_apply, host_code]
    congr 2
    funext a
    match a with
    | ⟨0, _⟩ => rfl
    | ⟨1, _⟩ => rfl
  have hw : ∀ k : Fin 2560, val_main_v17 (F := Ideal) p (ridx_main_v18 (ix2 r n) k) = weight (R := 1728) (by decide) p n.val k := by
    intro k
    rw [← weight_eq]
    congr 1
    funext a
    match a with
    | ⟨0, _⟩ => rfl
    | ⟨1, _⟩ => rfl
  have hs : s (idx_main_v19 (ix2 r n)) = s (ix2 r (0 : Fin 1)) := by
    congr 1
    funext a
    match a with
    | ⟨0, _⟩ => rfl
    | ⟨1, _⟩ => rfl
  rw [val_main_v22_apply, val_main_v20_apply, val_main_v18_apply, val_main_v19_apply, val_main_v21_apply, hs]
  simp only [hc, hw]
  rfl

/-- The reference's `f32` result. -/
theorem result_eq (c : IVec ⟨2, ![15360, 2560]⟩ 8) (s : FVec Ideal ⟨2, ![15360, 1]⟩ .f32) (pg pu : IVec ⟨2, ![1728, 2560]⟩ 8)
    (wg wu : FVec Ideal ⟨0, ![]⟩ .f32) (r : Fin 15360) (n : Fin 6912) :
    val_main_v48 (F := Ideal) c s pg pu wg wu (ix2 r n)
      = gated (product (R := 1728) (by decide) c s pg (wg (fun a => a.elim0)) r n.val) (product (R := 1728) (by decide) c s pu (wu (fun a => a.elim0)) r n.val) := by
  have hu : val_main_v45 (F := Ideal) c s pu wu = val_main_v22 (F := Ideal) c s pu wu := rfl
  rw [val_main_v48_apply, val_main_v47_apply, val_main_v46_apply, val_main_call0_v0_apply, val_main_call0_cst_apply, hu, product_eq, product_eq]
  show max _ (Ideal.ofBits .f32 0x00000000#32) * max _ (Ideal.ofBits .f32 0x00000000#32) * _ = _
  rw [Ideal.ofBits_zero_f32]
  rfl

end Cert.GateUpRefIdeal.Hand
-- ==== Proof.GateUpClaim.lean ====
/-
  The gate/up claims, from the runs of the kernel and of the reference.
-/
module

public import proofs.«01_k».proof.Defs
public import proofs.«01_k».proof.Proof.GateUpValue
public import proofs.«01_k».proof.Proof.GateUpRef
public import proofs.«01_k».proof.Proof.Gen.GateUp.Frame

@[expose] public section

set_option maxRecDepth 16384

noncomputable section

namespace Cert.Proof.GateUp

open Idealize.ShloMosaic Idealize.ShloMosaic.ValueIdx Idealize.SL.Sem

/-- The reference runs, and its arguments end unchanged. -/
theorem frame_ref : Cert.quiescent_GateUpRefIdeal (hGateUpRefIdeal := Cert.GateUpRefIdeal.Gen.facts) := by
  intro m ρ _
  exact (θ_run Cert.GateUpRefIdeal.defs _ _).mono (fun r h => ⟨fun c => (h c).2.2, sem_eq_zero_of_no_sems (by decide) r.2⟩)
    (Cert.GateUpRefIdeal.Value.run (F := Ideal) m ρ)

/-- The kernel's results are the reference's. -/
theorem algebraic : Cert.algebraic_GateUpIdeal_GateUpRefIdeal (hGateUpIdeal := Cert.GateUpIdeal.Gen.facts)
    (hGateUpRefIdeal := Cert.GateUpRefIdeal.Gen.facts) := by
  intro m g m' g' _ hargs
  refine ⟨fun c => Cert.GateUpIdeal.Hand.resultF m c, fun c => Cert.GateUpIdeal.Hand.resultB m c, Cert.GateUpIdeal.Hand.run m g, ?_⟩
  refine (θ_run (Cert.GateUpRefIdeal.defs (F := Ideal)) _ _).mono (fun r h c => ?_) (Cert.GateUpRefIdeal.Value.run (F := Ideal) m' g')
  obtain ⟨h48, h49, hr⟩ := h c
  obtain ⟨a0, a1, a2, a3, a4, a5⟩ := hargs c
  refine ⟨h48.trans ?_, h49.trans ?_, hr⟩
  · rw [Cert.GateUpRefIdeal.Read.val_main_v48_eq, a0, a1, a2, a3, a4, a5]
    funext i
    obtain ⟨r', n, rfl⟩ : ∃ (r' : Fin 15360) (n : Fin 6912), i = ix2 r' n := ⟨i 0, i 1, by funext a; match a with | ⟨0, _⟩ => rfl | ⟨1, _⟩ => rfl⟩
    exact Cert.GateUpRefIdeal.Hand.result_eq _ _ _ _ _ _ r' n
  · rw [Cert.GateUpRefIdeal.Read.val_main_v49_eq, a0, a1, a2, a3, a4, a5]
    funext i
    obtain ⟨r', n, rfl⟩ : ∃ (r' : Fin 15360) (n : Fin 6912), i = ix2 r' n := ⟨i 0, i 1, by funext a; match a with | ⟨0, _⟩ => rfl | ⟨1, _⟩ => rfl⟩
    rw [Cert.GateUpRefIdeal.Read.val_main_v49_apply]
    exact Cert.GateUpRefIdeal.Hand.result_eq _ _ _ _ _ _ r' n

end Cert.Proof.GateUp
-- ==== Proof.DownPiece.lean ====
/-
  The down kernel's two repeated pieces, over a row offset, a slot and a column offset, and over the program that follows: the quantisation of 32 rows of a
  tile (three passes over nine chunks of 768 columns), and one chunk of 256 output columns.
-/
module

public import proofs.«01_k».proof.Proof.Gen.DownIdeal.Skeleton

@[expose] public section

set_option maxRecDepth 65536

noncomputable section

namespace Cert.DownIdeal.Hand

open Idealize.ShloMosaic Idealize.SL.Sem
open Cert.DownIdeal.Gen

variable {F : FTy → Type} [FloatOps F]

/-! ## The arithmetic of one piece -/

/-- One chunk's part of the sum of squares. -/
def sqOf (v : Vec F S32x768 .f32) : FVec F S32x1 .f32 :=
  shapeCast S32x1 (multiReduction .add [1] S32 (mulf v v) 0x00000000#32 reduces_S32x768_S32 (.inl rfl) rfl) shapeCasts_S32_S32x1

/-- The sum of squares of the rows, chunk after chunk. -/
def ssOf (v : Fin 9 → Vec F S32x768 .f32) : FVec F S32x1 .f32 :=
  addf (addf (addf (addf (addf (addf (addf (addf (sqOf (v 0)) (sqOf (v 1))) (sqOf (v 2))) (sqOf (v 3))) (sqOf (v 4))) (sqOf (v 5))) (sqOf (v 6))) (sqOf (v 7))) (sqOf (v 8))

/-- The reciprocal root mean square of the rows, from the sum of squares. -/
def rinvOf (ss : FVec F S32x1 .f32) : FVec F S32x1 .f32 :=
  divf (broadcast S32x1 (Scalar.ofBits .f32 0x3F800000#32))
    (sqrt (addf (divf ss (broadcast S32x1 (Scalar.ofBits .f32 0x45D80000#32))) (broadcast S32x1 (Scalar.ofBits .f32 0x3727C5AC#32))))

/-- One chunk, normalised. -/
def normOf (rinv : FVec F S32x1 .f32) (v : Vec F S32x768 .f32) (g : Vec F S1x768 .f32) : FVec F S32x768 .f32 :=
  mulf (mulf v (broadcastTo S32x768 rinv broadcasts_S32x1_S32x768))
    (broadcastTo S32x768 (shapeCast S1x768 g shapeCasts_S1x768_S1x768) broadcasts_S1x768_S32x768)

/-- One chunk's part of the largest absolute value. -/
def maxOf (n : FVec F S32x768 .f32) : FVec F S32x1 .f32 :=
  shapeCast S32x1 (multiReduction .maximumf [1] S32 (absf n) 0xFF800000#32 reduces_S32x768_S32 (.inl rfl) rfl) shapeCasts_S32_S32x1

/-- The largest absolute value of the normalised rows, chunk after chunk. -/
def amOf (rinv : FVec F S32x1 .f32) (v : Fin 9 → Vec F S32x768 .f32) (g : Fin 9 → Vec F S1x768 .f32) : FVec F S32x1 .f32 :=
  maximumf (maximumf (maximumf (maximumf (maximumf (maximumf (maximumf (maximumf (maxOf (normOf rinv (v 0) (g 0))) (maxOf (normOf rinv (v 1) (g 1))))
    (maxOf (normOf rinv (v 2) (g 2)))) (maxOf (normOf rinv (v 3) (g 3)))) (maxOf (normOf rinv (v 4) (g 4)))) (maxOf (normOf rinv (v 5) (g 5))))
    (maxOf (normOf rinv (v 6) (g 6)))) (maxOf (normOf rinv (v 7) (g 7)))) (maxOf (normOf rinv (v 8) (g 8)))

/-- The scale of the rows, from their largest absolute value. -/
def scaleOf (am : FVec F S32x1 .f32) : FVec F S32x1 .f32 :=
  select (cmpf .oeq am (broadcast S32x1 (Scalar.ofBits .f32 0x00000000#32))) (broadcast S32x1 (Scalar.ofBits .f32 0x3F800000#32))
    (divf am (broadcast S32x1 (Scalar.ofBits .f32 0x42FE0000#32)))

/-- One chunk's codes, as floats. -/
def codeOf (scale : FVec F S32x1 .f32) (n : FVec F S32x768 .f32) : FVec F S32x768 .f32 :=
  minimumf (broadcast S32x768 (Scalar.sitofp .f32 127#32)) (maximumf (broadcast S32x768 (Scalar.sitofp .f32 4294967169#32))
    (roundeven (mulf n (broadcastTo S32x768 (divf (broadcast S32x1 (Scalar.ofBits .f32 0x3F800000#32)) scale) broadcasts_S32x1_S32x768))))

/-- One chunk of 256 output columns. -/
def outOf (sa : Vec F S1x256x1 .f32) (c : Vec F S1x256x6912 .bf16) (w : Vec F S256x6912 .i8) (h : Vec F S256x256 .f32) (ws : Elt F .f32) : FVec F S256x256 .bf16 :=
  truncf .bf16 (addf h (mulf (mulf (matmul dot_S256x6912_S256x6912_S256x256_1_1_0_0_n_n none (shapeCast S256x6912 c shapeCasts_S1x256x6912_S256x6912) (sitofp (F := F) .bf16 w) (constant S256x256 .f32 0x00000000#32))
    (broadcastTo S256x256 (shapeCast S256x1 sa shapeCasts_S1x256x1_S256x1) broadcasts_S256x1_S256x256)) (broadcast S256x256 ws))) bitsLt_bf16_f32

/-! ## The rectangles of one piece -/

theorem inbF {r c : ℕ} (hr : r + 32 ≤ 256) (hc : c + 768 ≤ 6912) (a : Fin 2) : (![r, c] : Fin 2 → ℕ) a + S32x768.size a ≤ S256x6912.size a := by
  match a with
  | ⟨0, _⟩ => exact hr
  | ⟨1, _⟩ => exact hc

theorem inbG {c : ℕ} (hc : c + 768 ≤ 6912) (a : Fin 2) : (![0, c] : Fin 2 → ℕ) a + S1x768.size a ≤ S1x6912.size a := by
  match a with
  | ⟨0, _⟩ => exact Nat.le_refl _
  | ⟨1, _⟩ => exact hc

theorem inbS {r : ℕ} (hr : r + 32 ≤ 256) (a : Fin 2) : (![r, 0] : Fin 2 → ℕ) a + S32x1.size a ≤ S256x1.size a := by
  match a with
  | ⟨0, _⟩ => exact hr
  | ⟨1, _⟩ => exact Nat.le_refl _

theorem inbC {b r c : ℕ} (hb : b < 2) (hr : r + 32 ≤ 256) (hc : c + 768 ≤ 6912) (a : Fin 3) : (![b, r, c] : Fin 3 → ℕ) a + S1x32x768.size a ≤ S2x256x6912.size a := by
  match a with
  | ⟨0, _⟩ => exact hb
  | ⟨1, _⟩ => exact hr
  | ⟨2, _⟩ => exact hc

theorem inbT {b r : ℕ} (hb : b < 2) (hr : r + 32 ≤ 256) (a : Fin 3) : (![b, r, 0] : Fin 3 → ℕ) a + S1x32x1.size a ≤ S2x256x1.size a := by
  match a with
  | ⟨0, _⟩ => exact hb
  | ⟨1, _⟩ => exact hr
  | ⟨2, _⟩ => exact Nat.le_refl _

theorem inbC' {b : ℕ} (hb : b < 2) (a : Fin 3) : (![b, 0, 0] : Fin 3 → ℕ) a + S1x256x6912.size a ≤ S2x256x6912.size a := by
  match a with
  | ⟨0, _⟩ => exact hb
  | ⟨1, _⟩ => exact Nat.le_refl _
  | ⟨2, _⟩ => exact Nat.le_refl _

theorem inbT' {b : ℕ} (hb : b < 2) (a : Fin 3) : (![b, 0, 0] : Fin 3 → ℕ) a + S1x256x1.size a ≤ S2x256x1.size a := by
  match a with
  | ⟨0, _⟩ => exact hb
  | ⟨1, _⟩ => exact Nat.le_refl _
  | ⟨2, _⟩ => exact Nat.le_refl _

theorem inbW {n : ℕ} (hn : n + 256 ≤ 2560) (a : Fin 2) : (![n, 0] : Fin 2 → ℕ) a + S256x6912.size a ≤ S2560x6912.size a := by
  match a with
  | ⟨0, _⟩ => exact hn
  | ⟨1, _⟩ => exact Nat.le_refl _

theorem inbO {n : ℕ} (hn : n + 256 ≤ 2560) (a : Fin 2) : (![0, n] : Fin 2 → ℕ) a + S256x256.size a ≤ S256x2560.size a := by
  match a with
  | ⟨0, _⟩ => exact Nat.le_refl _
  | ⟨1, _⟩ => exact hn

theorem packF {r c : ℕ} (hd : 32 ∣ r) (hr : r + 32 ≤ 256) (hc : c + 768 ≤ 6912) :
    (Rect.unit (s := S256x6912) ![r, c] S32x768.size (inbF hr hc)).PackedRows (EltTy.packing .i8) := by
  refine Or.inr ⟨(by decide : (2 : ℕ) ≤ 2), rfl, Or.inl ⟨?_, ?_⟩⟩
  · exact Nat.dvd_trans (show EltTy.packing .i8 ∣ 32 by decide) hd
  · exact (by decide : EltTy.packing .i8 ∣ 32)

theorem packC {b r c : ℕ} (hb : b < 2) (hd : 32 ∣ r) (hr : r + 32 ≤ 256) (hc : c + 768 ≤ 6912) :
    (Rect.unit (s := S2x256x6912) ![b, r, c] S1x32x768.size (inbC hb hr hc)).PackedRows (EltTy.packing .bf16) := by
  refine Or.inr ⟨(by decide : (2 : ℕ) ≤ 3), rfl, Or.inl ⟨?_, ?_⟩⟩
  · exact Nat.dvd_trans (show EltTy.packing .bf16 ∣ 32 by decide) hd
  · exact (by decide : EltTy.packing .bf16 ∣ 32)

theorem packO {n : ℕ} (hn : n + 256 ≤ 2560) :
    (Rect.unit (s := S256x2560) ![0, n] S256x256.size (inbO hn)).PackedRows (EltTy.packing .bf16) := by
  refine Or.inr ⟨(by decide : (2 : ℕ) ≤ 2), rfl, Or.inl ⟨?_, ?_⟩⟩
  · exact (by decide : EltTy.packing .bf16 ∣ 0)
  · exact (by decide : EltTy.packing .bf16 ∣ 256)

/-! ## The programs -/

/-- The quantisation of the rows `r` to `r + 32` of a tile, into the slot `b`. -/
def piece (r b : ℕ) (hb : b < 2) (hd : 32 ∣ r) (hr : r + 32 ≤ 256)
    (arg2 : Memref sig .tc .vmem S256x6912 .f32) (harg2 : arg2.IsWhole) (arg4 : Memref sig .tc .vmem S1x6912 .f32) (harg4 : arg4.IsWhole) (arg7 : Memref sig .tc .vmem S256x6912 .i8) (harg7 : arg7.IsWhole) (arg8 : Memref sig .tc .vmem S256x1 .f32) (harg8 : arg8.IsWhole) (arg10 : Memref sig .tc .vmem S2x256x6912 .bf16) (harg10 : arg10.IsWhole) (arg11 : Memref sig .tc .vmem S2x256x1 .f32) (harg11 : arg11.IsWhole) (k : Prog (TpuEff nD τ sig (Elt F) Λ₀ .tc) PUnit) :
    Prog (TpuEff nD τ sig (Elt F) Λ₀ .tc) PUnit := do
  let a0 : Vec F S32x768 .f32 ← Prog.lift (.load arg2 (Rect.unit (s := S256x6912) ![r, 0] S32x768.size (inbF hr (by decide))).toLoadRect (View.loadsAt_vmem h_S32x768))
  let a1 : Vec F S32x768 .f32 ← Prog.lift (.load arg2 (Rect.unit (s := S256x6912) ![r, 768] S32x768.size (inbF hr (by decide))).toLoadRect (View.loadsAt_vmem h_S32x768))
  let a2 : Vec F S32x768 .f32 ← Prog.lift (.load arg2 (Rect.unit (s := S256x6912) ![r, 1536] S32x768.size (inbF hr (by decide))).toLoadRect (View.loadsAt_vmem h_S32x768))
  let a3 : Vec F S32x768 .f32 ← Prog.lift (.load arg2 (Rect.unit (s := S256x6912) ![r, 2304] S32x768.size (inbF hr (by decide))).toLoadRect (View.loadsAt_vmem h_S32x768))
  let a4 : Vec F S32x768 .f32 ← Prog.lift (.load arg2 (Rect.unit (s := S256x6912) ![r, 3072] S32x768.size (inbF hr (by decide))).toLoadRect (View.loadsAt_vmem h_S32x768))
  let a5 : Vec F S32x768 .f32 ← Prog.lift (.load arg2 (Rect.unit (s := S256x6912) ![r, 3840] S32x768.size (inbF hr (by decide))).toLoadRect (View.loadsAt_vmem h_S32x768))
  let a6 : Vec F S32x768 .f32 ← Prog.lift (.load arg2 (Rect.unit (s := S256x6912) ![r, 4608] S32x768.size (inbF hr (by decide))).toLoadRect (View.loadsAt_vmem h_S32x768))
  let a7 : Vec F S32x768 .f32 ← Prog.lift (.load arg2 (Rect.unit (s := S256x6912) ![r, 5376] S32x768.size (inbF hr (by decide))).toLoadRect (View.loadsAt_vmem h_S32x768))
  let a8 : Vec F S32x768 .f32 ← Prog.lift (.load arg2 (Rect.unit (s := S256x6912) ![r, 6144] S32x768.size (inbF hr (by decide))).toLoadRect (View.loadsAt_vmem h_S32x768))
  let b0 : Vec F S32x768 .f32 ← Prog.lift (.load arg2 (Rect.unit (s := S256x6912) ![r, 0] S32x768.size (inbF hr (by decide))).toLoadRect (View.loadsAt_vmem h_S32x768))
  let g0 : Vec F S1x768 .f32 ← Prog.lift (.load arg4 (Rect.unit (s := S1x6912) ![0, 0] S1x768.size (inbG (by decide))).toLoadRect (View.loadsAt_vmem h_S1x768))
  let b1 : Vec F S32x768 .f32 ← Prog.lift (.load arg2 (Rect.unit (s := S256x6912) ![r, 768] S32x768.size (inbF hr (by decide))).toLoadRect (View.loadsAt_vmem h_S32x768))
  let g1 : Vec F S1x768 .f32 ← Prog.lift (.load arg4 (Rect.unit (s := S1x6912) ![0, 768] S1x768.size (inbG (by decide))).toLoadRect (View.loadsAt_vmem h_S1x768))
  let b2 : Vec F S32x768 .f32 ← Prog.lift (.load arg2 (Rect.unit (s := S256x6912) ![r, 1536] S32x768.size (inbF hr (by decide))).toLoadRect (View.loadsAt_vmem h_S32x768))
  let g2 : Vec F S1x768 .f32 ← Prog.lift (.load arg4 (Rect.unit (s := S1x6912) ![0, 1536] S1x768.size (inbG (by decide))).toLoadRect (View.loadsAt_vmem h_S1x768))
  let b3 : Vec F S32x768 .f32 ← Prog.lift (.load arg2 (Rect.unit (s := S256x6912) ![r, 2304] S32x768.size (inbF hr (by decide))).toLoadRect (View.loadsAt_vmem h_S32x768))
  let g3 : Vec F S1x768 .f32 ← Prog.lift (.load arg4 (Rect.unit (s := S1x6912) ![0, 2304] S1x768.size (inbG (by decide))).toLoadRect (View.loadsAt_vmem h_S1x768))
  let b4 : Vec F S32x768 .f32 ← Prog.lift (.load arg2 (Rect.unit (s := S256x6912) ![r, 3072] S32x768.size (inbF hr (by decide))).toLoadRect (View.loadsAt_vmem h_S32x768))
  let g4 : Vec F S1x768 .f32 ← Prog.lift (.load arg4 (Rect.unit (s := S1x6912) ![0, 3072] S1x768.size (inbG (by decide))).toLoadRect (View.loadsAt_vmem h_S1x768))
  let b5 : Vec F S32x768 .f32 ← Prog.lift (.load arg2 (Rect.unit (s := S256x6912) ![r, 3840] S32x768.size (inbF hr (by decide))).toLoadRect (View.loadsAt_vmem h_S32x768))
  let g5 : Vec F S1x768 .f32 ← Prog.lift (.load arg4 (Rect.unit (s := S1x6912) ![0, 3840] S1x768.size (inbG (by decide))).toLoadRect (View.loadsAt_vmem h_S1x768))
  let b6 : Vec F S32x768 .f32 ← Prog.lift (.load arg2 (Rect.unit (s := S256x6912) ![r, 4608] S32x768.size (inbF hr (by decide))).toLoadRect (View.loadsAt_vmem h_S32x768))
  let g6 : Vec F S1x768 .f32 ← Prog.lift (.load arg4 (Rect.unit (s := S1x6912) ![0, 4608] S1x768.size (inbG (by decide))).toLoadRect (View.loadsAt_vmem h_S1x768))
  let b7 : Vec F S32x768 .f32 ← Prog.lift (.load arg2 (Rect.unit (s := S256x6912) ![r, 5376] S32x768.size (inbF hr (by decide))).toLoadRect (View.loadsAt_vmem h_S32x768))
  let g7 : Vec F S1x768 .f32 ← Prog.lift (.load arg4 (Rect.unit (s := S1x6912) ![0, 5376] S1x768.size (inbG (by decide))).toLoadRect (View.loadsAt_vmem h_S1x768))
  let b8 : Vec F S32x768 .f32 ← Prog.lift (.load arg2 (Rect.unit (s := S256x6912) ![r, 6144] S32x768.size (inbF hr (by decide))).toLoadRect (View.loadsAt_vmem h_S32x768))
  let g8 : Vec F S1x768 .f32 ← Prog.lift (.load arg4 (Rect.unit (s := S1x6912) ![0, 6144] S1x768.size (inbG (by decide))).toLoadRect (View.loadsAt_vmem h_S1x768))
  let c0 : Vec F S32x768 .f32 ← Prog.lift (.load arg2 (Rect.unit (s := S256x6912) ![r, 0] S32x768.size (inbF hr (by decide))).toLoadRect (View.loadsAt_vmem h_S32x768))
  let d0 : Vec F S1x768 .f32 ← Prog.lift (.load arg4 (Rect.unit (s := S1x6912) ![0, 0] S1x768.size (inbG (by decide))).toLoadRect (View.loadsAt_vmem h_S1x768))
  let _ : Vec F S32x768 .i8 ← Prog.lift (.load arg7 (Rect.unit (s := S256x6912) ![r, 0] S32x768.size (inbF hr (by decide))).toLoadRect (View.loadsAt_vmem h_S32x768))
  Prog.lift (.store arg7 (Rect.unit (s := S256x6912) ![r, 0] S32x768.size (inbF hr (by decide))) (fptosi 8 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c0 d0))) Finset.univ (View.stores_vmem h_S32x768 (harg7.storeExact_slice rfl _ (packF hd hr (by decide))) (fun _ => rfl)) (.inl rfl))
  let _ : Vec F S1x32x768 .bf16 ← Prog.lift (.load arg10 (Rect.unit (s := S2x256x6912) ![b, r, 0] S1x32x768.size (inbC hb hr (by decide))).toLoadRect (View.loadsAt_vmem h_S1x32x768))
  Prog.lift (.store arg10 (Rect.unit (s := S2x256x6912) ![b, r, 0] S1x32x768.size (inbC hb hr (by decide))) (shapeCast S1x32x768 (truncf .bf16 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c0 d0)) bitsLt_bf16_f32) shapeCasts_S32x768_S1x32x768) Finset.univ (View.stores_vmem h_S1x32x768 (harg10.storeExact_slice rfl _ (packC hb hd hr (by decide))) (fun _ => rfl)) (.inl rfl))
  let c1 : Vec F S32x768 .f32 ← Prog.lift (.load arg2 (Rect.unit (s := S256x6912) ![r, 768] S32x768.size (inbF hr (by decide))).toLoadRect (View.loadsAt_vmem h_S32x768))
  let d1 : Vec F S1x768 .f32 ← Prog.lift (.load arg4 (Rect.unit (s := S1x6912) ![0, 768] S1x768.size (inbG (by decide))).toLoadRect (View.loadsAt_vmem h_S1x768))
  let _ : Vec F S32x768 .i8 ← Prog.lift (.load arg7 (Rect.unit (s := S256x6912) ![r, 768] S32x768.size (inbF hr (by decide))).toLoadRect (View.loadsAt_vmem h_S32x768))
  Prog.lift (.store arg7 (Rect.unit (s := S256x6912) ![r, 768] S32x768.size (inbF hr (by decide))) (fptosi 8 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c1 d1))) Finset.univ (View.stores_vmem h_S32x768 (harg7.storeExact_slice rfl _ (packF hd hr (by decide))) (fun _ => rfl)) (.inl rfl))
  let _ : Vec F S1x32x768 .bf16 ← Prog.lift (.load arg10 (Rect.unit (s := S2x256x6912) ![b, r, 768] S1x32x768.size (inbC hb hr (by decide))).toLoadRect (View.loadsAt_vmem h_S1x32x768))
  Prog.lift (.store arg10 (Rect.unit (s := S2x256x6912) ![b, r, 768] S1x32x768.size (inbC hb hr (by decide))) (shapeCast S1x32x768 (truncf .bf16 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c1 d1)) bitsLt_bf16_f32) shapeCasts_S32x768_S1x32x768) Finset.univ (View.stores_vmem h_S1x32x768 (harg10.storeExact_slice rfl _ (packC hb hd hr (by decide))) (fun _ => rfl)) (.inl rfl))
  let c2 : Vec F S32x768 .f32 ← Prog.lift (.load arg2 (Rect.unit (s := S256x6912) ![r, 1536] S32x768.size (inbF hr (by decide))).toLoadRect (View.loadsAt_vmem h_S32x768))
  let d2 : Vec F S1x768 .f32 ← Prog.lift (.load arg4 (Rect.unit (s := S1x6912) ![0, 1536] S1x768.size (inbG (by decide))).toLoadRect (View.loadsAt_vmem h_S1x768))
  let _ : Vec F S32x768 .i8 ← Prog.lift (.load arg7 (Rect.unit (s := S256x6912) ![r, 1536] S32x768.size (inbF hr (by decide))).toLoadRect (View.loadsAt_vmem h_S32x768))
  Prog.lift (.store arg7 (Rect.unit (s := S256x6912) ![r, 1536] S32x768.size (inbF hr (by decide))) (fptosi 8 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c2 d2))) Finset.univ (View.stores_vmem h_S32x768 (harg7.storeExact_slice rfl _ (packF hd hr (by decide))) (fun _ => rfl)) (.inl rfl))
  let _ : Vec F S1x32x768 .bf16 ← Prog.lift (.load arg10 (Rect.unit (s := S2x256x6912) ![b, r, 1536] S1x32x768.size (inbC hb hr (by decide))).toLoadRect (View.loadsAt_vmem h_S1x32x768))
  Prog.lift (.store arg10 (Rect.unit (s := S2x256x6912) ![b, r, 1536] S1x32x768.size (inbC hb hr (by decide))) (shapeCast S1x32x768 (truncf .bf16 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c2 d2)) bitsLt_bf16_f32) shapeCasts_S32x768_S1x32x768) Finset.univ (View.stores_vmem h_S1x32x768 (harg10.storeExact_slice rfl _ (packC hb hd hr (by decide))) (fun _ => rfl)) (.inl rfl))
  let c3 : Vec F S32x768 .f32 ← Prog.lift (.load arg2 (Rect.unit (s := S256x6912) ![r, 2304] S32x768.size (inbF hr (by decide))).toLoadRect (View.loadsAt_vmem h_S32x768))
  let d3 : Vec F S1x768 .f32 ← Prog.lift (.load arg4 (Rect.unit (s := S1x6912) ![0, 2304] S1x768.size (inbG (by decide))).toLoadRect (View.loadsAt_vmem h_S1x768))
  let _ : Vec F S32x768 .i8 ← Prog.lift (.load arg7 (Rect.unit (s := S256x6912) ![r, 2304] S32x768.size (inbF hr (by decide))).toLoadRect (View.loadsAt_vmem h_S32x768))
  Prog.lift (.store arg7 (Rect.unit (s := S256x6912) ![r, 2304] S32x768.size (inbF hr (by decide))) (fptosi 8 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c3 d3))) Finset.univ (View.stores_vmem h_S32x768 (harg7.storeExact_slice rfl _ (packF hd hr (by decide))) (fun _ => rfl)) (.inl rfl))
  let _ : Vec F S1x32x768 .bf16 ← Prog.lift (.load arg10 (Rect.unit (s := S2x256x6912) ![b, r, 2304] S1x32x768.size (inbC hb hr (by decide))).toLoadRect (View.loadsAt_vmem h_S1x32x768))
  Prog.lift (.store arg10 (Rect.unit (s := S2x256x6912) ![b, r, 2304] S1x32x768.size (inbC hb hr (by decide))) (shapeCast S1x32x768 (truncf .bf16 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c3 d3)) bitsLt_bf16_f32) shapeCasts_S32x768_S1x32x768) Finset.univ (View.stores_vmem h_S1x32x768 (harg10.storeExact_slice rfl _ (packC hb hd hr (by decide))) (fun _ => rfl)) (.inl rfl))
  let c4 : Vec F S32x768 .f32 ← Prog.lift (.load arg2 (Rect.unit (s := S256x6912) ![r, 3072] S32x768.size (inbF hr (by decide))).toLoadRect (View.loadsAt_vmem h_S32x768))
  let d4 : Vec F S1x768 .f32 ← Prog.lift (.load arg4 (Rect.unit (s := S1x6912) ![0, 3072] S1x768.size (inbG (by decide))).toLoadRect (View.loadsAt_vmem h_S1x768))
  let _ : Vec F S32x768 .i8 ← Prog.lift (.load arg7 (Rect.unit (s := S256x6912) ![r, 3072] S32x768.size (inbF hr (by decide))).toLoadRect (View.loadsAt_vmem h_S32x768))
  Prog.lift (.store arg7 (Rect.unit (s := S256x6912) ![r, 3072] S32x768.size (inbF hr (by decide))) (fptosi 8 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c4 d4))) Finset.univ (View.stores_vmem h_S32x768 (harg7.storeExact_slice rfl _ (packF hd hr (by decide))) (fun _ => rfl)) (.inl rfl))
  let _ : Vec F S1x32x768 .bf16 ← Prog.lift (.load arg10 (Rect.unit (s := S2x256x6912) ![b, r, 3072] S1x32x768.size (inbC hb hr (by decide))).toLoadRect (View.loadsAt_vmem h_S1x32x768))
  Prog.lift (.store arg10 (Rect.unit (s := S2x256x6912) ![b, r, 3072] S1x32x768.size (inbC hb hr (by decide))) (shapeCast S1x32x768 (truncf .bf16 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c4 d4)) bitsLt_bf16_f32) shapeCasts_S32x768_S1x32x768) Finset.univ (View.stores_vmem h_S1x32x768 (harg10.storeExact_slice rfl _ (packC hb hd hr (by decide))) (fun _ => rfl)) (.inl rfl))
  let c5 : Vec F S32x768 .f32 ← Prog.lift (.load arg2 (Rect.unit (s := S256x6912) ![r, 3840] S32x768.size (inbF hr (by decide))).toLoadRect (View.loadsAt_vmem h_S32x768))
  let d5 : Vec F S1x768 .f32 ← Prog.lift (.load arg4 (Rect.unit (s := S1x6912) ![0, 3840] S1x768.size (inbG (by decide))).toLoadRect (View.loadsAt_vmem h_S1x768))
  let _ : Vec F S32x768 .i8 ← Prog.lift (.load arg7 (Rect.unit (s := S256x6912) ![r, 3840] S32x768.size (inbF hr (by decide))).toLoadRect (View.loadsAt_vmem h_S32x768))
  Prog.lift (.store arg7 (Rect.unit (s := S256x6912) ![r, 3840] S32x768.size (inbF hr (by decide))) (fptosi 8 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c5 d5))) Finset.univ (View.stores_vmem h_S32x768 (harg7.storeExact_slice rfl _ (packF hd hr (by decide))) (fun _ => rfl)) (.inl rfl))
  let _ : Vec F S1x32x768 .bf16 ← Prog.lift (.load arg10 (Rect.unit (s := S2x256x6912) ![b, r, 3840] S1x32x768.size (inbC hb hr (by decide))).toLoadRect (View.loadsAt_vmem h_S1x32x768))
  Prog.lift (.store arg10 (Rect.unit (s := S2x256x6912) ![b, r, 3840] S1x32x768.size (inbC hb hr (by decide))) (shapeCast S1x32x768 (truncf .bf16 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c5 d5)) bitsLt_bf16_f32) shapeCasts_S32x768_S1x32x768) Finset.univ (View.stores_vmem h_S1x32x768 (harg10.storeExact_slice rfl _ (packC hb hd hr (by decide))) (fun _ => rfl)) (.inl rfl))
  let c6 : Vec F S32x768 .f32 ← Prog.lift (.load arg2 (Rect.unit (s := S256x6912) ![r, 4608] S32x768.size (inbF hr (by decide))).toLoadRect (View.loadsAt_vmem h_S32x768))
  let d6 : Vec F S1x768 .f32 ← Prog.lift (.load arg4 (Rect.unit (s := S1x6912) ![0, 4608] S1x768.size (inbG (by decide))).toLoadRect (View.loadsAt_vmem h_S1x768))
  let _ : Vec F S32x768 .i8 ← Prog.lift (.load arg7 (Rect.unit (s := S256x6912) ![r, 4608] S32x768.size (inbF hr (by decide))).toLoadRect (View.loadsAt_vmem h_S32x768))
  Prog.lift (.store arg7 (Rect.unit (s := S256x6912) ![r, 4608] S32x768.size (inbF hr (by decide))) (fptosi 8 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c6 d6))) Finset.univ (View.stores_vmem h_S32x768 (harg7.storeExact_slice rfl _ (packF hd hr (by decide))) (fun _ => rfl)) (.inl rfl))
  let _ : Vec F S1x32x768 .bf16 ← Prog.lift (.load arg10 (Rect.unit (s := S2x256x6912) ![b, r, 4608] S1x32x768.size (inbC hb hr (by decide))).toLoadRect (View.loadsAt_vmem h_S1x32x768))
  Prog.lift (.store arg10 (Rect.unit (s := S2x256x6912) ![b, r, 4608] S1x32x768.size (inbC hb hr (by decide))) (shapeCast S1x32x768 (truncf .bf16 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c6 d6)) bitsLt_bf16_f32) shapeCasts_S32x768_S1x32x768) Finset.univ (View.stores_vmem h_S1x32x768 (harg10.storeExact_slice rfl _ (packC hb hd hr (by decide))) (fun _ => rfl)) (.inl rfl))
  let c7 : Vec F S32x768 .f32 ← Prog.lift (.load arg2 (Rect.unit (s := S256x6912) ![r, 5376] S32x768.size (inbF hr (by decide))).toLoadRect (View.loadsAt_vmem h_S32x768))
  let d7 : Vec F S1x768 .f32 ← Prog.lift (.load arg4 (Rect.unit (s := S1x6912) ![0, 5376] S1x768.size (inbG (by decide))).toLoadRect (View.loadsAt_vmem h_S1x768))
  let _ : Vec F S32x768 .i8 ← Prog.lift (.load arg7 (Rect.unit (s := S256x6912) ![r, 5376] S32x768.size (inbF hr (by decide))).toLoadRect (View.loadsAt_vmem h_S32x768))
  Prog.lift (.store arg7 (Rect.unit (s := S256x6912) ![r, 5376] S32x768.size (inbF hr (by decide))) (fptosi 8 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c7 d7))) Finset.univ (View.stores_vmem h_S32x768 (harg7.storeExact_slice rfl _ (packF hd hr (by decide))) (fun _ => rfl)) (.inl rfl))
  let _ : Vec F S1x32x768 .bf16 ← Prog.lift (.load arg10 (Rect.unit (s := S2x256x6912) ![b, r, 5376] S1x32x768.size (inbC hb hr (by decide))).toLoadRect (View.loadsAt_vmem h_S1x32x768))
  Prog.lift (.store arg10 (Rect.unit (s := S2x256x6912) ![b, r, 5376] S1x32x768.size (inbC hb hr (by decide))) (shapeCast S1x32x768 (truncf .bf16 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c7 d7)) bitsLt_bf16_f32) shapeCasts_S32x768_S1x32x768) Finset.univ (View.stores_vmem h_S1x32x768 (harg10.storeExact_slice rfl _ (packC hb hd hr (by decide))) (fun _ => rfl)) (.inl rfl))
  let c8 : Vec F S32x768 .f32 ← Prog.lift (.load arg2 (Rect.unit (s := S256x6912) ![r, 6144] S32x768.size (inbF hr (by decide))).toLoadRect (View.loadsAt_vmem h_S32x768))
  let d8 : Vec F S1x768 .f32 ← Prog.lift (.load arg4 (Rect.unit (s := S1x6912) ![0, 6144] S1x768.size (inbG (by decide))).toLoadRect (View.loadsAt_vmem h_S1x768))
  let _ : Vec F S32x768 .i8 ← Prog.lift (.load arg7 (Rect.unit (s := S256x6912) ![r, 6144] S32x768.size (inbF hr (by decide))).toLoadRect (View.loadsAt_vmem h_S32x768))
  Prog.lift (.store arg7 (Rect.unit (s := S256x6912) ![r, 6144] S32x768.size (inbF hr (by decide))) (fptosi 8 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c8 d8))) Finset.univ (View.stores_vmem h_S32x768 (harg7.storeExact_slice rfl _ (packF hd hr (by decide))) (fun _ => rfl)) (.inl rfl))
  let _ : Vec F S1x32x768 .bf16 ← Prog.lift (.load arg10 (Rect.unit (s := S2x256x6912) ![b, r, 6144] S1x32x768.size (inbC hb hr (by decide))).toLoadRect (View.loadsAt_vmem h_S1x32x768))
  Prog.lift (.store arg10 (Rect.unit (s := S2x256x6912) ![b, r, 6144] S1x32x768.size (inbC hb hr (by decide))) (shapeCast S1x32x768 (truncf .bf16 (codeOf (scaleOf (amOf (rinvOf (ssOf ![a0, a1, a2, a3, a4, a5, a6, a7, a8])) ![b0, b1, b2, b3, b4, b5, b6, b7, b8] ![g0, g1, g2, g3, g4, g5, g6, g7, g8])) (normOf (rinvOf (ssOf ![a0, a1, a2, a3, a4, a5, a6, a7, a8])) c8 d8)) bitsLt_bf16_f32) shapeCasts_S32x768_S1x32x768) Finset.univ (View.stores_vmem h_S1x32x768 (harg10.storeExact_slice rfl _ (packC hb hd hr (by decide))) (fun _ => rfl)) (.inl rfl))
  let _ : Vec F S32x1 .f32 ← Prog.lift (.load arg8 (Rect.unit (s := S256x1) ![r, 0] S32x1.size (inbS hr)).toLoadRect (View.loadsAt_vmem h_S32x1))
  Prog.lift (.store arg8 (Rect.unit (s := S256x1) ![r, 0] S32x1.size (inbS hr)) (scaleOf (amOf (rinvOf (ssOf ![a0, a1, a2, a3, a4, a5, a6, a7, a8])) ![b0, b1, b2, b3, b4, b5, b6, b7, b8] ![g0, g1, g2, g3, g4, g5, g6, g7, g8])) Finset.univ (View.stores_vmem_bits_univ h_S32x1 rfl) (.inl rfl))
  let _ : Vec F S1x32x1 .f32 ← Prog.lift (.load arg11 (Rect.unit (s := S2x256x1) ![b, r, 0] S1x32x1.size (inbT hb hr)).toLoadRect (View.loadsAt_vmem h_S1x32x1))
  Prog.lift (.store arg11 (Rect.unit (s := S2x256x1) ![b, r, 0] S1x32x1.size (inbT hb hr)) (shapeCast S1x32x1 (scaleOf (amOf (rinvOf (ssOf ![a0, a1, a2, a3, a4, a5, a6, a7, a8])) ![b0, b1, b2, b3, b4, b5, b6, b7, b8] ![g0, g1, g2, g3, g4, g5, g6, g7, g8])) shapeCasts_S32x1_S1x32x1) Finset.univ (View.stores_vmem_bits_univ h_S1x32x1 rfl) (.inl rfl))
  k

/-- The output columns `n` to `n + 256`, from the slot `b` and its scales `sa`. -/
def chunk (n b : ℕ) (hb : b < 2) (hn : n + 256 ≤ 2560) (sa : Vec F S1x256x1 .f32)
    (arg1 : Memref sig .tc .smem S1 .f32) (harg1 : arg1.IsWhole) (arg3 : Memref sig .tc .vmem S256x2560 .f32) (harg3 : arg3.IsWhole) (arg6 : Memref sig .tc .vmem S256x2560 .bf16) (harg6 : arg6.IsWhole) (arg9 : Memref sig .tc .vmem S2560x6912 .i8) (harg9 : arg9.IsWhole) (arg10 : Memref sig .tc .vmem S2x256x6912 .bf16) (harg10 : arg10.IsWhole) (k : Prog (TpuEff nD τ sig (Elt F) Λ₀ .tc) PUnit) :
    Prog (TpuEff nD τ sig (Elt F) Λ₀ .tc) PUnit := do
  let c : Vec F S1x256x6912 .bf16 ← Prog.lift (.load arg10 (Rect.unit (s := S2x256x6912) ![b, 0, 0] S1x256x6912.size (inbC' hb)).toLoadRect (View.loadsAt_vmem h_S1x256x6912))
  let w : Vec F S256x6912 .i8 ← Prog.lift (.load arg9 (Rect.unit (s := S2560x6912) ![n, 0] S256x6912.size (inbW hn)).toLoadRect (View.loadsAt_vmem h_S256x6912))
  let h : Vec F S256x256 .f32 ← Prog.lift (.load arg3 (Rect.unit (s := S256x2560) ![0, n] S256x256.size (inbO hn)).toLoadRect (View.loadsAt_vmem h_S256x256))
  let ws : Elt F .f32 ← smemLoad arg1 (Rect.unit (s := S1) ![0] S1.size inb_S1_S1_0) numel1_S1 rfl
  let _ : Vec F S256x256 .bf16 ← Prog.lift (.load arg6 (Rect.unit (s := S256x2560) ![0, n] S256x256.size (inbO hn)).toLoadRect (View.loadsAt_vmem h_S256x256))
  Prog.lift (.store arg6 (Rect.unit (s := S256x2560) ![0, n] S256x256.size (inbO hn)) (outOf sa c w h ws) Finset.univ (View.stores_vmem h_S256x256 (harg6.storeExact_slice rfl _ (packO hn)) (fun _ => rfl)) (.inl rfl))
  k

end Cert.DownIdeal.Hand
-- ==== Proof.DownState.lean ====
/-
  What the pieces of the down kernel leave in its buffers: the codes and scales of a tile, and the output columns.
-/
module

public import proofs.«01_k».proof.Proof.DownPiece
public import proofs.«01_k».proof.Proof.Strips
public import proofs.«01_k».proof.Proof.Gen.DownIdeal.Frame
public import Idealize.ShloMosaic.Lib.Pipeline.FrameBody
public import Idealize.ShloMosaic.Lib.Ring
public import Idealize.ShloMosaic.Lib.ValueLayout
public import Idealize.ShloMosaic.Lib.Tactic

@[expose] public section

set_option maxRecDepth 16384

noncomputable section

namespace Cert.DownIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal.Gen

variable {F : FTy → Type} [FloatOps F]

local notation "𝕄" => MT nD τ sig Unit (Elt F) ℕ (UR sig nD τ) ℕ

theorem row_le (p : Fin 8) : 32 * p.val + 32 ≤ 256 := by have := p.isLt; omega
theorem col_le (j : Fin 9) : 768 * j.val + 768 ≤ 6912 := by have := j.isLt; omega
theorem out_le (n : Fin 10) : 256 * n.val + 256 ≤ 2560 := by have := n.isLt; omega

/-- The nine chunks of 32 rows of a tile. -/
def rowsOf (x : Vec F S256x6912 .f32) (p : Fin 8) (j : Fin 9) : Vec F S32x768 .f32 :=
  VecWindow.window x ![32 * p.val, 768 * j.val] S32x768.size (inbF (row_le p) (col_le j))

/-- The nine chunks of the norm's weights. -/
def colsOf (g : Vec F S1x6912 .f32) (j : Fin 9) : Vec F S1x768 .f32 :=
  VecWindow.window g ![0, 768 * j.val] S1x768.size (inbG (col_le j))

/-- The scales of 32 rows. -/
def pScale (x : Vec F S256x6912 .f32) (g : Vec F S1x6912 .f32) (p : Fin 8) : FVec F S32x1 .f32 :=
  scaleOf (amOf (rinvOf (ssOf (rowsOf x p))) (rowsOf x p) (colsOf g))

/-- The codes of 32 rows and 768 columns, as floats. -/
def pCode (x : Vec F S256x6912 .f32) (g : Vec F S1x6912 .f32) (p : Fin 8) (j : Fin 9) : FVec F S32x768 .f32 :=
  codeOf (pScale x g p) (normOf (rinvOf (ssOf (rowsOf x p))) (rowsOf x p j) (colsOf g j))

/-- The piece a row lies in. -/
def pOf (r : Fin 256) : Fin 8 := ⟨r.val / 32, by have := r.isLt; omega⟩
def rOf (r : Fin 256) : Fin 32 := ⟨r.val % 32, Nat.mod_lt _ (by decide)⟩
def jOf (l : Fin 6912) : Fin 9 := ⟨l.val / 768, by have := l.isLt; omega⟩
def lOf (l : Fin 6912) : Fin 768 := ⟨l.val % 768, Nat.mod_lt _ (by decide)⟩
def nOf (l : Fin 2560) : Fin 10 := ⟨l.val / 256, by have := l.isLt; omega⟩
def mOf (l : Fin 2560) : Fin 256 := ⟨l.val % 256, Nat.mod_lt _ (by decide)⟩

/-- The codes of a tile, as floats. -/
def tCode (x : Vec F S256x6912 .f32) (g : Vec F S1x6912 .f32) (r : Fin 256) (l : Fin 6912) : F .f32 :=
  pCode x g (pOf r) (jOf l) (ix2 (rOf r) (lOf l))

/-- The scales of a tile. -/
def tScale (x : Vec F S256x6912 .f32) (g : Vec F S1x6912 .f32) (r : Fin 256) : F .f32 :=
  pScale x g (pOf r) (ix2 (rOf r) (0 : Fin 1))

/-- The codes' output block. -/
def G7 (x : Vec F S256x6912 .f32) (g : Vec F S1x6912 .f32) : Vec F S256x6912 .i8 := fun y =>
  (fptosi 8 (pCode x g (pOf (y 0)) (jOf (y 1))) : IVec S32x768 8) (ix2 (rOf (y 0)) (lOf (y 1)))

/-- The scales' output block. -/
def G8 (x : Vec F S256x6912 .f32) (g : Vec F S1x6912 .f32) : Vec F S256x1 .f32 := fun y => tScale x g (y 0)

/-- The codes' scratch buffer: the slot `b` holds the tile's codes, the other slot what it held. -/
def G10 (b : ℕ) (D : Vec F S2x256x6912 .bf16) (x : Vec F S256x6912 .f32) (g : Vec F S1x6912 .f32) : Vec F S2x256x6912 .bf16 := fun y =>
  if (y 0).val = b then (truncf .bf16 (pCode x g (pOf (y 1)) (jOf (y 2))) bitsLt_bf16_f32 : FVec F S32x768 .bf16) (ix2 (rOf (y 1)) (lOf (y 2))) else D y

/-- The scales' scratch buffer, likewise. -/
def G11 (b : ℕ) (D : Vec F S2x256x1 .f32) (x : Vec F S256x6912 .f32) (g : Vec F S1x6912 .f32) : Vec F S2x256x1 .f32 := fun y =>
  if (y 0).val = b then tScale x g (y 1) else D y

/-- One chunk of the output block, from the slot `b`. -/
def oChunk (b : ℕ) (hb : b < 2) (ws : Vec F S1 .f32) (h : Vec F S256x2560 .f32) (W : Vec F S2560x6912 .i8) (D : Vec F S2x256x6912 .bf16) (T : Vec F S2x256x1 .f32) (n : Fin 10) : FVec F S256x256 .bf16 :=
  outOf (VecWindow.window T ![b, 0, 0] S1x256x1.size (inbT' hb)) (VecWindow.window D ![b, 0, 0] S1x256x6912.size (inbC' hb))
    (VecWindow.window W ![256 * n.val, 0] S256x6912.size (inbW (out_le n))) (VecWindow.window h ![0, 256 * n.val] S256x256.size (inbO (out_le n))) (ws (ix1 (0 : Fin 1)))

/-- The output block. -/
def G6 (b : ℕ) (hb : b < 2) (ws : Vec F S1 .f32) (h : Vec F S256x2560 .f32) (W : Vec F S2560x6912 .i8) (D : Vec F S2x256x6912 .bf16) (T : Vec F S2x256x1 .f32) : Vec F S256x2560 .bf16 := fun y =>
  oChunk b hb ws h W D T (nOf (y 1)) (ix2 (y 0) (mOf (y 1)))

/-- A buffer that holds the values of `G` at the indices of `P`. -/
def Part {s : Shape} {e : EltTy} (c : Dev nD) (m : Memref sig .tc .vmem s e) (G : Vec F s e) (P : s.Idx → Prop) : sProp 𝕄 :=
  iprop(∃ d, ⌜∀ y, P y → d y = G y⌝ ∗ owns (c : Thread nD τ) m fullShare d)

/-- Pieces that hold the values of `G` widen the indices at which the buffer does. -/
theorem read_part {s : Shape} {e : EltTy} (V : View sig .tc .vmem s e) (f : BufTy.Contents (Elt F) V.ty) (G : Vec F s e) (P Q : s.Idx → Prop)
    (L : List (View.Piece (Elt F) s e)) (h0 : ∀ y, P y → V.read (Elt F) f y = G y) (hL : ∀ p ∈ L, View.Agrees G p) (hQ : ∀ y, Q y → P y ∨ ∃ p ∈ L, y ∈ p.1.set) :
    ∀ y, Q y → V.read (Elt F) (V.writes (Elt F) f L) y = G y := fun y hy =>
  View.read_writes_agree V f G L hL y ((hQ y hy).elim (fun h => Or.inr (h0 y h)) Or.inl)

/-! ## The pieces agree -/

section Agree

variable (x : Vec F S256x6912 .f32) (g : Vec F S1x6912 .f32) (p : Fin 8)

theorem pOf_row (r : Fin 32) (h : 32 * p.val + 1 * r.val < 256) : pOf ⟨32 * p.val + 1 * r.val, h⟩ = p := Fin.ext (by have := r.isLt; show (32 * p.val + 1 * r.val) / 32 = p.val; omega)
theorem rOf_row (r : Fin 32) (h : 32 * p.val + 1 * r.val < 256) : rOf ⟨32 * p.val + 1 * r.val, h⟩ = r := Fin.ext (by have := r.isLt; show (32 * p.val + 1 * r.val) % 32 = r.val; omega)
theorem jOf_col (j : Fin 9) (l : Fin 768) (h : 768 * j.val + 1 * l.val < 6912) : jOf ⟨768 * j.val + 1 * l.val, h⟩ = j := Fin.ext (by have := l.isLt; show (768 * j.val + 1 * l.val) / 768 = j.val; omega)
theorem lOf_col (j : Fin 9) (l : Fin 768) (h : 768 * j.val + 1 * l.val < 6912) : lOf ⟨768 * j.val + 1 * l.val, h⟩ = l := Fin.ext (by have := l.isLt; show (768 * j.val + 1 * l.val) % 768 = l.val; omega)

theorem agrees7 (j : Fin 9) (w : IVec S32x768 8) (hw : w = fptosi 8 (pCode x g p j)) :
    View.Agrees (G7 x g) (⟨Rect.unit (s := S256x6912) ![32 * p.val, 768 * j.val] S32x768.size (inbF (row_le p) (col_le j)), w⟩ : View.Piece (Elt F) S256x6912 .i8) := by
  subst hw
  intro z
  obtain ⟨r, l, rfl⟩ : ∃ (r : Fin 32) (l : Fin 768), z = ix2 r l := ⟨z 0, z 1, by funext a; match a with | ⟨0, _⟩ => rfl | ⟨1, _⟩ => rfl⟩
  have hr := r.isLt
  have hl := l.isLt
  have hp := row_le p
  have hj := col_le j
  have e1 := pOf_row p r (by omega)
  have e2 := rOf_row p r (by omega)
  have e3 := jOf_col j l (by omega)
  have e4 := lOf_col j l (by omega)
  show _ = (fptosi 8 (pCode x g (pOf ⟨32 * p.val + 1 * r.val, _⟩) (jOf ⟨768 * j.val + 1 * l.val, _⟩)) : IVec S32x768 8) (ix2 (rOf ⟨32 * p.val + 1 * r.val, _⟩) (lOf ⟨768 * j.val + 1 * l.val, _⟩))
  rw [e1, e2, e3, e4]

theorem agrees8 (w : FVec F S32x1 .f32) (hw : w = pScale x g p) :
    View.Agrees (G8 x g) (⟨Rect.unit (s := S256x1) ![32 * p.val, 0] S32x1.size (inbS (row_le p)), w⟩ : View.Piece (Elt F) S256x1 .f32) := by
  subst hw
  intro z
  obtain ⟨r, l, rfl⟩ : ∃ (r : Fin 32) (l : Fin 1), z = ix2 r l := ⟨z 0, z 1, by funext a; match a with | ⟨0, _⟩ => rfl | ⟨1, _⟩ => rfl⟩
  have hr := r.isLt
  have hp := row_le p
  have e1 := pOf_row p r (by omega)
  have e2 := rOf_row p r (by omega)
  show _ = pScale x g (pOf ⟨32 * p.val + 1 * r.val, _⟩) (ix2 (rOf ⟨32 * p.val + 1 * r.val, _⟩) (0 : Fin 1))
  rw [e1, e2, Subsingleton.elim l 0]

theorem agrees10 (b : ℕ) (hb : b < 2) (D : Vec F S2x256x6912 .bf16) (j : Fin 9) (w : FVec F S1x32x768 .bf16)
    (hw : w = shapeCast S1x32x768 (truncf .bf16 (pCode x g p j) bitsLt_bf16_f32) shapeCasts_S32x768_S1x32x768) :
    View.Agrees (G10 b D x g) (⟨Rect.unit (s := S2x256x6912) ![b, 32 * p.val, 768 * j.val] S1x32x768.size (inbC hb (row_le p) (col_le j)), w⟩ : View.Piece (Elt F) S2x256x6912 .bf16) := by
  subst hw
  intro z
  obtain ⟨q, r, l, rfl⟩ : ∃ (q : Fin 1) (r : Fin 32) (l : Fin 768), z = ix3 q r l := ⟨z 0, z 1, z 2, by funext a; match a with | ⟨0, _⟩ => rfl | ⟨1, _⟩ => rfl | ⟨2, _⟩ => rfl⟩
  obtain rfl : q = 0 := Subsingleton.elim _ _
  have hr := r.isLt
  have hl := l.isLt
  have hp := row_le p
  have hj := col_le j
  have e1 := pOf_row p r (by omega)
  have e2 := rOf_row p r (by omega)
  have e3 := jOf_col j l (by omega)
  have e4 := lOf_col j l (by omega)
  refine Eq.trans ?_ (if_pos (show b + 1 * (0 : ℕ) = b by omega)).symm
  show _ = (truncf .bf16 (pCode x g (pOf ⟨32 * p.val + 1 * r.val, _⟩) (jOf ⟨768 * j.val + 1 * l.val, _⟩)) bitsLt_bf16_f32 : FVec F S32x768 .bf16) (ix2 (rOf ⟨32 * p.val + 1 * r.val, _⟩) (lOf ⟨768 * j.val + 1 * l.val, _⟩))
  rw [e1, e2, e3, e4]
  exact shapeCast_ab_1ab_apply (a := 32) (b := 768) (truncf .bf16 (pCode x g p j) bitsLt_bf16_f32 : FVec F S32x768 .bf16) shapeCasts_S32x768_S1x32x768 0 r l

theorem agrees11 (b : ℕ) (hb : b < 2) (D : Vec F S2x256x1 .f32) (w : FVec F S1x32x1 .f32)
    (hw : w = shapeCast S1x32x1 (pScale x g p) shapeCasts_S32x1_S1x32x1) :
    View.Agrees (G11 b D x g) (⟨Rect.unit (s := S2x256x1) ![b, 32 * p.val, 0] S1x32x1.size (inbT hb (row_le p)), w⟩ : View.Piece (Elt F) S2x256x1 .f32) := by
  subst hw
  intro z
  obtain ⟨q, r, l, rfl⟩ : ∃ (q : Fin 1) (r : Fin 32) (l : Fin 1), z = ix3 q r l := ⟨z 0, z 1, z 2, by funext a; match a with | ⟨0, _⟩ => rfl | ⟨1, _⟩ => rfl | ⟨2, _⟩ => rfl⟩
  obtain rfl : q = 0 := Subsingleton.elim _ _
  obtain rfl : l = 0 := Subsingleton.elim _ _
  have hr := r.isLt
  have hp := row_le p
  have e1 := pOf_row p r (by omega)
  have e2 := rOf_row p r (by omega)
  refine Eq.trans ?_ (if_pos (show b + 1 * (0 : ℕ) = b by omega)).symm
  show _ = pScale x g (pOf ⟨32 * p.val + 1 * r.val, _⟩) (ix2 (rOf ⟨32 * p.val + 1 * r.val, _⟩) (0 : Fin 1))
  rw [e1, e2]
  exact shapeCast_ab_1ab_apply (a := 32) (b := 1) (pScale x g p) shapeCasts_S32x1_S1x32x1 0 r 0

end Agree

theorem agrees6 (b : ℕ) (hb : b < 2) (ws : Vec F S1 .f32) (h : Vec F S256x2560 .f32) (W : Vec F S2560x6912 .i8) (D : Vec F S2x256x6912 .bf16) (T : Vec F S2x256x1 .f32) (n : Fin 10)
    (w : FVec F S256x256 .bf16) (hw : w = oChunk b hb ws h W D T n) :
    View.Agrees (G6 b hb ws h W D T) (⟨Rect.unit (s := S256x2560) ![0, 256 * n.val] S256x256.size (inbO (out_le n)), w⟩ : View.Piece (Elt F) S256x2560 .bf16) := by
  subst hw
  intro z
  obtain ⟨r, l, rfl⟩ : ∃ (r : Fin 256) (l : Fin 256), z = ix2 r l := ⟨z 0, z 1, by funext a; match a with | ⟨0, _⟩ => rfl | ⟨1, _⟩ => rfl⟩
  have hr := r.isLt
  have hl := l.isLt
  have hn := out_le n
  have e1 : nOf ⟨256 * n.val + 1 * l.val, by omega⟩ = n := Fin.ext (by show (256 * n.val + 1 * l.val) / 256 = n.val; omega)
  have e2 : mOf ⟨256 * n.val + 1 * l.val, by omega⟩ = l := Fin.ext (by show (256 * n.val + 1 * l.val) % 256 = l.val; omega)
  have e3 : (⟨0 + 1 * r.val, by omega⟩ : Fin 256) = r := Fin.ext (by show 0 + 1 * r.val = r.val; omega)
  show _ = oChunk b hb ws h W D T (nOf ⟨256 * n.val + 1 * l.val, _⟩) (ix2 ⟨0 + 1 * r.val, _⟩ (mOf ⟨256 * n.val + 1 * l.val, _⟩))
  rw [e1, e2, e3]

end Cert.DownIdeal.Hand
-- ==== Proof.DownStep.lean ====
/-
  The down kernel's two repeated pieces, run: what each reads from and leaves in the buffers.
-/
module

public import proofs.«01_k».proof.Proof.DownState
public import Idealize.ShloMosaic.Lib.Pipeline.FrameBody
public import Idealize.ShloMosaic.Lib.Ring
public import Idealize.ShloMosaic.Lib.ValueLayout
public import Idealize.ShloMosaic.Lib.Tactic

@[expose] public section

set_option maxRecDepth 16384

noncomputable section

namespace Cert.DownIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal.Gen

variable {F : FTy → Type} [FloatOps F]

local notation "𝕄" => MT nD τ sig Unit (Elt F) ℕ (UR sig nD τ) ℕ

/-! ## What the loads read -/

theorem row_read (m : Memref sig .tc .vmem S256x6912 .f32) (hm : m.IsWhole) (x : Vec F S256x6912 .f32) (p : Fin 8) (j : Fin 9) {c : ℕ} (hc : c = 768 * j.val)
    (inb : ∀ a, (![32 * p.val, c] : Fin 2 → ℕ) a + S32x768.size a ≤ S256x6912.size a) :
    m.view.readAt (Elt F) (Rect.unit (s := S256x6912) ![32 * p.val, c] S32x768.size inb).toLoadRect (hm.unread x) = rowsOf x p j := by
  subst hc
  rw [View.readAt_unit _ _ inb rfl inb, hm.read_unread]
  rfl

theorem col_read (m : Memref sig .tc .vmem S1x6912 .f32) (hm : m.IsWhole) (g : Vec F S1x6912 .f32) (j : Fin 9) {c : ℕ} (hc : c = 768 * j.val)
    (inb : ∀ a, (![0, c] : Fin 2 → ℕ) a + S1x768.size a ≤ S1x6912.size a) :
    m.view.readAt (Elt F) (Rect.unit (s := S1x6912) ![0, c] S1x768.size inb).toLoadRect (hm.unread g) = colsOf g j := by
  subst hc
  rw [View.readAt_unit _ _ inb rfl inb, hm.read_unread]
  rfl

theorem rows_read (m : Memref sig .tc .vmem S256x6912 .f32) (hm : m.IsWhole) (x : Vec F S256x6912 .f32) (p : Fin 8)
    (i0 : ∀ a, (![32 * p.val, 0] : Fin 2 → ℕ) a + S32x768.size a ≤ S256x6912.size a) (i1 : ∀ a, (![32 * p.val, 768] : Fin 2 → ℕ) a + S32x768.size a ≤ S256x6912.size a) (i2 : ∀ a, (![32 * p.val, 1536] : Fin 2 → ℕ) a + S32x768.size a ≤ S256x6912.size a) (i3 : ∀ a, (![32 * p.val, 2304] : Fin 2 → ℕ) a + S32x768.size a ≤ S256x6912.size a) (i4 : ∀ a, (![32 * p.val, 3072] : Fin 2 → ℕ) a + S32x768.size a ≤ S256x6912.size a) (i5 : ∀ a, (![32 * p.val, 3840] : Fin 2 → ℕ) a + S32x768.size a ≤ S256x6912.size a) (i6 : ∀ a, (![32 * p.val, 4608] : Fin 2 → ℕ) a + S32x768.size a ≤ S256x6912.size a) (i7 : ∀ a, (![32 * p.val, 5376] : Fin 2 → ℕ) a + S32x768.size a ≤ S256x6912.size a) (i8 : ∀ a, (![32 * p.val, 6144] : Fin 2 → ℕ) a + S32x768.size a ≤ S256x6912.size a) :
    (![m.view.readAt (Elt F) (Rect.unit (s := S256x6912) ![32 * p.val, 0] S32x768.size i0).toLoadRect (hm.unread x), m.view.readAt (Elt F) (Rect.unit (s := S256x6912) ![32 * p.val, 768] S32x768.size i1).toLoadRect (hm.unread x), m.view.readAt (Elt F) (Rect.unit (s := S256x6912) ![32 * p.val, 1536] S32x768.size i2).toLoadRect (hm.unread x), m.view.readAt (Elt F) (Rect.unit (s := S256x6912) ![32 * p.val, 2304] S32x768.size i3).toLoadRect (hm.unread x), m.view.readAt (Elt F) (Rect.unit (s := S256x6912) ![32 * p.val, 3072] S32x768.size i4).toLoadRect (hm.unread x), m.view.readAt (Elt F) (Rect.unit (s := S256x6912) ![32 * p.val, 3840] S32x768.size i5).toLoadRect (hm.unread x), m.view.readAt (Elt F) (Rect.unit (s := S256x6912) ![32 * p.val, 4608] S32x768.size i6).toLoadRect (hm.unread x), m.view.readAt (Elt F) (Rect.unit (s := S256x6912) ![32 * p.val, 5376] S32x768.size i7).toLoadRect (hm.unread x), m.view.readAt (Elt F) (Rect.unit (s := S256x6912) ![32 * p.val, 6144] S32x768.size i8).toLoadRect (hm.unread x)] : Fin 9 → Vec F S32x768 .f32) = rowsOf x p :=
  funext fun j => by
    match j with
    | ⟨0, _⟩ => exact row_read m hm x p 0 rfl _
    | ⟨1, _⟩ => exact row_read m hm x p 1 rfl _
    | ⟨2, _⟩ => exact row_read m hm x p 2 rfl _
    | ⟨3, _⟩ => exact row_read m hm x p 3 rfl _
    | ⟨4, _⟩ => exact row_read m hm x p 4 rfl _
    | ⟨5, _⟩ => exact row_read m hm x p 5 rfl _
    | ⟨6, _⟩ => exact row_read m hm x p 6 rfl _
    | ⟨7, _⟩ => exact row_read m hm x p 7 rfl _
    | ⟨8, _⟩ => exact row_read m hm x p 8 rfl _

theorem cols_read (m : Memref sig .tc .vmem S1x6912 .f32) (hm : m.IsWhole) (g : Vec F S1x6912 .f32)
    (i0 : ∀ a, (![0, 0] : Fin 2 → ℕ) a + S1x768.size a ≤ S1x6912.size a) (i1 : ∀ a, (![0, 768] : Fin 2 → ℕ) a + S1x768.size a ≤ S1x6912.size a) (i2 : ∀ a, (![0, 1536] : Fin 2 → ℕ) a + S1x768.size a ≤ S1x6912.size a) (i3 : ∀ a, (![0, 2304] : Fin 2 → ℕ) a + S1x768.size a ≤ S1x6912.size a) (i4 : ∀ a, (![0, 3072] : Fin 2 → ℕ) a + S1x768.size a ≤ S1x6912.size a) (i5 : ∀ a, (![0, 3840] : Fin 2 → ℕ) a + S1x768.size a ≤ S1x6912.size a) (i6 : ∀ a, (![0, 4608] : Fin 2 → ℕ) a + S1x768.size a ≤ S1x6912.size a) (i7 : ∀ a, (![0, 5376] : Fin 2 → ℕ) a + S1x768.size a ≤ S1x6912.size a) (i8 : ∀ a, (![0, 6144] : Fin 2 → ℕ) a + S1x768.size a ≤ S1x6912.size a) :
    (![m.view.readAt (Elt F) (Rect.unit (s := S1x6912) ![0, 0] S1x768.size i0).toLoadRect (hm.unread g), m.view.readAt (Elt F) (Rect.unit (s := S1x6912) ![0, 768] S1x768.size i1).toLoadRect (hm.unread g), m.view.readAt (Elt F) (Rect.unit (s := S1x6912) ![0, 1536] S1x768.size i2).toLoadRect (hm.unread g), m.view.readAt (Elt F) (Rect.unit (s := S1x6912) ![0, 2304] S1x768.size i3).toLoadRect (hm.unread g), m.view.readAt (Elt F) (Rect.unit (s := S1x6912) ![0, 3072] S1x768.size i4).toLoadRect (hm.unread g), m.view.readAt (Elt F) (Rect.unit (s := S1x6912) ![0, 3840] S1x768.size i5).toLoadRect (hm.unread g), m.view.readAt (Elt F) (Rect.unit (s := S1x6912) ![0, 4608] S1x768.size i6).toLoadRect (hm.unread g), m.view.readAt (Elt F) (Rect.unit (s := S1x6912) ![0, 5376] S1x768.size i7).toLoadRect (hm.unread g), m.view.readAt (Elt F) (Rect.unit (s := S1x6912) ![0, 6144] S1x768.size i8).toLoadRect (hm.unread g)] : Fin 9 → Vec F S1x768 .f32) = colsOf g :=
  funext fun j => by
    match j with
    | ⟨0, _⟩ => exact col_read m hm g 0 rfl _
    | ⟨1, _⟩ => exact col_read m hm g 1 rfl _
    | ⟨2, _⟩ => exact col_read m hm g 2 rfl _
    | ⟨3, _⟩ => exact col_read m hm g 3 rfl _
    | ⟨4, _⟩ => exact col_read m hm g 4 rfl _
    | ⟨5, _⟩ => exact col_read m hm g 5 rfl _
    | ⟨6, _⟩ => exact col_read m hm g 6 rfl _
    | ⟨7, _⟩ => exact col_read m hm g 7 rfl _
    | ⟨8, _⟩ => exact col_read m hm g 8 rfl _

theorem scale_val (x : Vec F S256x6912 .f32) (g : Vec F S1x6912 .f32) (p : Fin 8) {a b : Fin 9 → Vec F S32x768 .f32} {q : Fin 9 → Vec F S1x768 .f32} (ha : a = rowsOf x p) (hb : b = rowsOf x p) (hq : q = colsOf g) :
    scaleOf (amOf (rinvOf (ssOf a)) b q) = pScale x g p := by
  subst ha; subst hb; subst hq; rfl

theorem code_val (x : Vec F S256x6912 .f32) (g : Vec F S1x6912 .f32) (p : Fin 8) (j : Fin 9) {a b : Fin 9 → Vec F S32x768 .f32} {q : Fin 9 → Vec F S1x768 .f32} {c : Vec F S32x768 .f32} {d : Vec F S1x768 .f32}
    (ha : a = rowsOf x p) (hb : b = rowsOf x p) (hq : q = colsOf g) (hc : c = rowsOf x p j) (hd : d = colsOf g j) :
    codeOf (scaleOf (amOf (rinvOf (ssOf a)) b q)) (normOf (rinvOf (ssOf a)) c d) = pCode x g p j := by
  subst ha; subst hb; subst hq; subst hc; subst hd; rfl

/-! ## The indices written so far -/

def P6 (n : ℕ) (y : S256x2560.Idx) : Prop := (y 1).val < 256 * n
def P7 (n : ℕ) (y : S256x6912.Idx) : Prop := (y 0).val < 32 * n
def P8 (n : ℕ) (y : S256x1.Idx) : Prop := (y 0).val < 32 * n
def P10 (b n : ℕ) (y : S2x256x6912.Idx) : Prop := (y 0).val ≠ b ∨ (y 1).val < 32 * n
def P11 (b n : ℕ) (y : S2x256x1.Idx) : Prop := (y 0).val ≠ b ∨ (y 1).val < 32 * n

theorem mem7 (r c : ℕ) (inb : ∀ a, (![r, c] : Fin 2 → ℕ) a + S32x768.size a ≤ S256x6912.size a) (y : S256x6912.Idx)
    (h1 : r ≤ (y 0).val) (h2 : (y 0).val < r + 32) (h3 : c ≤ (y 1).val) (h4 : (y 1).val < c + 768) :
    y ∈ (Rect.unit (s := S256x6912) ![r, c] S32x768.size inb).set := by
  rw [Rect.mem_set_unit]
  intro a
  match a with
  | ⟨0, _⟩ => exact ⟨h1, h2⟩
  | ⟨1, _⟩ => exact ⟨h3, h4⟩

theorem mem8 (r : ℕ) (inb : ∀ a, (![r, 0] : Fin 2 → ℕ) a + S32x1.size a ≤ S256x1.size a) (y : S256x1.Idx)
    (h1 : r ≤ (y 0).val) (h2 : (y 0).val < r + 32) :
    y ∈ (Rect.unit (s := S256x1) ![r, 0] S32x1.size inb).set := by
  rw [Rect.mem_set_unit]
  intro a
  match a with
  | ⟨0, _⟩ => exact ⟨h1, h2⟩
  | ⟨1, _⟩ => exact ⟨Nat.zero_le _, (y 1).isLt⟩

theorem mem10 (b r c : ℕ) (inb : ∀ a, (![b, r, c] : Fin 3 → ℕ) a + S1x32x768.size a ≤ S2x256x6912.size a) (y : S2x256x6912.Idx) (h0 : (y 0).val = b)
    (h1 : r ≤ (y 1).val) (h2 : (y 1).val < r + 32) (h3 : c ≤ (y 2).val) (h4 : (y 2).val < c + 768) :
    y ∈ (Rect.unit (s := S2x256x6912) ![b, r, c] S1x32x768.size inb).set := by
  rw [Rect.mem_set_unit]
  intro a
  match a with
  | ⟨0, _⟩ => exact ⟨Nat.le_of_eq h0.symm, Nat.lt_succ_of_le (Nat.le_of_eq h0)⟩
  | ⟨1, _⟩ => exact ⟨h1, h2⟩
  | ⟨2, _⟩ => exact ⟨h3, h4⟩

theorem mem11 (b r : ℕ) (inb : ∀ a, (![b, r, 0] : Fin 3 → ℕ) a + S1x32x1.size a ≤ S2x256x1.size a) (y : S2x256x1.Idx) (h0 : (y 0).val = b)
    (h1 : r ≤ (y 1).val) (h2 : (y 1).val < r + 32) :
    y ∈ (Rect.unit (s := S2x256x1) ![b, r, 0] S1x32x1.size inb).set := by
  rw [Rect.mem_set_unit]
  intro a
  match a with
  | ⟨0, _⟩ => exact ⟨Nat.le_of_eq h0.symm, Nat.lt_succ_of_le (Nat.le_of_eq h0)⟩
  | ⟨1, _⟩ => exact ⟨h1, h2⟩
  | ⟨2, _⟩ => exact ⟨Nat.zero_le _, (y 2).isLt⟩

theorem mem6 (c : ℕ) (inb : ∀ a, (![0, c] : Fin 2 → ℕ) a + S256x256.size a ≤ S256x2560.size a) (y : S256x2560.Idx)
    (h3 : c ≤ (y 1).val) (h4 : (y 1).val < c + 256) :
    y ∈ (Rect.unit (s := S256x2560) ![0, c] S256x256.size inb).set := by
  rw [Rect.mem_set_unit]
  intro a
  match a with
  | ⟨0, _⟩ => exact ⟨Nat.zero_le _, Nat.lt_of_lt_of_eq (y 0).isLt (Nat.zero_add _).symm⟩
  | ⟨1, _⟩ => exact ⟨h3, h4⟩

/-! ## The state between pieces -/

/-- What the buffers hold after `j` chunks of output columns and `p` pieces of 32 rows: `D` and `T` are what the scratch slots held at the start, the slot
    `b` is being filled, the slot `bP` is being read. -/
def St (c : Dev nD) (arg1 : Memref sig .tc .smem S1 .f32) (arg2 : Memref sig .tc .vmem S256x6912 .f32) (arg3 : Memref sig .tc .vmem S256x2560 .f32) (arg4 : Memref sig .tc .vmem S1x6912 .f32) (arg5 : Memref sig .tc .vmem S640x6912 .i8) (arg6 : Memref sig .tc .vmem S256x2560 .bf16) (arg7 : Memref sig .tc .vmem S256x6912 .i8) (arg8 : Memref sig .tc .vmem S256x1 .f32) (arg9 : Memref sig .tc .vmem S2560x6912 .i8) (arg10 : Memref sig .tc .vmem S2x256x6912 .bf16) (arg11 : Memref sig .tc .vmem S2x256x1 .f32)
    (ws : Vec F S1 .f32) (x : Vec F S256x6912 .f32) (h : Vec F S256x2560 .f32) (g : Vec F S1x6912 .f32) (pd : Vec F S640x6912 .i8) (W : Vec F S2560x6912 .i8) (D : Vec F S2x256x6912 .bf16) (T : Vec F S2x256x1 .f32) (b bP : ℕ) (hbP : bP < 2) (R : sProp 𝕄) (j p : ℕ) : sProp 𝕄 :=
  iprop(owns (c : Thread nD τ) arg1 fullShare ws ∗ owns (c : Thread nD τ) arg2 fullShare x ∗ owns (c : Thread nD τ) arg3 fullShare h ∗ owns (c : Thread nD τ) arg4 fullShare g ∗ owns (c : Thread nD τ) arg5 fullShare pd
    ∗ Part c arg6 (G6 bP hbP ws h W D T) (P6 j) ∗ Part c arg7 (G7 x g) (P7 p) ∗ Part c arg8 (G8 x g) (P8 p) ∗ owns (c : Thread nD τ) arg9 fullShare W
    ∗ Part c arg10 (G10 b D x g) (P10 b p) ∗ Part c arg11 (G11 b T x g) (P11 b p) ∗ R)

set_option maxHeartbeats 4000000 in
/-- A piece of 32 rows. -/
theorem piece_wp (c : Dev nD) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole)
    (ws : Vec F S1 .f32) (x : Vec F S256x6912 .f32) (h : Vec F S256x2560 .f32) (g : Vec F S1x6912 .f32) (pd : Vec F S640x6912 .i8) (W : Vec F S2560x6912 .i8) (D : Vec F S2x256x6912 .bf16) (T : Vec F S2x256x1 .f32) (b bP : ℕ) (hbP : bP < 2) (R : sProp 𝕄) (E : Set ℕ) (K : PUnit → sProp 𝕄) (k : Prog (TpuEff nD τ sig (Elt F) Λ₀ .tc) PUnit)
    (j : ℕ) (p : Fin 8) (hb : b < 2) (hd : 32 ∣ 32 * p.val) (hr : 32 * p.val + 32 ≤ 256)
    (hk : St c arg1 arg2 arg3 arg4 arg5 arg6 arg7 arg8 arg9 arg10 arg11 ws x h g pd W D T b bP hbP R j (p.val + 1) ⊢ wp frame (wpE (defs₀ (F := F)) Variants.none c none) E k K) :
    St c arg1 arg2 arg3 arg4 arg5 arg6 arg7 arg8 arg9 arg10 arg11 ws x h g pd W D T b bP hbP R j p.val ⊢ wp frame (wpE (defs₀ (F := F)) Variants.none c none) E (piece (32 * p.val) b hb hd hr arg2 harg2 arg4 harg4 arg7 harg7 arg8 harg8 arg10 harg10 arg11 harg11 k) K := by
  unfold piece
  unfold St Part owns at hk ⊢
  iintro ⟨H1, ⟨%f2, %hf2, H2⟩, H3, ⟨%f4, %hf4, H4⟩, H5, H6, ⟨%d7, %hd7, %f7, %hf7, H7⟩, ⟨%d8, %hd8, %f8, %hf8, H8⟩, H9, ⟨%d10, %hd10, %f10, %hf10, H10⟩, ⟨%d11, %hd11, %f11, %hf11, H11⟩, HR⟩
  obtain rfl := harg2.eq_unread hf2; obtain rfl := harg4.eq_unread hf4
  subst hf7; subst hf8; subst hf10; subst hf11
  sl_exec
  iapply hk
  isplitl [H1]; · iexact H1
  isplitl [H2]
  · iexists _; isplitr; · ipureintro; exact harg2.read_unread _
    iexact H2
  isplitl [H3]; · iexact H3
  isplitl [H4]
  · iexists _; isplitr; · ipureintro; exact harg4.read_unread _
    iexact H4
  isplitl [H5]; · iexact H5
  isplitl [H6]; · iexact H6
  isplitl [H7]
  · iexists _; isplitr; swap
    · iexists _; isplitr; swap; · iexact H7
      ipureintro; rfl
    ipureintro
    refine read_part _ _ _ _ _ _ hd7 ?_ ?_
    · intro q hq
      simp only [List.mem_cons, List.not_mem_nil, or_false] at hq
      rcases hq with rfl | rfl | rfl | rfl | rfl | rfl | rfl | rfl | rfl
      · exact agrees7 x g p 8 _ (congrArg (fun z => (fptosi 8 z : IVec S32x768 8)) (code_val x g p 8 (rows_read arg2 harg2 x p _ _ _ _ _ _ _ _ _) (rows_read arg2 harg2 x p _ _ _ _ _ _ _ _ _) (cols_read arg4 harg4 g _ _ _ _ _ _ _ _ _) (row_read arg2 harg2 x p 8 rfl _) (col_read arg4 harg4 g 8 rfl _)))
      · exact agrees7 x g p 7 _ (congrArg (fun z => (fptosi 8 z : IVec S32x768 8)) (code_val x g p 7 (rows_read arg2 harg2 x p _ _ _ _ _ _ _ _ _) (rows_read arg2 harg2 x p _ _ _ _ _ _ _ _ _) (cols_read arg4 harg4 g _ _ _ _ _ _ _ _ _) (row_read arg2 harg2 x p 7 rfl _) (col_read arg4 harg4 g 7 rfl _)))
      · exact agrees7 x g p 6 _ (congrArg (fun z => (fptosi 8 z : IVec S32x768 8)) (code_val x g p 6 (rows_read arg2 harg2 x p _ _ _ _ _ _ _ _ _) (rows_read arg2 harg2 x p _ _ _ _ _ _ _ _ _) (cols_read arg4 harg4 g _ _ _ _ _ _ _ _ _) (row_read arg2 harg2 x p 6 rfl _) (col_read arg4 harg4 g 6 rfl _)))
      · exact agrees7 x g p 5 _ (congrArg (fun z => (fptosi 8 z : IVec S32x768 8)) (code_val x g p 5 (rows_read arg2 harg2 x p _ _ _ _ _ _ _ _ _) (rows_read arg2 harg2 x p _ _ _ _ _ _ _ _ _) (cols_read arg4 harg4 g _ _ _ _ _ _ _ _ _) (row_read arg2 harg2 x p 5 rfl _) (col_read arg4 harg4 g 5 rfl _)))
      · exact agrees7 x g p 4 _ (congrArg (fun z => (fptosi 8 z : IVec S32x768 8)) (code_val x g p 4 (rows_read arg2 harg2 x p _ _ _ _ _ _ _ _ _) (rows_read arg2 harg2 x p _ _ _ _ _ _ _ _ _) (cols_read arg4 harg4 g _ _ _ _ _ _ _ _ _) (row_read arg2 harg2 x p 4 rfl _) (col_read arg4 harg4 g 4 rfl _)))
      · exact agrees7 x g p 3 _ (congrArg (fun z => (fptosi 8 z : IVec S32x768 8)) (code_val x g p 3 (rows_read arg2 harg2 x p _ _ _ _ _ _ _ _ _) (rows_read arg2 harg2 x p _ _ _ _ _ _ _ _ _) (cols_read arg4 harg4 g _ _ _ _ _ _ _ _ _) (row_read arg2 harg2 x p 3 rfl _) (col_read arg4 harg4 g 3 rfl _)))
      · exact agrees7 x g p 2 _ (congrArg (fun z => (fptosi 8 z : IVec S32x768 8)) (code_val x g p 2 (rows_read arg2 harg2 x p _ _ _ _ _ _ _ _ _) (rows_read arg2 harg2 x p _ _ _ _ _ _ _ _ _) (cols_read arg4 harg4 g _ _ _ _ _ _ _ _ _) (row_read arg2 harg2 x p 2 rfl _) (col_read arg4 harg4 g 2 rfl _)))
      · exact agrees7 x g p 1 _ (congrArg (fun z => (fptosi 8 z : IVec S32x768 8)) (code_val x g p 1 (rows_read arg2 harg2 x p _ _ _ _ _ _ _ _ _) (rows_read arg2 harg2 x p _ _ _ _ _ _ _ _ _) (cols_read arg4 harg4 g _ _ _ _ _ _ _ _ _) (row_read arg2 harg2 x p 1 rfl _) (col_read arg4 harg4 g 1 rfl _)))
      · exact agrees7 x g p 0 _ (congrArg (fun z => (fptosi 8 z : IVec S32x768 8)) (code_val x g p 0 (rows_read arg2 harg2 x p _ _ _ _ _ _ _ _ _) (rows_read arg2 harg2 x p _ _ _ _ _ _ _ _ _) (cols_read arg4 harg4 g _ _ _ _ _ _ _ _ _) (row_read arg2 harg2 x p 0 rfl _) (col_read arg4 harg4 g 0 rfl _)))
    · intro y hy
      have hy1 : (y 1).val < 6912 := (y 1).isLt
      rcases Nat.lt_or_ge (y 0).val (32 * p.val) with hlt | hge
      · exact Or.inl hlt
      have hy0 : (y 0).val < 32 * (p.val + 1) := hy
      refine Or.inr ?_
      obtain ⟨q, hq⟩ : ∃ q, (y 1).val / 768 = q := ⟨_, rfl⟩
      have hq9 : q < 9 := by omega
      interval_cases q
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem7 (32 * p.val) 0 (inbF hr (by decide)) y (by omega) (by omega) (by omega) (by omega)⟩
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem7 (32 * p.val) 768 (inbF hr (by decide)) y (by omega) (by omega) (by omega) (by omega)⟩
      · exact ⟨_, (List.mem_cons_of_mem _ (List.mem_cons_of_mem _ (List.mem_cons_of_mem _ (List.mem_cons_of_mem _ (List.mem_cons_of_mem _ (List.mem_cons_of_mem _ List.mem_cons_self)))))), mem7 (32 * p.val) 1536 (inbF hr (by decide)) y (by omega) (by omega) (by omega) (by omega)⟩
      · exact ⟨_, (List.mem_cons_of_mem _ (List.mem_cons_of_mem _ (List.mem_cons_of_mem _ (List.mem_cons_of_mem _ (List.mem_cons_of_mem _ List.mem_cons_self))))), mem7 (32 * p.val) 2304 (inbF hr (by decide)) y (by omega) (by omega) (by omega) (by omega)⟩
      · exact ⟨_, (List.mem_cons_of_mem _ (List.mem_cons_of_mem _ (List.mem_cons_of_mem _ (List.mem_cons_of_mem _ List.mem_cons_self)))), mem7 (32 * p.val) 3072 (inbF hr (by decide)) y (by omega) (by omega) (by omega) (by omega)⟩
      · exact ⟨_, (List.mem_cons_of_mem _ (List.mem_cons_of_mem _ (List.mem_cons_of_mem _ List.mem_cons_self))), mem7 (32 * p.val) 3840 (inbF hr (by decide)) y (by omega) (by omega) (by omega) (by omega)⟩
      · exact ⟨_, (List.mem_cons_of_mem _ (List.mem_cons_of_mem _ List.mem_cons_self)), mem7 (32 * p.val) 4608 (inbF hr (by decide)) y (by omega) (by omega) (by omega) (by omega)⟩
      · exact ⟨_, (List.mem_cons_of_mem _ List.mem_cons_self), mem7 (32 * p.val) 5376 (inbF hr (by decide)) y (by omega) (by omega) (by omega) (by omega)⟩
      · exact ⟨_, List.mem_cons_self, mem7 (32 * p.val) 6144 (inbF hr (by decide)) y (by omega) (by omega) (by omega) (by omega)⟩
  isplitl [H8]
  · iexists _; isplitr; swap
    · iexists _; isplitr; swap; · iexact H8
      ipureintro; rfl
    ipureintro
    refine read_part _ _ _ _ _ _ hd8 ?_ ?_
    · intro q hq
      obtain rfl := List.mem_singleton.mp hq
      exact agrees8 x g p _ (scale_val x g p (rows_read arg2 harg2 x p _ _ _ _ _ _ _ _ _) (rows_read arg2 harg2 x p _ _ _ _ _ _ _ _ _) (cols_read arg4 harg4 g _ _ _ _ _ _ _ _ _))
    · intro y hy
      rcases Nat.lt_or_ge (y 0).val (32 * p.val) with hlt | hge
      · exact Or.inl hlt
      have hy0 : (y 0).val < 32 * (p.val + 1) := hy
      exact Or.inr ⟨_, List.mem_cons_self, mem8 (32 * p.val) (inbS hr) y (by omega) (by omega)⟩
  isplitl [H9]; · iexact H9
  isplitl [H10]
  · iexists _; isplitr; swap
    · iexists _; isplitr; swap; · iexact H10
      ipureintro; rfl
    ipureintro
    refine read_part _ _ _ _ _ _ hd10 ?_ ?_
    · intro q hq
      simp only [List.mem_cons, List.not_mem_nil, or_false] at hq
      rcases hq with rfl | rfl | rfl | rfl | rfl | rfl | rfl | rfl | rfl
      · exact agrees10 x g p b hb D 8 _ (congrArg (fun z : FVec F S32x768 .f32 => shapeCast S1x32x768 (truncf .bf16 z bitsLt_bf16_f32) shapeCasts_S32x768_S1x32x768) (code_val x g p 8 (rows_read arg2 harg2 x p _ _ _ _ _ _ _ _ _) (rows_read arg2 harg2 x p _ _ _ _ _ _ _ _ _) (cols_read arg4 harg4 g _ _ _ _ _ _ _ _ _) (row_read arg2 harg2 x p 8 rfl _) (col_read arg4 harg4 g 8 rfl _)))
      · exact agrees10 x g p b hb D 7 _ (congrArg (fun z : FVec F S32x768 .f32 => shapeCast S1x32x768 (truncf .bf16 z bitsLt_bf16_f32) shapeCasts_S32x768_S1x32x768) (code_val x g p 7 (rows_read arg2 harg2 x p _ _ _ _ _ _ _ _ _) (rows_read arg2 harg2 x p _ _ _ _ _ _ _ _ _) (cols_read arg4 harg4 g _ _ _ _ _ _ _ _ _) (row_read arg2 harg2 x p 7 rfl _) (col_read arg4 harg4 g 7 rfl _)))
      · exact agrees10 x g p b hb D 6 _ (congrArg (fun z : FVec F S32x768 .f32 => shapeCast S1x32x768 (truncf .bf16 z bitsLt_bf16_f32) shapeCasts_S32x768_S1x32x768) (code_val x g p 6 (rows_read arg2 harg2 x p _ _ _ _ _ _ _ _ _) (rows_read arg2 harg2 x p _ _ _ _ _ _ _ _ _) (cols_read arg4 harg4 g _ _ _ _ _ _ _ _ _) (row_read arg2 harg2 x p 6 rfl _) (col_read arg4 harg4 g 6 rfl _)))
      · exact agrees10 x g p b hb D 5 _ (congrArg (fun z : FVec F S32x768 .f32 => shapeCast S1x32x768 (truncf .bf16 z bitsLt_bf16_f32) shapeCasts_S32x768_S1x32x768) (code_val x g p 5 (rows_read arg2 harg2 x p _ _ _ _ _ _ _ _ _) (rows_read arg2 harg2 x p _ _ _ _ _ _ _ _ _) (cols_read arg4 harg4 g _ _ _ _ _ _ _ _ _) (row_read arg2 harg2 x p 5 rfl _) (col_read arg4 harg4 g 5 rfl _)))
      · exact agrees10 x g p b hb D 4 _ (congrArg (fun z : FVec F S32x768 .f32 => shapeCast S1x32x768 (truncf .bf16 z bitsLt_bf16_f32) shapeCasts_S32x768_S1x32x768) (code_val x g p 4 (rows_read arg2 harg2 x p _ _ _ _ _ _ _ _ _) (rows_read arg2 harg2 x p _ _ _ _ _ _ _ _ _) (cols_read arg4 harg4 g _ _ _ _ _ _ _ _ _) (row_read arg2 harg2 x p 4 rfl _) (col_read arg4 harg4 g 4 rfl _)))
      · exact agrees10 x g p b hb D 3 _ (congrArg (fun z : FVec F S32x768 .f32 => shapeCast S1x32x768 (truncf .bf16 z bitsLt_bf16_f32) shapeCasts_S32x768_S1x32x768) (code_val x g p 3 (rows_read arg2 harg2 x p _ _ _ _ _ _ _ _ _) (rows_read arg2 harg2 x p _ _ _ _ _ _ _ _ _) (cols_read arg4 harg4 g _ _ _ _ _ _ _ _ _) (row_read arg2 harg2 x p 3 rfl _) (col_read arg4 harg4 g 3 rfl _)))
      · exact agrees10 x g p b hb D 2 _ (congrArg (fun z : FVec F S32x768 .f32 => shapeCast S1x32x768 (truncf .bf16 z bitsLt_bf16_f32) shapeCasts_S32x768_S1x32x768) (code_val x g p 2 (rows_read arg2 harg2 x p _ _ _ _ _ _ _ _ _) (rows_read arg2 harg2 x p _ _ _ _ _ _ _ _ _) (cols_read arg4 harg4 g _ _ _ _ _ _ _ _ _) (row_read arg2 harg2 x p 2 rfl _) (col_read arg4 harg4 g 2 rfl _)))
      · exact agrees10 x g p b hb D 1 _ (congrArg (fun z : FVec F S32x768 .f32 => shapeCast S1x32x768 (truncf .bf16 z bitsLt_bf16_f32) shapeCasts_S32x768_S1x32x768) (code_val x g p 1 (rows_read arg2 harg2 x p _ _ _ _ _ _ _ _ _) (rows_read arg2 harg2 x p _ _ _ _ _ _ _ _ _) (cols_read arg4 harg4 g _ _ _ _ _ _ _ _ _) (row_read arg2 harg2 x p 1 rfl _) (col_read arg4 harg4 g 1 rfl _)))
      · exact agrees10 x g p b hb D 0 _ (congrArg (fun z : FVec F S32x768 .f32 => shapeCast S1x32x768 (truncf .bf16 z bitsLt_bf16_f32) shapeCasts_S32x768_S1x32x768) (code_val x g p 0 (rows_read arg2 harg2 x p _ _ _ _ _ _ _ _ _) (rows_read arg2 harg2 x p _ _ _ _ _ _ _ _ _) (cols_read arg4 harg4 g _ _ _ _ _ _ _ _ _) (row_read arg2 harg2 x p 0 rfl _) (col_read arg4 harg4 g 0 rfl _)))
    · intro y hy
      have hy1 : (y 2).val < 6912 := (y 2).isLt
      by_cases hyb : (y 0).val = b
      swap
      · exact Or.inl (Or.inl hyb)
      rcases Nat.lt_or_ge (y 1).val (32 * p.val) with hlt | hge
      · exact Or.inl (Or.inr hlt)
      have hy0 : (y 1).val < 32 * (p.val + 1) := hy.resolve_left (fun h => h hyb)
      refine Or.inr ?_
      obtain ⟨q, hq⟩ : ∃ q, (y 2).val / 768 = q := ⟨_, rfl⟩
      have hq9 : q < 9 := by omega
      interval_cases q
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem10 b (32 * p.val) 0 (inbC hb hr (by decide)) y hyb (by omega) (by omega) (by omega) (by omega)⟩
      · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem10 b (32 * p.val) 768 (inbC hb hr (by decide)) y hyb (by omega) (by omega) (by omega) (by omega)⟩
      · exact ⟨_, (List.mem_cons_of_mem _ (List.mem_cons_of_mem _ (List.mem_cons_of_mem _ (List.mem_cons_of_mem _ (List.mem_cons_of_mem _ (List.mem_cons_of_mem _ List.mem_cons_self)))))), mem10 b (32 * p.val) 1536 (inbC hb hr (by decide)) y hyb (by omega) (by omega) (by omega) (by omega)⟩
      · exact ⟨_, (List.mem_cons_of_mem _ (List.mem_cons_of_mem _ (List.mem_cons_of_mem _ (List.mem_cons_of_mem _ (List.mem_cons_of_mem _ List.mem_cons_self))))), mem10 b (32 * p.val) 2304 (inbC hb hr (by decide)) y hyb (by omega) (by omega) (by omega) (by omega)⟩
      · exact ⟨_, (List.mem_cons_of_mem _ (List.mem_cons_of_mem _ (List.mem_cons_of_mem _ (List.mem_cons_of_mem _ List.mem_cons_self)))), mem10 b (32 * p.val) 3072 (inbC hb hr (by decide)) y hyb (by omega) (by omega) (by omega) (by omega)⟩
      · exact ⟨_, (List.mem_cons_of_mem _ (List.mem_cons_of_mem _ (List.mem_cons_of_mem _ List.mem_cons_self))), mem10 b (32 * p.val) 3840 (inbC hb hr (by decide)) y hyb (by omega) (by omega) (by omega) (by omega)⟩
      · exact ⟨_, (List.mem_cons_of_mem _ (List.mem_cons_of_mem _ List.mem_cons_self)), mem10 b (32 * p.val) 4608 (inbC hb hr (by decide)) y hyb (by omega) (by omega) (by omega) (by omega)⟩
      · exact ⟨_, (List.mem_cons_of_mem _ List.mem_cons_self), mem10 b (32 * p.val) 5376 (inbC hb hr (by decide)) y hyb (by omega) (by omega) (by omega) (by omega)⟩
      · exact ⟨_, List.mem_cons_self, mem10 b (32 * p.val) 6144 (inbC hb hr (by decide)) y hyb (by omega) (by omega) (by omega) (by omega)⟩
  isplitl [H11]
  · iexists _; isplitr; swap
    · iexists _; isplitr; swap; · iexact H11
      ipureintro; rfl
    ipureintro
    refine read_part _ _ _ _ _ _ hd11 ?_ ?_
    · intro q hq
      obtain rfl := List.mem_singleton.mp hq
      exact agrees11 x g p b hb T _ (congrArg (fun z : FVec F S32x1 .f32 => shapeCast S1x32x1 z shapeCasts_S32x1_S1x32x1) (scale_val x g p (rows_read arg2 harg2 x p _ _ _ _ _ _ _ _ _) (rows_read arg2 harg2 x p _ _ _ _ _ _ _ _ _) (cols_read arg4 harg4 g _ _ _ _ _ _ _ _ _)))
    · intro y hy
      by_cases hyb : (y 0).val = b
      swap
      · exact Or.inl (Or.inl hyb)
      rcases Nat.lt_or_ge (y 1).val (32 * p.val) with hlt | hge
      · exact Or.inl (Or.inr hlt)
      have hy0 : (y 1).val < 32 * (p.val + 1) := hy.resolve_left (fun h => h hyb)
      exact Or.inr ⟨_, List.mem_cons_self, mem11 b (32 * p.val) (inbT hb hr) y hyb (by omega) (by omega)⟩
  iexact HR

set_option maxHeartbeats 4000000 in
/-- A chunk of 256 output columns. -/
theorem chunk_wp (c : Dev nD) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole)
    (ws : Vec F S1 .f32) (x : Vec F S256x6912 .f32) (h : Vec F S256x2560 .f32) (g : Vec F S1x6912 .f32) (pd : Vec F S640x6912 .i8) (W : Vec F S2560x6912 .i8) (D : Vec F S2x256x6912 .bf16) (T : Vec F S2x256x1 .f32) (b bP : ℕ) (hbP : bP < 2) (R : sProp 𝕄) (E : Set ℕ) (K : PUnit → sProp 𝕄) (k : Prog (TpuEff nD τ sig (Elt F) Λ₀ .tc) PUnit)
    (n : Fin 10) (p : ℕ) (hne : bP ≠ b) (sa : Vec F S1x256x1 .f32) (hsa : sa = VecWindow.window T ![bP, 0, 0] S1x256x1.size (inbT' hbP)) (hn : 256 * n.val + 256 ≤ 2560)
    (hk : St c arg1 arg2 arg3 arg4 arg5 arg6 arg7 arg8 arg9 arg10 arg11 ws x h g pd W D T b bP hbP R (n.val + 1) p ⊢ wp frame (wpE (defs₀ (F := F)) Variants.none c none) E k K) :
    St c arg1 arg2 arg3 arg4 arg5 arg6 arg7 arg8 arg9 arg10 arg11 ws x h g pd W D T b bP hbP R n.val p ⊢ wp frame (wpE (defs₀ (F := F)) Variants.none c none) E (chunk (256 * n.val) bP hbP hn sa arg1 harg1 arg3 harg3 arg6 harg6 arg9 harg9 arg10 harg10 k) K := by
  unfold chunk
  unfold St Part owns at hk ⊢
  iintro ⟨⟨%f1, %hf1, H1⟩, H2, ⟨%f3, %hf3, H3⟩, H4, H5, ⟨%d6, %hd6, %f6, %hf6, H6⟩, H7, H8, ⟨%f9, %hf9, H9⟩, ⟨%d10, %hd10, %f10, %hf10, H10⟩, H11, HR⟩
  obtain rfl := harg1.eq_unread hf1; obtain rfl := harg3.eq_unread hf3; obtain rfl := harg9.eq_unread hf9
  subst hf6; subst hf10
  sl_exec
  iapply hk
  isplitl [H1]
  · iexists _; isplitr; · ipureintro; exact harg1.read_unread _
    iexact H1
  isplitl [H2]; · iexact H2
  isplitl [H3]
  · iexists _; isplitr; · ipureintro; exact harg3.read_unread _
    iexact H3
  isplitl [H4]; · iexact H4
  isplitl [H5]; · iexact H5
  isplitl [H6]
  · iexists _; isplitr; swap
    · iexists _; isplitr; swap; · iexact H6
      ipureintro; rfl
    ipureintro
    refine read_part _ _ _ _ _ _ hd6 ?_ ?_
    · intro q hq
      obtain rfl := List.mem_singleton.mp hq
      refine agrees6 bP hbP ws h W D T n _ ?_
      subst hsa
      have e1 : arg1.view.readAt (Elt F) (Rect.unit (s := S1) ![0] S1.size inb_S1_S1_0).toLoadRect (harg1.unread ws) (Shape.Idx.first (by decide : 0 < S1.numel)) = ws (ix1 (0 : Fin 1)) := by
        rw [View.readAt_apply, harg1.read_unread]
        exact congrArg ws (funext fun a => by match a with | ⟨0, _⟩ => rfl)
      have e9 : arg9.view.readAt (Elt F) (Rect.unit (s := S2560x6912) ![256 * n.val, 0] S256x6912.size (inbW hn)).toLoadRect (harg9.unread W) = VecWindow.window W ![256 * n.val, 0] S256x6912.size (inbW (out_le n)) := by
        rw [View.readAt_unit _ _ (inbW hn) rfl (inbW hn), harg9.read_unread]
      have e3 : arg3.view.readAt (Elt F) (Rect.unit (s := S256x2560) ![0, 256 * n.val] S256x256.size (inbO hn)).toLoadRect (harg3.unread h) = VecWindow.window h ![0, 256 * n.val] S256x256.size (inbO (out_le n)) := by
        rw [View.readAt_unit _ _ (inbO hn) rfl (inbO hn), harg3.read_unread]
      have e10 : arg10.view.readAt (Elt F) (Rect.unit (s := S2x256x6912) ![bP, 0, 0] S1x256x6912.size (inbC' hbP)).toLoadRect f10 = VecWindow.window D ![bP, 0, 0] S1x256x6912.size (inbC' hbP) := by
        rw [View.readAt_unit _ _ (inbC' hbP) rfl (inbC' hbP)]
        funext z
        have hz : ((Rect.unit (s := S2x256x6912) ![bP, 0, 0] S1x256x6912.size (inbC' hbP)).emb z 0).val = bP := by
          have := (z 0).isLt
          show bP + 1 * (z 0).val = bP
          have : (z 0).val < 1 := (z 0).isLt
          omega
        refine (hd10 _ (Or.inl ?_)).trans (if_neg ?_)
        · exact fun e => hne (hz.symm.trans e)
        · exact fun e => hne (hz.symm.trans e)
      unfold oChunk
      rw [← e1, ← e9, ← e3, ← e10]
      rfl
    · intro y hy
      rcases Nat.lt_or_ge (y 1).val (256 * n.val) with hlt | hge
      · exact Or.inl hlt
      have hy0 : (y 1).val < 256 * (n.val + 1) := hy
      exact Or.inr ⟨_, List.mem_cons_self, mem6 (256 * n.val) (inbO hn) y (by omega) (by omega)⟩
  isplitl [H7]; · iexact H7
  isplitl [H8]; · iexact H8
  isplitl [H9]
  · iexists _; isplitr; · ipureintro; exact harg9.read_unread _
    iexact H9
  isplitl [H10]
  · iexists _; isplitr; swap
    · iexists _; isplitr; swap; · iexact H10
      ipureintro; rfl
    ipureintro; exact hd10
  isplitl [H11]; · iexact H11
  iexact HR

end Cert.DownIdeal.Hand
-- ==== Proof.DownStrips.lean ====
/-
  The down kernel's unpacked weights. The 2560 weight rows are unpacked in four runs of 640 rows, each from one bit field of the 640 packed rows, 32 rows
  to a loop trip.
-/
module

public import proofs.«01_k».proof.Proof.DownStep
public import proofs.«01_k».proof.Proof.Gen.DownIdeal.Loops
public import proofs.«01_k».proof.Proof.Ternary
public import Idealize.ShloMosaic.Lib.Pipeline.FrameBody
public import Idealize.ShloMosaic.Lib.Ring
public import Idealize.ShloMosaic.Lib.ValueLayout
public import Idealize.ShloMosaic.Lib.Tactic

@[expose] public section

set_option maxRecDepth 16384

noncomputable section

namespace Cert.DownIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal.Gen Cert.Ternary

variable {F : FTy → Type} [FloatOps F]

local notation "𝕄" => MT nD τ sig Unit (Elt F) ℕ (UR sig nD τ) ℕ

/-- The unpacked weights: row `r` lies in packed row `r % 640`, bit field `r / 640`. -/
def wfull (P : Vec F S640x6912 .i8) : Vec F S2560x6912 .i8 := fun y =>
  field ((y 0).val / 640) (P (ix2 (⟨(y 0).val % 640, Nat.mod_lt _ (by decide)⟩ : Fin 640) (y 1)))

/-- One strip of 32 rows, unpacked from bit field `u`, holds the values of the unpacked weights. -/
theorem agrees_strip (V : View sig .tc .vmem S640x6912 .i8) (X : BufTy.Contents (Elt F) V.ty) (u k : ℕ)
    (hu : u < 4) (hk : k < 20) (off off' : Fin 2 → ℕ) (inb : ∀ a, off a + S32x6912.size a ≤ S640x6912.size a)
    (inb' : ∀ a, off' a + S32x6912.size a ≤ S2560x6912.size a) (hoff : off = ![32 * k, 0])
    (hoff' : off' = ![640 * u + 32 * k, 0]) (pay : Vec F S32x6912 .i8 → IVec S32x6912 8)
    (hpay : ∀ x p l, pay x (ix2 p l) = field u (x (ix2 p l))) :
    View.Agrees (wfull (V.read (Elt F) X))
      (⟨Rect.unit (s := S2560x6912) off' S32x6912.size inb',
        pay (V.readAt (Elt F) (Rect.unit (s := S640x6912) off S32x6912.size inb).toLoadRect X)⟩ :
        View.Piece (Elt F) S2560x6912 .i8) := by
  subst hoff hoff'
  intro x
  obtain ⟨p, l, rfl⟩ : ∃ (p : Fin 32) (l : Fin 6912), x = ix2 p l := ⟨x 0, x 1, by funext a; match a with | ⟨0, _⟩ => rfl | ⟨1, _⟩ => rfl⟩
  have hp := p.isLt
  refine (hpay _ p l).trans (Eq.symm ?_)
  have key : ∀ (u' : ℕ) (z z' : S640x6912.Idx), u' = u → z' = z → field u' (V.read (Elt F) X z') = field u (V.read (Elt F) X z) := by
    rintro u' z z' rfl rfl; rfl
  refine key _ _ _ ?_ ?_
  · show (640 * u + 32 * k + 1 * p.val) / 640 = u; omega
  · funext a
    match a with
    | ⟨0, _⟩ => exact Fin.ext (by show (640 * u + 32 * k + 1 * p.val) % 640 = 32 * k + 1 * p.val; omega)
    | ⟨1, _⟩ => exact Fin.ext (by show 0 + 1 * l.val = 0 + 1 * l.val; rfl)

/-- Rows of a strip lie in its rectangle. -/
theorem mem_strip (o : ℕ) (off' : Fin 2 → ℕ) (inb' : ∀ a, off' a + S32x6912.size a ≤ S2560x6912.size a) (hoff' : off' = ![o, 0])
    (y : S2560x6912.Idx) (h1 : o ≤ (y (0 : Fin 2)).val) (h2 : (y (0 : Fin 2)).val < o + 32) :
    y ∈ (Rect.unit (s := S2560x6912) off' S32x6912.size inb').set := by
  subst hoff'
  rw [Rect.mem_set_unit]
  intro a
  match a with
  | ⟨0, _⟩ => exact ⟨h1, h2⟩
  | ⟨1, _⟩ => exact ⟨Nat.zero_le _, Nat.lt_of_lt_of_eq (idx2_lt1 y) (Nat.zero_add _).symm⟩

/-- The pieces hold the values of `G` and cover the 640 rows from `o`. -/
abbrev Covers (G : Vec F S2560x6912 .i8) (o : ℕ) (L : List (View.Piece (Elt F) S2560x6912 .i8)) : Prop :=
  (∀ p ∈ L, View.Agrees G p) ∧
    ∀ y : S2560x6912.Idx, o ≤ (y (0 : Fin 2)).val → (y (0 : Fin 2)).val < o + 640 → ∃ p ∈ L, y ∈ p.1.set

/-- Four runs of rows written one after another, each holding the values of `G`: the buffer reads `G`. -/
theorem read_four (V : View sig .tc .vmem S2560x6912 .i8) (f : BufTy.Contents (Elt F) V.ty) (G : Vec F S2560x6912 .i8)
    (L1 L2 L3 L4 : List (View.Piece (Elt F) S2560x6912 .i8)) (h1 : Covers G 0 L1) (h2 : Covers G 640 L2)
    (h3 : Covers G 1280 L3) (h4 : Covers G 1920 L4) :
    V.read (Elt F) (V.writes (Elt F) f (L4 ++ (L3 ++ (L2 ++ L1)))) = G := by
  rw [View.writes_append, View.writes_append, View.writes_append]
  funext y
  have hy : (y (0 : Fin 2)).val < 2560 := idx2_lt0 y
  refine View.read_writes_agree V _ G L4 h4.1 y ?_
  by_cases c4 : 1920 ≤ (y (0 : Fin 2)).val
  · exact Or.inl (h4.2 y c4 (by omega))
  refine Or.inr (View.read_writes_agree V _ G L3 h3.1 y ?_)
  by_cases c3 : 1280 ≤ (y (0 : Fin 2)).val
  · exact Or.inl (h3.2 y c3 (by omega))
  refine Or.inr (View.read_writes_agree V _ G L2 h2.1 y ?_)
  by_cases c2 : 640 ≤ (y (0 : Fin 2)).val
  · exact Or.inl (h2.2 y c2 (by omega))
  exact Or.inr (View.read_writes_agree V _ G L1 h1.1 y (Or.inl (h1.2 y (Nat.zero_le _) (by omega))))

theorem off1_eq (k : Fin k0_t1_loop.trips) : k0_off1 k = ![32 * k.val, 0] := by
  have hk : k.val < 20 := Nat.lt_of_lt_of_le k.isLt k0_t1_abs.2.1
  unfold k0_off1
  generalize k.val = b at hk ⊢
  interval_cases b <;> rfl

theorem off2_eq (k : Fin k0_t1_loop.trips) : k0_off2 k = ![640 * 0 + 32 * k.val, 0] := by
  have hk : k.val < 20 := Nat.lt_of_lt_of_le k.isLt k0_t1_abs.2.1
  unfold k0_off2
  generalize k.val = b at hk ⊢
  interval_cases b <;> rfl

theorem pay7_ix2 (x : Vec F S32x6912 .i8) (p : Fin 32) (l : Fin 6912) : k0_pay7 (F := F) x (ix2 p l) = field 0 (x (ix2 p l)) := by
  dsimp only [k0_pay7]
  rw [shapeCast_self]
  exact unpack_ix2 (R := 32) (r := 8) (n := 6912) rfl x _ 0 (by decide) (by decide) _ _ p l

theorem off3_eq (k : Fin k0_t2_loop.trips) : k0_off3 k = ![32 * k.val, 0] := by
  have hk : k.val < 20 := Nat.lt_of_lt_of_le k.isLt k0_t2_abs.2.1
  unfold k0_off3
  generalize k.val = b at hk ⊢
  interval_cases b <;> rfl

theorem off4_eq (k : Fin k0_t2_loop.trips) : k0_off4 k = ![640 * 1 + 32 * k.val, 0] := by
  have hk : k.val < 20 := Nat.lt_of_lt_of_le k.isLt k0_t2_abs.2.1
  unfold k0_off4
  generalize k.val = b at hk ⊢
  interval_cases b <;> rfl

theorem pay8_ix2 (x : Vec F S32x6912 .i8) (p : Fin 32) (l : Fin 6912) : k0_pay8 (F := F) x (ix2 p l) = field 1 (x (ix2 p l)) := by
  dsimp only [k0_pay8]
  rw [shapeCast_self]
  exact unpack_ix2 (R := 32) (r := 8) (n := 6912) rfl x _ 1 (by decide) (by decide) _ _ p l

theorem off5_eq (k : Fin k0_t3_loop.trips) : k0_off5 k = ![32 * k.val, 0] := by
  have hk : k.val < 20 := Nat.lt_of_lt_of_le k.isLt k0_t3_abs.2.1
  unfold k0_off5
  generalize k.val = b at hk ⊢
  interval_cases b <;> rfl

theorem off6_eq (k : Fin k0_t3_loop.trips) : k0_off6 k = ![640 * 2 + 32 * k.val, 0] := by
  have hk : k.val < 20 := Nat.lt_of_lt_of_le k.isLt k0_t3_abs.2.1
  unfold k0_off6
  generalize k.val = b at hk ⊢
  interval_cases b <;> rfl

theorem pay9_ix2 (x : Vec F S32x6912 .i8) (p : Fin 32) (l : Fin 6912) : k0_pay9 (F := F) x (ix2 p l) = field 2 (x (ix2 p l)) := by
  dsimp only [k0_pay9]
  rw [shapeCast_self]
  exact unpack_ix2 (R := 32) (r := 8) (n := 6912) rfl x _ 2 (by decide) (by decide) _ _ p l

theorem off7_eq (k : Fin k0_t4_loop.trips) : k0_off7 k = ![32 * k.val, 0] := by
  have hk : k.val < 20 := Nat.lt_of_lt_of_le k.isLt k0_t4_abs.2.1
  unfold k0_off7
  generalize k.val = b at hk ⊢
  interval_cases b <;> rfl

theorem off8_eq (k : Fin k0_t4_loop.trips) : k0_off8 k = ![640 * 3 + 32 * k.val, 0] := by
  have hk : k.val < 20 := Nat.lt_of_lt_of_le k.isLt k0_t4_abs.2.1
  unfold k0_off8
  generalize k.val = b at hk ⊢
  interval_cases b <;> rfl

theorem pay10_ix2 (x : Vec F S32x6912 .i8) (p : Fin 32) (l : Fin 6912) : k0_pay10 (F := F) x (ix2 p l) = field 3 (x (ix2 p l)) := by
  dsimp only [k0_pay10]
  rw [shapeCast_self]
  exact unpack_ix2 (R := 32) (r := 8) (n := 6912) rfl x _ 3 (by decide) (by decide) _ _ p l

variable (𝒱 : Variants) (c : Dev nD) (bd : Option 𝒱.V) (i : grid0.Coords) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole)

/-- Loop 1: its pieces hold the values of the unpacked weights and cover rows 0 to 640. -/
theorem pb1_spec (k0_h1 : k0_cond1 i = 1#1) (X : BufTy.Contents (Elt F) arg5.view.ty) :
    Covers (wfull (arg5.view.read (Elt F) X)) 0 (pb_k0_t1 (F := F) 𝒱 c bd i arg1 harg1 arg2 harg2 arg3 harg3 arg4 harg4 arg5 harg5 arg6 harg6 arg7 harg7 arg8 harg8 arg9 harg9 arg10 harg10 arg11 harg11 k0_h1 X k0_t1_loop.trips) :=
  View.strips (wfull (arg5.view.read (Elt F) X)) (pb_k0_t1 (F := F) 𝒱 c bd i arg1 harg1 arg2 harg2 arg3 harg3 arg4 harg4 arg5 harg5 arg6 harg6 arg7 harg7 arg8 harg8 arg9 harg9 arg10 harg10 arg11 harg11 k0_h1 X)
    (fun k : Fin k0_t1_loop.trips => (⟨Rect.unit (s := S2560x6912) (k0_off2 k) S32x6912.size (k0_off2_inb i k k0_h1),
      k0_pay7 (arg5.view.readAt (Elt F) (Rect.unit (s := S640x6912) (k0_off1 k) S32x6912.size (k0_off1_inb i k k0_h1)).toLoadRect X)⟩ :
      View.Piece (Elt F) S2560x6912 .i8)) (640 * 0) 32 rfl
    (fun k => by
      rw [pb_k0_t1_succ]
      refine congrArg (· ++ _) ?_
      unfold tripL_k0_t1 trip_k0_t1
      rfl)
    (fun k => agrees_strip arg5.view X 0 k.val (by decide) (Nat.lt_of_lt_of_le k.isLt k0_t1_abs.2.1) _ _ _ _
      (off1_eq k) (off2_eq k) _ (fun x p l => pay7_ix2 x p l))
    (fun k y h1 h2 => mem_strip _ _ (k0_off2_inb i k k0_h1) (off2_eq k) y h1 h2)
    k0_t1_loop.trips (Nat.le_refl _)

/-- Loop 2: its pieces hold the values of the unpacked weights and cover rows 640 to 1280. -/
theorem pb2_spec (k0_h1 : k0_cond1 i = 1#1) (X : BufTy.Contents (Elt F) arg5.view.ty) :
    Covers (wfull (arg5.view.read (Elt F) X)) 640 (pb_k0_t2 (F := F) 𝒱 c bd i arg1 harg1 arg2 harg2 arg3 harg3 arg4 harg4 arg5 harg5 arg6 harg6 arg7 harg7 arg8 harg8 arg9 harg9 arg10 harg10 arg11 harg11 k0_h1 X k0_t2_loop.trips) :=
  View.strips (wfull (arg5.view.read (Elt F) X)) (pb_k0_t2 (F := F) 𝒱 c bd i arg1 harg1 arg2 harg2 arg3 harg3 arg4 harg4 arg5 harg5 arg6 harg6 arg7 harg7 arg8 harg8 arg9 harg9 arg10 harg10 arg11 harg11 k0_h1 X)
    (fun k : Fin k0_t2_loop.trips => (⟨Rect.unit (s := S2560x6912) (k0_off4 k) S32x6912.size (k0_off4_inb i k k0_h1),
      k0_pay8 (arg5.view.readAt (Elt F) (Rect.unit (s := S640x6912) (k0_off3 k) S32x6912.size (k0_off3_inb i k k0_h1)).toLoadRect X)⟩ :
      View.Piece (Elt F) S2560x6912 .i8)) (640 * 1) 32 rfl
    (fun k => by
      rw [pb_k0_t2_succ]
      refine congrArg (· ++ _) ?_
      unfold tripL_k0_t2 trip_k0_t2
      rfl)
    (fun k => agrees_strip arg5.view X 1 k.val (by decide) (Nat.lt_of_lt_of_le k.isLt k0_t2_abs.2.1) _ _ _ _
      (off3_eq k) (off4_eq k) _ (fun x p l => pay8_ix2 x p l))
    (fun k y h1 h2 => mem_strip _ _ (k0_off4_inb i k k0_h1) (off4_eq k) y h1 h2)
    k0_t2_loop.trips (Nat.le_refl _)

/-- Loop 3: its pieces hold the values of the unpacked weights and cover rows 1280 to 1920. -/
theorem pb3_spec (k0_h1 : k0_cond1 i = 1#1) (X : BufTy.Contents (Elt F) arg5.view.ty) :
    Covers (wfull (arg5.view.read (Elt F) X)) 1280 (pb_k0_t3 (F := F) 𝒱 c bd i arg1 harg1 arg2 harg2 arg3 harg3 arg4 harg4 arg5 harg5 arg6 harg6 arg7 harg7 arg8 harg8 arg9 harg9 arg10 harg10 arg11 harg11 k0_h1 X k0_t3_loop.trips) :=
  View.strips (wfull (arg5.view.read (Elt F) X)) (pb_k0_t3 (F := F) 𝒱 c bd i arg1 harg1 arg2 harg2 arg3 harg3 arg4 harg4 arg5 harg5 arg6 harg6 arg7 harg7 arg8 harg8 arg9 harg9 arg10 harg10 arg11 harg11 k0_h1 X)
    (fun k : Fin k0_t3_loop.trips => (⟨Rect.unit (s := S2560x6912) (k0_off6 k) S32x6912.size (k0_off6_inb i k k0_h1),
      k0_pay9 (arg5.view.readAt (Elt F) (Rect.unit (s := S640x6912) (k0_off5 k) S32x6912.size (k0_off5_inb i k k0_h1)).toLoadRect X)⟩ :
      View.Piece (Elt F) S2560x6912 .i8)) (640 * 2) 32 rfl
    (fun k => by
      rw [pb_k0_t3_succ]
      refine congrArg (· ++ _) ?_
      unfold tripL_k0_t3 trip_k0_t3
      rfl)
    (fun k => agrees_strip arg5.view X 2 k.val (by decide) (Nat.lt_of_lt_of_le k.isLt k0_t3_abs.2.1) _ _ _ _
      (off5_eq k) (off6_eq k) _ (fun x p l => pay9_ix2 x p l))
    (fun k y h1 h2 => mem_strip _ _ (k0_off6_inb i k k0_h1) (off6_eq k) y h1 h2)
    k0_t3_loop.trips (Nat.le_refl _)

/-- Loop 4: its pieces hold the values of the unpacked weights and cover rows 1920 to 2560. -/
theorem pb4_spec (k0_h1 : k0_cond1 i = 1#1) (X : BufTy.Contents (Elt F) arg5.view.ty) :
    Covers (wfull (arg5.view.read (Elt F) X)) 1920 (pb_k0_t4 (F := F) 𝒱 c bd i arg1 harg1 arg2 harg2 arg3 harg3 arg4 harg4 arg5 harg5 arg6 harg6 arg7 harg7 arg8 harg8 arg9 harg9 arg10 harg10 arg11 harg11 k0_h1 X k0_t4_loop.trips) :=
  View.strips (wfull (arg5.view.read (Elt F) X)) (pb_k0_t4 (F := F) 𝒱 c bd i arg1 harg1 arg2 harg2 arg3 harg3 arg4 harg4 arg5 harg5 arg6 harg6 arg7 harg7 arg8 harg8 arg9 harg9 arg10 harg10 arg11 harg11 k0_h1 X)
    (fun k : Fin k0_t4_loop.trips => (⟨Rect.unit (s := S2560x6912) (k0_off8 k) S32x6912.size (k0_off8_inb i k k0_h1),
      k0_pay10 (arg5.view.readAt (Elt F) (Rect.unit (s := S640x6912) (k0_off7 k) S32x6912.size (k0_off7_inb i k k0_h1)).toLoadRect X)⟩ :
      View.Piece (Elt F) S2560x6912 .i8)) (640 * 3) 32 rfl
    (fun k => by
      rw [pb_k0_t4_succ]
      refine congrArg (· ++ _) ?_
      unfold tripL_k0_t4 trip_k0_t4
      rfl)
    (fun k => agrees_strip arg5.view X 3 k.val (by decide) (Nat.lt_of_lt_of_le k.isLt k0_t4_abs.2.1) _ _ _ _
      (off7_eq k) (off8_eq k) _ (fun x p l => pay10_ix2 x p l))
    (fun k y h1 h2 => mem_strip _ _ (k0_off8_inb i k k0_h1) (off8_eq k) y h1 h2)
    k0_t4_loop.trips (Nat.le_refl _)

end Cert.DownIdeal.Hand
-- ==== Proof.Congr.lean ====
/-
  Two programs that begin alike are equal when they continue alike.
-/
module

public import Idealize.ShloMosaic.Lib.Tactic

@[expose] public section

namespace Cert.Strip

open Idealize.SL.Sem

universe v

theorem op_congr {E : Type → Type v} {α β : Type} (e : E β) {k k' : β → Prog E α} (h : ∀ x, k x = k' x) : Prog.op e k = Prog.op e k' := by
  rw [funext h]

theorem bind_congr {E : Type → Type v} {α β : Type} (p : Prog E β) {k k' : β → Prog E α} (h : ∀ x, k x = k' x) : (p >>= k) = (p >>= k') := by
  rw [funext h]

end Cert.Strip
-- ==== Proof.DownShape.lean ====
/-
  The two branches of the down kernel's printed body, each as the sequence of its pieces.
-/
module

public import proofs.«01_k».proof.Proof.DownPiece
public import proofs.«01_k».proof.Proof.Congr

@[expose] public section

set_option maxRecDepth 65536

noncomputable section

namespace Cert.DownIdeal.Hand

open Idealize.ShloMosaic Idealize.SL.Sem
open Cert.DownIdeal.Gen

variable {F : FTy → Type} [FloatOps F]

/-- The slot of a grid point: its step number modulo two. -/
def slotN (i : grid0.Coords) : ℕ := (Scalar.indexCast (Scalar.remsi (BitVec.ofNat 32 (i 0).val) 2#32)).toNat

/-- The other slot. -/
def slotP (i : grid0.Coords) : ℕ := (Scalar.indexCast (Scalar.subi 1#32 (Scalar.remsi (BitVec.ofNat 32 (i 0).val) 2#32))).toNat

theorem slots (n : Fin 61) : (Scalar.indexCast (Scalar.remsi (BitVec.ofNat 32 n.val) 2#32)).toNat = n.val % 2 ∧
    (Scalar.indexCast (Scalar.subi 1#32 (Scalar.remsi (BitVec.ofNat 32 n.val) 2#32))).toNat = 1 - n.val % 2 := by
  revert n; decide +kernel

theorem slotN_eq (i : grid0.Coords) : slotN i = (i 0).val % 2 := (slots (i 0)).1
theorem slotP_eq (i : grid0.Coords) : slotP i = 1 - (i 0).val % 2 := (slots (i 0)).2
theorem slotN_lt (i : grid0.Coords) : slotN i < 2 := by rw [slotN_eq]; omega
theorem slotP_lt (i : grid0.Coords) : slotP i < 2 := by rw [slotP_eq]; omega

/-- The eight pieces of the first branch. -/
def pieces1 (i : grid0.Coords) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole) :
    Prog (TpuEff nD τ sig (Elt F) Λ₀ .tc) PUnit := do
  piece 0 (slotN i) (slotN_lt i) (by decide) (by decide) arg2 harg2 arg4 harg4 arg7 harg7 arg8 harg8 arg10 harg10 arg11 harg11 <|
  piece 32 (slotN i) (slotN_lt i) (by decide) (by decide) arg2 harg2 arg4 harg4 arg7 harg7 arg8 harg8 arg10 harg10 arg11 harg11 <|
  piece 64 (slotN i) (slotN_lt i) (by decide) (by decide) arg2 harg2 arg4 harg4 arg7 harg7 arg8 harg8 arg10 harg10 arg11 harg11 <|
  piece 96 (slotN i) (slotN_lt i) (by decide) (by decide) arg2 harg2 arg4 harg4 arg7 harg7 arg8 harg8 arg10 harg10 arg11 harg11 <|
  piece 128 (slotN i) (slotN_lt i) (by decide) (by decide) arg2 harg2 arg4 harg4 arg7 harg7 arg8 harg8 arg10 harg10 arg11 harg11 <|
  piece 160 (slotN i) (slotN_lt i) (by decide) (by decide) arg2 harg2 arg4 harg4 arg7 harg7 arg8 harg8 arg10 harg10 arg11 harg11 <|
  piece 192 (slotN i) (slotN_lt i) (by decide) (by decide) arg2 harg2 arg4 harg4 arg7 harg7 arg8 harg8 arg10 harg10 arg11 harg11 <|
  piece 224 (slotN i) (slotN_lt i) (by decide) (by decide) arg2 harg2 arg4 harg4 arg7 harg7 arg8 harg8 arg10 harg10 arg11 harg11 <| pure ⟨⟩

/-- The second branch: ten chunks of output columns, the eight pieces among them. -/
def steps2 (i : grid0.Coords) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole) :
    Prog (TpuEff nD τ sig (Elt F) Λ₀ .tc) PUnit := do
  let sa : Vec F S1x256x1 .f32 ← Prog.lift (.load arg11 (Rect.unit (s := S2x256x1) ![slotP i, 0, 0] S1x256x1.size (inbT' (slotP_lt i))).toLoadRect (View.loadsAt_vmem h_S1x256x1))
  chunk 0 (slotP i) (slotP_lt i) (by decide) sa arg1 harg1 arg3 harg3 arg6 harg6 arg9 harg9 arg10 harg10 <|
  piece 0 (slotN i) (slotN_lt i) (by decide) (by decide) arg2 harg2 arg4 harg4 arg7 harg7 arg8 harg8 arg10 harg10 arg11 harg11 <|
  chunk 256 (slotP i) (slotP_lt i) (by decide) sa arg1 harg1 arg3 harg3 arg6 harg6 arg9 harg9 arg10 harg10 <|
  piece 32 (slotN i) (slotN_lt i) (by decide) (by decide) arg2 harg2 arg4 harg4 arg7 harg7 arg8 harg8 arg10 harg10 arg11 harg11 <|
  chunk 512 (slotP i) (slotP_lt i) (by decide) sa arg1 harg1 arg3 harg3 arg6 harg6 arg9 harg9 arg10 harg10 <|
  piece 64 (slotN i) (slotN_lt i) (by decide) (by decide) arg2 harg2 arg4 harg4 arg7 harg7 arg8 harg8 arg10 harg10 arg11 harg11 <|
  chunk 768 (slotP i) (slotP_lt i) (by decide) sa arg1 harg1 arg3 harg3 arg6 harg6 arg9 harg9 arg10 harg10 <|
  piece 96 (slotN i) (slotN_lt i) (by decide) (by decide) arg2 harg2 arg4 harg4 arg7 harg7 arg8 harg8 arg10 harg10 arg11 harg11 <|
  chunk 1024 (slotP i) (slotP_lt i) (by decide) sa arg1 harg1 arg3 harg3 arg6 harg6 arg9 harg9 arg10 harg10 <|
  chunk 1280 (slotP i) (slotP_lt i) (by decide) sa arg1 harg1 arg3 harg3 arg6 harg6 arg9 harg9 arg10 harg10 <|
  piece 128 (slotN i) (slotN_lt i) (by decide) (by decide) arg2 harg2 arg4 harg4 arg7 harg7 arg8 harg8 arg10 harg10 arg11 harg11 <|
  chunk 1536 (slotP i) (slotP_lt i) (by decide) sa arg1 harg1 arg3 harg3 arg6 harg6 arg9 harg9 arg10 harg10 <|
  piece 160 (slotN i) (slotN_lt i) (by decide) (by decide) arg2 harg2 arg4 harg4 arg7 harg7 arg8 harg8 arg10 harg10 arg11 harg11 <|
  chunk 1792 (slotP i) (slotP_lt i) (by decide) sa arg1 harg1 arg3 harg3 arg6 harg6 arg9 harg9 arg10 harg10 <|
  piece 192 (slotN i) (slotN_lt i) (by decide) (by decide) arg2 harg2 arg4 harg4 arg7 harg7 arg8 harg8 arg10 harg10 arg11 harg11 <|
  chunk 2048 (slotP i) (slotP_lt i) (by decide) sa arg1 harg1 arg3 harg3 arg6 harg6 arg9 harg9 arg10 harg10 <|
  piece 224 (slotN i) (slotN_lt i) (by decide) (by decide) arg2 harg2 arg4 harg4 arg7 harg7 arg8 harg8 arg10 harg10 arg11 harg11 <|
  chunk 2304 (slotP i) (slotP_lt i) (by decide) sa arg1 harg1 arg3 harg3 arg6 harg6 arg9 harg9 arg10 harg10 <| pure ⟨⟩

end Cert.DownIdeal.Hand
-- ==== Proof.DownFirst.lean ====
/-
  At the first grid point, the printed body is its four unpacking loops and its eight pieces.
-/
module

public import proofs.«01_k».proof.Proof.DownShape

@[expose] public section

set_option maxRecDepth 65536

noncomputable section

namespace Cert.DownIdeal.Hand

open Idealize.ShloMosaic Idealize.SL.Sem
open Cert.DownIdeal.Gen

variable {F : FTy → Type} [FloatOps F]

/-- The first grid point's body: the loops, then the pieces. -/
def steps1 (i : grid0.Coords) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole) (k0_h1 : k0_cond1 i = 1#1) :
    Prog (TpuEff nD τ sig (Elt F) Λ₀ .tc) PUnit := do
  Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 k0_h1)
  Scf.Loop.for k0_t2_loop (k0_t2_ok i k0_h1) ⟨⟩ (k0_t2_body i arg1 harg1 arg2 harg2 arg3 harg3 arg4 harg4 arg5 harg5 arg6 harg6 arg7 harg7 arg8 harg8 arg9 harg9 arg10 harg10 arg11 harg11 k0_h1)
  Scf.Loop.for k0_t3_loop (k0_t3_ok i k0_h1) ⟨⟩ (k0_t3_body i arg1 harg1 arg2 harg2 arg3 harg3 arg4 harg4 arg5 harg5 arg6 harg6 arg7 harg7 arg8 harg8 arg9 harg9 arg10 harg10 arg11 harg11 k0_h1)
  Scf.Loop.for k0_t4_loop (k0_t4_ok i k0_h1) ⟨⟩ (k0_t4_body i arg1 harg1 arg2 harg2 arg3 harg3 arg4 harg4 arg5 harg5 arg6 harg6 arg7 harg7 arg8 harg8 arg9 harg9 arg10 harg10 arg11 harg11 k0_h1)
  pieces1 i arg1 harg1 arg2 harg2 arg3 harg3 arg4 harg4 arg5 harg5 arg6 harg6 arg7 harg7 arg8 harg8 arg9 harg9 arg10 harg10 arg11 harg11

set_option maxHeartbeats 0 in
/-- The body at the first grid point: statement by statement. -/
theorem body_first (i : grid0.Coords) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole) (h1 : k0_cond1 i = 1#1) (h2 : ¬ k0_cond2 i = 1#1) :
    cc0_down_proj (F := F) i arg1 harg1 arg2 harg2 arg3 harg3 arg4 harg4 arg5 harg5 arg6 harg6 arg7 harg7 arg8 harg8 arg9 harg9 arg10 harg10 arg11 harg11 = steps1 i arg1 harg1 arg2 harg2 arg3 harg3 arg4 harg4 arg5 harg5 arg6 harg6 arg7 harg7 arg8 harg8 arg9 harg9 arg10 harg10 arg11 harg11 h1 := by
  rw [cc0_down_proj_eq_skeleton]
  unfold cc0_down_proj_skel
  rw [dif_pos h1, dif_neg h2, k0_part79_eq_skeleton]
  unfold k0_part79_skel
  rw [k0_part1_eq_skeleton]
  unfold k0_part1_skel steps1
  simp only [bind_assoc]
  refine Cert.Strip.bind_congr _ (fun _ => ?_)
  refine Cert.Strip.bind_congr _ (fun _ => ?_)
  refine Cert.Strip.bind_congr _ (fun _ => ?_)
  refine Cert.Strip.bind_congr _ (fun _ => ?_)
  repeat refine Cert.Strip.op_congr _ (fun _ => ?_)
  rfl

end Cert.DownIdeal.Hand
-- ==== Proof.DownSecond.lean ====
/-
  At a grid point after the first, the printed body is its ten chunks and eight pieces.
-/
module

public import proofs.«01_k».proof.Proof.DownShape

@[expose] public section

set_option maxRecDepth 65536

noncomputable section

namespace Cert.DownIdeal.Hand

open Idealize.ShloMosaic Idealize.SL.Sem
open Cert.DownIdeal.Gen

variable {F : FTy → Type} [FloatOps F]

set_option maxHeartbeats 0 in
/-- The body after the first grid point: statement by statement. -/
theorem body_second (i : grid0.Coords) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole) (h1 : ¬ k0_cond1 i = 1#1) (h2 : k0_cond2 i = 1#1) :
    cc0_down_proj (F := F) i arg1 harg1 arg2 harg2 arg3 harg3 arg4 harg4 arg5 harg5 arg6 harg6 arg7 harg7 arg8 harg8 arg9 harg9 arg10 harg10 arg11 harg11 = steps2 i arg1 harg1 arg2 harg2 arg3 harg3 arg4 harg4 arg5 harg5 arg6 harg6 arg7 harg7 arg8 harg8 arg9 harg9 arg10 harg10 arg11 harg11 := by
  rw [cc0_down_proj_eq_skeleton]
  unfold cc0_down_proj_skel
  rw [dif_neg h1, dif_pos h2]
  repeat refine Cert.Strip.op_congr _ (fun _ => ?_)
  rfl

end Cert.DownIdeal.Hand
-- ==== Proof.DownBody.lean ====
/-
  The down kernel's body at the first grid point and at the later ones: what it leaves in its buffers.
-/
module

public import proofs.«01_k».proof.Proof.DownStrips
public import proofs.«01_k».proof.Proof.DownFirst
public import proofs.«01_k».proof.Proof.DownSecond
public import Idealize.ShloMosaic.Lib.Pipeline.FrameBody
public import Idealize.ShloMosaic.Lib.Ring
public import Idealize.ShloMosaic.Lib.ValueLayout
public import Idealize.ShloMosaic.Lib.Tactic

@[expose] public section

set_option maxRecDepth 16384

noncomputable section

namespace Cert.DownIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal.Gen Cert.Ternary

variable {F : FTy → Type} [FloatOps F]

local notation "𝕄" => MT nD τ sig Unit (Elt F) ℕ (UR sig nD τ) ℕ

/-- A piecewise filled buffer, filled everywhere. -/
theorem part_full {s : Shape} {e : EltTy} (c : Dev nD) (m : Memref sig .tc .vmem s e) (G : Vec F s e) (P : s.Idx → Prop) (h : ∀ y, P y) :
    Part c m G P ⊢ (owns (c : Thread nD τ) m fullShare G : sProp 𝕄) := by
  unfold Part
  iintro ⟨%d, %hd, H⟩
  obtain rfl : d = G := funext fun y => hd y (h y)
  iexact H

/-- A buffer whose contents agree with `G` on `P`. -/
theorem part_of {s : Shape} {e : EltTy} (c : Dev nD) (m : Memref sig .tc .vmem s e) (G d : Vec F s e) (P : s.Idx → Prop) (h : ∀ y, P y → d y = G y) :
    (owns (c : Thread nD τ) m fullShare d : sProp 𝕄) ⊢ Part c m G P := by
  unfold Part
  iintro H
  iexists d
  isplitr
  · ipureintro; exact h
  iexact H

theorem full6 (y : S256x2560.Idx) : P6 10 y := (y 1).isLt
theorem full7 (y : S256x6912.Idx) : P7 8 y := (y 0).isLt
theorem full8 (y : S256x1.Idx) : P8 8 y := (y 0).isLt
theorem full10 (b : ℕ) (y : S2x256x6912.Idx) : P10 b 8 y := Or.inr (y 1).isLt
theorem full11 (b : ℕ) (y : S2x256x1.Idx) : P11 b 8 y := Or.inr (y 1).isLt

set_option maxHeartbeats 1600000 in
/-- The four unpacking loops. -/
theorem loops_wp (c : Dev nD) (i : grid0.Coords) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole)
    (hc : k0_cond1 i = 1#1) (pd : Vec F S640x6912 .i8) (R : sProp 𝕄) (E : Set ℕ) (K : PUnit → sProp 𝕄) (k : Prog (TpuEff nD τ sig (Elt F) Λ₀ .tc) PUnit)
    (hk : iprop(owns (c : Thread nD τ) arg5 fullShare pd ∗ owns (c : Thread nD τ) arg9 fullShare (wfull pd) ∗ R) ⊢ wp frame (wpE (defs₀ (F := F)) Variants.none c none) E k K) :
    iprop(owns (c : Thread nD τ) arg5 fullShare pd ∗ (∃ d, owns (c : Thread nD τ) arg9 fullShare d) ∗ R) ⊢ wp frame (wpE (defs₀ (F := F)) Variants.none c none) E (do
      Scf.Loop.for k0_t1_loop (k0_t1_ok i hc) ⟨⟩ (k0_t1_body i arg1 harg1 arg2 harg2 arg3 harg3 arg4 harg4 arg5 harg5 arg6 harg6 arg7 harg7 arg8 harg8 arg9 harg9 arg10 harg10 arg11 harg11 hc)
      Scf.Loop.for k0_t2_loop (k0_t2_ok i hc) ⟨⟩ (k0_t2_body i arg1 harg1 arg2 harg2 arg3 harg3 arg4 harg4 arg5 harg5 arg6 harg6 arg7 harg7 arg8 harg8 arg9 harg9 arg10 harg10 arg11 harg11 hc)
      Scf.Loop.for k0_t3_loop (k0_t3_ok i hc) ⟨⟩ (k0_t3_body i arg1 harg1 arg2 harg2 arg3 harg3 arg4 harg4 arg5 harg5 arg6 harg6 arg7 harg7 arg8 harg8 arg9 harg9 arg10 harg10 arg11 harg11 hc)
      Scf.Loop.for k0_t4_loop (k0_t4_ok i hc) ⟨⟩ (k0_t4_body i arg1 harg1 arg2 harg2 arg3 harg3 arg4 harg4 arg5 harg5 arg6 harg6 arg7 harg7 arg8 harg8 arg9 harg9 arg10 harg10 arg11 harg11 hc)
      k) K := by
  unfold owns at hk ⊢
  iintro ⟨⟨%f5, %hf5, H5⟩, ⟨%d9, %f9, -, H9⟩, HR⟩
  sl_exec (disch := first | sl_exact hc)
  iapply hk
  isplitl [H5]
  · iexists _; isplitr; · ipureintro; exact hf5
    iexact H5
  isplitl [H9]
  · iexists _; isplitr; swap; · iexact H9
    ipureintro
    subst hf5
    refine read_four (F := F) _ _ _ _ _ _ _ ?_ ?_ ?_ ?_
    · exact pb1_spec _ _ _ i arg1 harg1 arg2 harg2 arg3 harg3 arg4 harg4 arg5 harg5 arg6 harg6 arg7 harg7 arg8 harg8 arg9 harg9 arg10 harg10 arg11 harg11 hc _
    · exact pb2_spec _ _ _ i arg1 harg1 arg2 harg2 arg3 harg3 arg4 harg4 arg5 harg5 arg6 harg6 arg7 harg7 arg8 harg8 arg9 harg9 arg10 harg10 arg11 harg11 hc _
    · exact pb3_spec _ _ _ i arg1 harg1 arg2 harg2 arg3 harg3 arg4 harg4 arg5 harg5 arg6 harg6 arg7 harg7 arg8 harg8 arg9 harg9 arg10 harg10 arg11 harg11 hc _
    · exact pb4_spec _ _ _ i arg1 harg1 arg2 harg2 arg3 harg3 arg4 harg4 arg5 harg5 arg6 harg6 arg7 harg7 arg8 harg8 arg9 harg9 arg10 harg10 arg11 harg11 hc _
  iexact HR

set_option maxHeartbeats 1600000 in
/-- The body at the first grid point. -/
theorem first_run (c : Dev nD) (i : grid0.Coords) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole)
    (h1 : k0_cond1 i = 1#1) (h2 : ¬ k0_cond2 i = 1#1) (ws : Vec F S1 .f32) (x : Vec F S256x6912 .f32) (h : Vec F S256x2560 .f32) (g : Vec F S1x6912 .f32) (pd : Vec F S640x6912 .i8) (D : Vec F S2x256x6912 .bf16) (T : Vec F S2x256x1 .f32) (E : Set ℕ) (K : PUnit → sProp 𝕄) :
    iprop(owns (c : Thread nD τ) arg1 fullShare ws ∗ owns (c : Thread nD τ) arg2 fullShare x ∗ owns (c : Thread nD τ) arg3 fullShare h ∗ owns (c : Thread nD τ) arg4 fullShare g ∗ owns (c : Thread nD τ) arg5 fullShare pd ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare D ∗ owns (c : Thread nD τ) arg11 fullShare T
      ∗ (iprop(owns (c : Thread nD τ) arg1 fullShare ws ∗ owns (c : Thread nD τ) arg2 fullShare x ∗ owns (c : Thread nD τ) arg3 fullShare h ∗ owns (c : Thread nD τ) arg4 fullShare g ∗ owns (c : Thread nD τ) arg5 fullShare pd ∗ (∃ d, owns (c : Thread nD τ) arg6 fullShare d) ∗ owns (c : Thread nD τ) arg7 fullShare (G7 x g) ∗ owns (c : Thread nD τ) arg8 fullShare (G8 x g) ∗ owns (c : Thread nD τ) arg9 fullShare (wfull pd) ∗ owns (c : Thread nD τ) arg10 fullShare (G10 (slotN i) D x g) ∗ owns (c : Thread nD τ) arg11 fullShare (G11 (slotN i) T x g)) -∗ K ⟨⟩))
      ⊢ wp frame (wpE (defs₀ (F := F)) Variants.none c none) E (cc0_down_proj i arg1 harg1 arg2 harg2 arg3 harg3 arg4 harg4 arg5 harg5 arg6 harg6 arg7 harg7 arg8 harg8 arg9 harg9 arg10 harg10 arg11 harg11) K := by
  rw [body_first i arg1 harg1 arg2 harg2 arg3 harg3 arg4 harg4 arg5 harg5 arg6 harg6 arg7 harg7 arg8 harg8 arg9 harg9 arg10 harg10 arg11 harg11 h1 h2]
  have hp := slotP_lt i
  iintro ⟨H1, H2, H3, H4, H5, ⟨%d6, H6⟩, ⟨%d7, H7⟩, ⟨%d8, H8⟩, H9, H10, H11, Hk⟩
  iapply (loops_wp c i arg1 harg1 arg2 harg2 arg3 harg3 arg4 harg4 arg5 harg5 arg6 harg6 arg7 harg7 arg8 harg8 arg9 harg9 arg10 harg10 arg11 harg11 h1 pd iprop(owns (c : Thread nD τ) arg1 fullShare ws ∗ owns (c : Thread nD τ) arg2 fullShare x ∗ owns (c : Thread nD τ) arg3 fullShare h ∗ owns (c : Thread nD τ) arg4 fullShare g ∗ owns (c : Thread nD τ) arg6 fullShare d6 ∗ owns (c : Thread nD τ) arg7 fullShare d7 ∗ owns (c : Thread nD τ) arg8 fullShare d8 ∗ owns (c : Thread nD τ) arg10 fullShare D ∗ owns (c : Thread nD τ) arg11 fullShare T
      ∗ (iprop(owns (c : Thread nD τ) arg1 fullShare ws ∗ owns (c : Thread nD τ) arg2 fullShare x ∗ owns (c : Thread nD τ) arg3 fullShare h ∗ owns (c : Thread nD τ) arg4 fullShare g ∗ owns (c : Thread nD τ) arg5 fullShare pd ∗ (∃ d, owns (c : Thread nD τ) arg6 fullShare d) ∗ owns (c : Thread nD τ) arg7 fullShare (G7 x g) ∗ owns (c : Thread nD τ) arg8 fullShare (G8 x g) ∗ owns (c : Thread nD τ) arg9 fullShare (wfull pd) ∗ owns (c : Thread nD τ) arg10 fullShare (G10 (slotN i) D x g) ∗ owns (c : Thread nD τ) arg11 fullShare (G11 (slotN i) T x g)) -∗ K ⟨⟩)) E K (pieces1 i arg1 harg1 arg2 harg2 arg3 harg3 arg4 harg4 arg5 harg5 arg6 harg6 arg7 harg7 arg8 harg8 arg9 harg9 arg10 harg10 arg11 harg11) ?_)
  · unfold pieces1
    refine BIBase.Entails.trans (Q := St c arg1 arg2 arg3 arg4 arg5 arg6 arg7 arg8 arg9 arg10 arg11 ws x h g pd (wfull pd) D T (slotN i) (slotP i) hp iprop((iprop(owns (c : Thread nD τ) arg1 fullShare ws ∗ owns (c : Thread nD τ) arg2 fullShare x ∗ owns (c : Thread nD τ) arg3 fullShare h ∗ owns (c : Thread nD τ) arg4 fullShare g ∗ owns (c : Thread nD τ) arg5 fullShare pd ∗ (∃ d, owns (c : Thread nD τ) arg6 fullShare d) ∗ owns (c : Thread nD τ) arg7 fullShare (G7 x g) ∗ owns (c : Thread nD τ) arg8 fullShare (G8 x g) ∗ owns (c : Thread nD τ) arg9 fullShare (wfull pd) ∗ owns (c : Thread nD τ) arg10 fullShare (G10 (slotN i) D x g) ∗ owns (c : Thread nD τ) arg11 fullShare (G11 (slotN i) T x g)) -∗ K ⟨⟩)) 0 0) ?_ ?_
    · unfold St
      iintro ⟨H5, H9, H1, H2, H3, H4, H6, H7, H8, H10, H11, Hk⟩
      isplitl [H1]; · iexact H1
      isplitl [H2]; · iexact H2
      isplitl [H3]; · iexact H3
      isplitl [H4]; · iexact H4
      isplitl [H5]; · iexact H5
      isplitl [H6]; · iapply (part_of c arg6 _ _ _ (fun y hy => absurd hy (Nat.not_lt_zero _))); iexact H6
      isplitl [H7]; · iapply (part_of c arg7 _ _ _ (fun y hy => absurd hy (Nat.not_lt_zero _))); iexact H7
      isplitl [H8]; · iapply (part_of c arg8 _ _ _ (fun y hy => absurd hy (Nat.not_lt_zero _))); iexact H8
      isplitl [H9]; · iexact H9
      isplitl [H10]; · iapply (part_of c arg10 _ _ _ (fun y hy => (if_neg (hy.resolve_right (Nat.not_lt_zero _))).symm)); iexact H10
      isplitl [H11]; · iapply (part_of c arg11 _ _ _ (fun y hy => (if_neg (hy.resolve_right (Nat.not_lt_zero _))).symm)); iexact H11
      iexact Hk
    refine piece_wp c arg1 harg1 arg2 harg2 arg3 harg3 arg4 harg4 arg5 harg5 arg6 harg6 arg7 harg7 arg8 harg8 arg9 harg9 arg10 harg10 arg11 harg11 ws x h g pd (wfull pd) D T (slotN i) (slotP i) hp _ E K _ 0 0 _ _ _ ?_
    refine piece_wp c arg1 harg1 arg2 harg2 arg3 harg3 arg4 harg4 arg5 harg5 arg6 harg6 arg7 harg7 arg8 harg8 arg9 harg9 arg10 harg10 arg11 harg11 ws x h g pd (wfull pd) D T (slotN i) (slotP i) hp _ E K _ 0 1 _ _ _ ?_
    refine piece_wp c arg1 harg1 arg2 harg2 arg3 harg3 arg4 harg4 arg5 harg5 arg6 harg6 arg7 harg7 arg8 harg8 arg9 harg9 arg10 harg10 arg11 harg11 ws x h g pd (wfull pd) D T (slotN i) (slotP i) hp _ E K _ 0 2 _ _ _ ?_
    refine piece_wp c arg1 harg1 arg2 harg2 arg3 harg3 arg4 harg4 arg5 harg5 arg6 harg6 arg7 harg7 arg8 harg8 arg9 harg9 arg10 harg10 arg11 harg11 ws x h g pd (wfull pd) D T (slotN i) (slotP i) hp _ E K _ 0 3 _ _ _ ?_
    refine piece_wp c arg1 harg1 arg2 harg2 arg3 harg3 arg4 harg4 arg5 harg5 arg6 harg6 arg7 harg7 arg8 harg8 arg9 harg9 arg10 harg10 arg11 harg11 ws x h g pd (wfull pd) D T (slotN i) (slotP i) hp _ E K _ 0 4 _ _ _ ?_
    refine piece_wp c arg1 harg1 arg2 harg2 arg3 harg3 arg4 harg4 arg5 harg5 arg6 harg6 arg7 harg7 arg8 harg8 arg9 harg9 arg10 harg10 arg11 harg11 ws x h g pd (wfull pd) D T (slotN i) (slotP i) hp _ E K _ 0 5 _ _ _ ?_
    refine piece_wp c arg1 harg1 arg2 harg2 arg3 harg3 arg4 harg4 arg5 harg5 arg6 harg6 arg7 harg7 arg8 harg8 arg9 harg9 arg10 harg10 arg11 harg11 ws x h g pd (wfull pd) D T (slotN i) (slotP i) hp _ E K _ 0 6 _ _ _ ?_
    refine piece_wp c arg1 harg1 arg2 harg2 arg3 harg3 arg4 harg4 arg5 harg5 arg6 harg6 arg7 harg7 arg8 harg8 arg9 harg9 arg10 harg10 arg11 harg11 ws x h g pd (wfull pd) D T (slotN i) (slotP i) hp _ E K _ 0 7 _ _ _ ?_
    unfold St
    iintro ⟨H1, H2, H3, H4, H5, H6, H7, H8, H9, H10, H11, Hk⟩
    sl_step
    iapply Hk
    isplitl [H1]; · iexact H1
    isplitl [H2]; · iexact H2
    isplitl [H3]; · iexact H3
    isplitl [H4]; · iexact H4
    isplitl [H5]; · iexact H5
    isplitl [H6]
    · unfold Part
      icases H6 with ⟨%d, -, H6⟩
      iexists d; iexact H6
    isplitl [H7]; · iapply (part_full c arg7 _ _ full7); iexact H7
    isplitl [H8]; · iapply (part_full c arg8 _ _ full8); iexact H8
    isplitl [H9]; · iexact H9
    isplitl [H10]; · iapply (part_full c arg10 _ _ (full10 _)); iexact H10
    iapply (part_full c arg11 _ _ (full11 _)); iexact H11
  isplitl [H5]; · iexact H5
  isplitl [H9]; · iexact H9
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H10]; · iexact H10
  isplitl [H11]; · iexact H11
  iexact Hk

/-- The load of the scales' slot that is being read. -/
theorem load_first (c : Dev nD) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole)
    (ws : Vec F S1 .f32) (x : Vec F S256x6912 .f32) (h : Vec F S256x2560 .f32) (g : Vec F S1x6912 .f32) (pd : Vec F S640x6912 .i8) (W : Vec F S2560x6912 .i8) (D : Vec F S2x256x6912 .bf16) (T : Vec F S2x256x1 .f32) (b bP : ℕ) (hbP : bP < 2) (hne : bP ≠ b) (R : sProp 𝕄) (E : Set ℕ) (K : PUnit → sProp 𝕄) (k : Vec F S1x256x1 .f32 → Prog (TpuEff nD τ sig (Elt F) Λ₀ .tc) PUnit)
    (hk : ∀ sa : Vec F S1x256x1 .f32, sa = VecWindow.window T ![bP, 0, 0] S1x256x1.size (inbT' hbP) → St c arg1 arg2 arg3 arg4 arg5 arg6 arg7 arg8 arg9 arg10 arg11 ws x h g pd W D T b bP hbP R 0 0 ⊢ wp frame (wpE (defs₀ (F := F)) Variants.none c none) E (k sa) K) :
    St c arg1 arg2 arg3 arg4 arg5 arg6 arg7 arg8 arg9 arg10 arg11 ws x h g pd W D T b bP hbP R 0 0 ⊢ wp frame (wpE (defs₀ (F := F)) Variants.none c none) E (do
      let sa : Vec F S1x256x1 .f32 ← Prog.lift (.load arg11 (Rect.unit (s := S2x256x1) ![bP, 0, 0] S1x256x1.size (inbT' hbP)).toLoadRect (View.loadsAt_vmem h_S1x256x1))
      k sa) K := by
  unfold St Part owns at hk ⊢
  iintro ⟨H1, H2, H3, H4, H5, H6, H7, H8, H9, H10, ⟨%d11, %hd11, %f11, %hf11, H11⟩, HR⟩
  subst hf11
  sl_exec
  have e : arg11.view.readAt (Elt F) (Rect.unit (s := S2x256x1) ![bP, 0, 0] S1x256x1.size (inbT' hbP)).toLoadRect f11 = VecWindow.window T ![bP, 0, 0] S1x256x1.size (inbT' hbP) := by
    rw [View.readAt_unit _ _ (inbT' hbP) rfl (inbT' hbP)]
    funext z
    have hz : ((Rect.unit (s := S2x256x1) ![bP, 0, 0] S1x256x1.size (inbT' hbP)).emb z 0).val = bP := by
      show bP + 1 * (z 0).val = bP
      have : (z 0).val < 1 := (z 0).isLt
      omega
    refine (hd11 _ (Or.inl ?_)).trans (if_neg ?_)
    · exact fun e => hne (hz.symm.trans e)
    · exact fun e => hne (hz.symm.trans e)
  iapply (hk _ e)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr; swap
    · iexists _; isplitr; swap; · iexact H11
      ipureintro; rfl
    ipureintro; exact hd11
  iexact HR

theorem slots_ne (i : grid0.Coords) : slotP i ≠ slotN i := by rw [slotN_eq, slotP_eq]; omega

set_option maxHeartbeats 1600000 in
/-- The ten chunks and the eight pieces of a later grid point. -/
theorem steps2_run (c : Dev nD) (i : grid0.Coords) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole)
    (hp : slotP i < 2) (ws : Vec F S1 .f32) (x : Vec F S256x6912 .f32) (h : Vec F S256x2560 .f32) (g : Vec F S1x6912 .f32) (pd : Vec F S640x6912 .i8) (W : Vec F S2560x6912 .i8) (D : Vec F S2x256x6912 .bf16) (T : Vec F S2x256x1 .f32) (R : sProp 𝕄) (E : Set ℕ) (K : PUnit → sProp 𝕄)
    (hk : St c arg1 arg2 arg3 arg4 arg5 arg6 arg7 arg8 arg9 arg10 arg11 ws x h g pd W D T (slotN i) (slotP i) hp R 10 8 ⊢ wp frame (wpE (defs₀ (F := F)) Variants.none c none) E (pure ⟨⟩) K) :
    St c arg1 arg2 arg3 arg4 arg5 arg6 arg7 arg8 arg9 arg10 arg11 ws x h g pd W D T (slotN i) (slotP i) hp R 0 0 ⊢ wp frame (wpE (defs₀ (F := F)) Variants.none c none) E (steps2 i arg1 harg1 arg2 harg2 arg3 harg3 arg4 harg4 arg5 harg5 arg6 harg6 arg7 harg7 arg8 harg8 arg9 harg9 arg10 harg10 arg11 harg11) K := by
  have hne := slots_ne i
  have all : ∀ sa : Vec F S1x256x1 .f32, sa = VecWindow.window T ![slotP i, 0, 0] S1x256x1.size (inbT' hp) →
      St c arg1 arg2 arg3 arg4 arg5 arg6 arg7 arg8 arg9 arg10 arg11 ws x h g pd W D T (slotN i) (slotP i) hp R 0 0 ⊢ wp frame (wpE (defs₀ (F := F)) Variants.none c none) E (
        chunk 0 (slotP i) (slotP_lt i) (by decide) sa arg1 harg1 arg3 harg3 arg6 harg6 arg9 harg9 arg10 harg10 <|
        piece 0 (slotN i) (slotN_lt i) (by decide) (by decide) arg2 harg2 arg4 harg4 arg7 harg7 arg8 harg8 arg10 harg10 arg11 harg11 <|
        chunk 256 (slotP i) (slotP_lt i) (by decide) sa arg1 harg1 arg3 harg3 arg6 harg6 arg9 harg9 arg10 harg10 <|
        piece 32 (slotN i) (slotN_lt i) (by decide) (by decide) arg2 harg2 arg4 harg4 arg7 harg7 arg8 harg8 arg10 harg10 arg11 harg11 <|
        chunk 512 (slotP i) (slotP_lt i) (by decide) sa arg1 harg1 arg3 harg3 arg6 harg6 arg9 harg9 arg10 harg10 <|
        piece 64 (slotN i) (slotN_lt i) (by decide) (by decide) arg2 harg2 arg4 harg4 arg7 harg7 arg8 harg8 arg10 harg10 arg11 harg11 <|
        chunk 768 (slotP i) (slotP_lt i) (by decide) sa arg1 harg1 arg3 harg3 arg6 harg6 arg9 harg9 arg10 harg10 <|
        piece 96 (slotN i) (slotN_lt i) (by decide) (by decide) arg2 harg2 arg4 harg4 arg7 harg7 arg8 harg8 arg10 harg10 arg11 harg11 <|
        chunk 1024 (slotP i) (slotP_lt i) (by decide) sa arg1 harg1 arg3 harg3 arg6 harg6 arg9 harg9 arg10 harg10 <|
        chunk 1280 (slotP i) (slotP_lt i) (by decide) sa arg1 harg1 arg3 harg3 arg6 harg6 arg9 harg9 arg10 harg10 <|
        piece 128 (slotN i) (slotN_lt i) (by decide) (by decide) arg2 harg2 arg4 harg4 arg7 harg7 arg8 harg8 arg10 harg10 arg11 harg11 <|
        chunk 1536 (slotP i) (slotP_lt i) (by decide) sa arg1 harg1 arg3 harg3 arg6 harg6 arg9 harg9 arg10 harg10 <|
        piece 160 (slotN i) (slotN_lt i) (by decide) (by decide) arg2 harg2 arg4 harg4 arg7 harg7 arg8 harg8 arg10 harg10 arg11 harg11 <|
        chunk 1792 (slotP i) (slotP_lt i) (by decide) sa arg1 harg1 arg3 harg3 arg6 harg6 arg9 harg9 arg10 harg10 <|
        piece 192 (slotN i) (slotN_lt i) (by decide) (by decide) arg2 harg2 arg4 harg4 arg7 harg7 arg8 harg8 arg10 harg10 arg11 harg11 <|
        chunk 2048 (slotP i) (slotP_lt i) (by decide) sa arg1 harg1 arg3 harg3 arg6 harg6 arg9 harg9 arg10 harg10 <|
        piece 224 (slotN i) (slotN_lt i) (by decide) (by decide) arg2 harg2 arg4 harg4 arg7 harg7 arg8 harg8 arg10 harg10 arg11 harg11 <|
        chunk 2304 (slotP i) (slotP_lt i) (by decide) sa arg1 harg1 arg3 harg3 arg6 harg6 arg9 harg9 arg10 harg10 <|
        pure ⟨⟩) K := by
    intro sa hsa
    refine chunk_wp c arg1 harg1 arg2 harg2 arg3 harg3 arg4 harg4 arg5 harg5 arg6 harg6 arg7 harg7 arg8 harg8 arg9 harg9 arg10 harg10 arg11 harg11 ws x h g pd W D T (slotN i) (slotP i) hp R E K _ 0 0 hne sa hsa _ ?_
    refine piece_wp c arg1 harg1 arg2 harg2 arg3 harg3 arg4 harg4 arg5 harg5 arg6 harg6 arg7 harg7 arg8 harg8 arg9 harg9 arg10 harg10 arg11 harg11 ws x h g pd W D T (slotN i) (slotP i) hp R E K _ 1 0 _ _ _ ?_
    refine chunk_wp c arg1 harg1 arg2 harg2 arg3 harg3 arg4 harg4 arg5 harg5 arg6 harg6 arg7 harg7 arg8 harg8 arg9 harg9 arg10 harg10 arg11 harg11 ws x h g pd W D T (slotN i) (slotP i) hp R E K _ 1 1 hne sa hsa _ ?_
    refine piece_wp c arg1 harg1 arg2 harg2 arg3 harg3 arg4 harg4 arg5 harg5 arg6 harg6 arg7 harg7 arg8 harg8 arg9 harg9 arg10 harg10 arg11 harg11 ws x h g pd W D T (slotN i) (slotP i) hp R E K _ 2 1 _ _ _ ?_
    refine chunk_wp c arg1 harg1 arg2 harg2 arg3 harg3 arg4 harg4 arg5 harg5 arg6 harg6 arg7 harg7 arg8 harg8 arg9 harg9 arg10 harg10 arg11 harg11 ws x h g pd W D T (slotN i) (slotP i) hp R E K _ 2 2 hne sa hsa _ ?_
    refine piece_wp c arg1 harg1 arg2 harg2 arg3 harg3 arg4 harg4 arg5 harg5 arg6 harg6 arg7 harg7 arg8 harg8 arg9 harg9 arg10 harg10 arg11 harg11 ws x h g pd W D T (slotN i) (slotP i) hp R E K _ 3 2 _ _ _ ?_
    refine chunk_wp c arg1 harg1 arg2 harg2 arg3 harg3 arg4 harg4 arg5 harg5 arg6 harg6 arg7 harg7 arg8 harg8 arg9 harg9 arg10 harg10 arg11 harg11 ws x h g pd W D T (slotN i) (slotP i) hp R E K _ 3 3 hne sa hsa _ ?_
    refine piece_wp c arg1 harg1 arg2 harg2 arg3 harg3 arg4 harg4 arg5 harg5 arg6 harg6 arg7 harg7 arg8 harg8 arg9 harg9 arg10 harg10 arg11 harg11 ws x h g pd W D T (slotN i) (slotP i) hp R E K _ 4 3 _ _ _ ?_
    refine chunk_wp c arg1 harg1 arg2 harg2 arg3 harg3 arg4 harg4 arg5 harg5 arg6 harg6 arg7 harg7 arg8 harg8 arg9 harg9 arg10 harg10 arg11 harg11 ws x h g pd W D T (slotN i) (slotP i) hp R E K _ 4 4 hne sa hsa _ ?_
    refine chunk_wp c arg1 harg1 arg2 harg2 arg3 harg3 arg4 harg4 arg5 harg5 arg6 harg6 arg7 harg7 arg8 harg8 arg9 harg9 arg10 harg10 arg11 harg11 ws x h g pd W D T (slotN i) (slotP i) hp R E K _ 5 4 hne sa hsa _ ?_
    refine piece_wp c arg1 harg1 arg2 harg2 arg3 harg3 arg4 harg4 arg5 harg5 arg6 harg6 arg7 harg7 arg8 harg8 arg9 harg9 arg10 harg10 arg11 harg11 ws x h g pd W D T (slotN i) (slotP i) hp R E K _ 6 4 _ _ _ ?_
    refine chunk_wp c arg1 harg1 arg2 harg2 arg3 harg3 arg4 harg4 arg5 harg5 arg6 harg6 arg7 harg7 arg8 harg8 arg9 harg9 arg10 harg10 arg11 harg11 ws x h g pd W D T (slotN i) (slotP i) hp R E K _ 6 5 hne sa hsa _ ?_
    refine piece_wp c arg1 harg1 arg2 harg2 arg3 harg3 arg4 harg4 arg5 harg5 arg6 harg6 arg7 harg7 arg8 harg8 arg9 harg9 arg10 harg10 arg11 harg11 ws x h g pd W D T (slotN i) (slotP i) hp R E K _ 7 5 _ _ _ ?_
    refine chunk_wp c arg1 harg1 arg2 harg2 arg3 harg3 arg4 harg4 arg5 harg5 arg6 harg6 arg7 harg7 arg8 harg8 arg9 harg9 arg10 harg10 arg11 harg11 ws x h g pd W D T (slotN i) (slotP i) hp R E K _ 7 6 hne sa hsa _ ?_
    refine piece_wp c arg1 harg1 arg2 harg2 arg3 harg3 arg4 harg4 arg5 harg5 arg6 harg6 arg7 harg7 arg8 harg8 arg9 harg9 arg10 harg10 arg11 harg11 ws x h g pd W D T (slotN i) (slotP i) hp R E K _ 8 6 _ _ _ ?_
    refine chunk_wp c arg1 harg1 arg2 harg2 arg3 harg3 arg4 harg4 arg5 harg5 arg6 harg6 arg7 harg7 arg8 harg8 arg9 harg9 arg10 harg10 arg11 harg11 ws x h g pd W D T (slotN i) (slotP i) hp R E K _ 8 7 hne sa hsa _ ?_
    refine piece_wp c arg1 harg1 arg2 harg2 arg3 harg3 arg4 harg4 arg5 harg5 arg6 harg6 arg7 harg7 arg8 harg8 arg9 harg9 arg10 harg10 arg11 harg11 ws x h g pd W D T (slotN i) (slotP i) hp R E K _ 9 7 _ _ _ ?_
    refine chunk_wp c arg1 harg1 arg2 harg2 arg3 harg3 arg4 harg4 arg5 harg5 arg6 harg6 arg7 harg7 arg8 harg8 arg9 harg9 arg10 harg10 arg11 harg11 ws x h g pd W D T (slotN i) (slotP i) hp R E K _ 9 8 hne sa hsa _ ?_
    exact hk
  unfold steps2
  exact (load_first c arg1 harg1 arg2 harg2 arg3 harg3 arg4 harg4 arg5 harg5 arg6 harg6 arg7 harg7 arg8 harg8 arg9 harg9 arg10 harg10 arg11 harg11 ws x h g pd W D T (slotN i) (slotP i) hp hne R E K _ all)

set_option maxHeartbeats 1600000 in
/-- The body at a later grid point. -/
theorem second_run (c : Dev nD) (i : grid0.Coords) (arg1 : Memref sig .tc .smem S1 .f32) (harg1 : arg1.IsWhole) (arg2 : Memref sig .tc .vmem S256x6912 .f32) (harg2 : arg2.IsWhole) (arg3 : Memref sig .tc .vmem S256x2560 .f32) (harg3 : arg3.IsWhole) (arg4 : Memref sig .tc .vmem S1x6912 .f32) (harg4 : arg4.IsWhole) (arg5 : Memref sig .tc .vmem S640x6912 .i8) (harg5 : arg5.IsWhole) (arg6 : Memref sig .tc .vmem S256x2560 .bf16) (harg6 : arg6.IsWhole) (arg7 : Memref sig .tc .vmem S256x6912 .i8) (harg7 : arg7.IsWhole) (arg8 : Memref sig .tc .vmem S256x1 .f32) (harg8 : arg8.IsWhole) (arg9 : Memref sig .tc .vmem S2560x6912 .i8) (harg9 : arg9.IsWhole) (arg10 : Memref sig .tc .vmem S2x256x6912 .bf16) (harg10 : arg10.IsWhole) (arg11 : Memref sig .tc .vmem S2x256x1 .f32) (harg11 : arg11.IsWhole)
    (h1 : ¬ k0_cond1 i = 1#1) (h2 : k0_cond2 i = 1#1) (hp : slotP i < 2) (ws : Vec F S1 .f32) (x : Vec F S256x6912 .f32) (h : Vec F S256x2560 .f32) (g : Vec F S1x6912 .f32) (pd : Vec F S640x6912 .i8) (W : Vec F S2560x6912 .i8) (D : Vec F S2x256x6912 .bf16) (T : Vec F S2x256x1 .f32) (E : Set ℕ) (K : PUnit → sProp 𝕄) :
    iprop(owns (c : Thread nD τ) arg1 fullShare ws ∗ owns (c : Thread nD τ) arg2 fullShare x ∗ owns (c : Thread nD τ) arg3 fullShare h ∗ owns (c : Thread nD τ) arg4 fullShare g ∗ owns (c : Thread nD τ) arg5 fullShare pd ∗ (∃ d, owns (c : Thread nD τ) arg6 fullShare d) ∗ (∃ d, owns (c : Thread nD τ) arg7 fullShare d) ∗ (∃ d, owns (c : Thread nD τ) arg8 fullShare d) ∗ owns (c : Thread nD τ) arg9 fullShare W ∗ owns (c : Thread nD τ) arg10 fullShare D ∗ owns (c : Thread nD τ) arg11 fullShare T
      ∗ (iprop(owns (c : Thread nD τ) arg1 fullShare ws ∗ owns (c : Thread nD τ) arg2 fullShare x ∗ owns (c : Thread nD τ) arg3 fullShare h ∗ owns (c : Thread nD τ) arg4 fullShare g ∗ owns (c : Thread nD τ) arg5 fullShare pd ∗ owns (c : Thread nD τ) arg6 fullShare (G6 (slotP i) hp ws h W D T) ∗ owns (c : Thread nD τ) arg7 fullShare (G7 x g) ∗ owns (c : Thread nD τ) arg8 fullShare (G8 x g) ∗ owns (c : Thread nD τ) arg9 fullShare W ∗ owns (c : Thread nD τ) arg10 fullShare (G10 (slotN i) D x g) ∗ owns (c : Thread nD τ) arg11 fullShare (G11 (slotN i) T x g)) -∗ K ⟨⟩))
      ⊢ wp frame (wpE (defs₀ (F := F)) Variants.none c none) E (cc0_down_proj i arg1 harg1 arg2 harg2 arg3 harg3 arg4 harg4 arg5 harg5 arg6 harg6 arg7 harg7 arg8 harg8 arg9 harg9 arg10 harg10 arg11 harg11) K := by
  rw [body_second i arg1 harg1 arg2 harg2 arg3 harg3 arg4 harg4 arg5 harg5 arg6 harg6 arg7 harg7 arg8 harg8 arg9 harg9 arg10 harg10 arg11 harg11 h1 h2]
  refine BIBase.Entails.trans (Q := St c arg1 arg2 arg3 arg4 arg5 arg6 arg7 arg8 arg9 arg10 arg11 ws x h g pd W D T (slotN i) (slotP i) hp iprop((iprop(owns (c : Thread nD τ) arg1 fullShare ws ∗ owns (c : Thread nD τ) arg2 fullShare x ∗ owns (c : Thread nD τ) arg3 fullShare h ∗ owns (c : Thread nD τ) arg4 fullShare g ∗ owns (c : Thread nD τ) arg5 fullShare pd ∗ owns (c : Thread nD τ) arg6 fullShare (G6 (slotP i) hp ws h W D T) ∗ owns (c : Thread nD τ) arg7 fullShare (G7 x g) ∗ owns (c : Thread nD τ) arg8 fullShare (G8 x g) ∗ owns (c : Thread nD τ) arg9 fullShare W ∗ owns (c : Thread nD τ) arg10 fullShare (G10 (slotN i) D x g) ∗ owns (c : Thread nD τ) arg11 fullShare (G11 (slotN i) T x g)) -∗ K ⟨⟩)) 0 0) ?_ (steps2_run c i arg1 harg1 arg2 harg2 arg3 harg3 arg4 harg4 arg5 harg5 arg6 harg6 arg7 harg7 arg8 harg8 arg9 harg9 arg10 harg10 arg11 harg11 hp ws x h g pd W D T _ E K ?_)
  · unfold St
    iintro ⟨H1, H2, H3, H4, H5, ⟨%d6, H6⟩, ⟨%d7, H7⟩, ⟨%d8, H8⟩, H9, H10, H11, Hk⟩
    isplitl [H1]; · iexact H1
    isplitl [H2]; · iexact H2
    isplitl [H3]; · iexact H3
    isplitl [H4]; · iexact H4
    isplitl [H5]; · iexact H5
    isplitl [H6]; · iapply (part_of c arg6 _ _ _ (fun y hy => absurd hy (Nat.not_lt_zero _))); iexact H6
    isplitl [H7]; · iapply (part_of c arg7 _ _ _ (fun y hy => absurd hy (Nat.not_lt_zero _))); iexact H7
    isplitl [H8]; · iapply (part_of c arg8 _ _ _ (fun y hy => absurd hy (Nat.not_lt_zero _))); iexact H8
    isplitl [H9]; · iexact H9
    isplitl [H10]; · iapply (part_of c arg10 _ _ _ (fun y hy => (if_neg (hy.resolve_right (Nat.not_lt_zero _))).symm)); iexact H10
    isplitl [H11]; · iapply (part_of c arg11 _ _ _ (fun y hy => (if_neg (hy.resolve_right (Nat.not_lt_zero _))).symm)); iexact H11
    iexact Hk
  · unfold St
    iintro ⟨H1, H2, H3, H4, H5, H6, H7, H8, H9, H10, H11, Hk⟩
    sl_step
    iapply Hk
    isplitl [H1]; · iexact H1
    isplitl [H2]; · iexact H2
    isplitl [H3]; · iexact H3
    isplitl [H4]; · iexact H4
    isplitl [H5]; · iexact H5
    isplitl [H6]; · iapply (part_full c arg6 _ _ full6); iexact H6
    isplitl [H7]; · iapply (part_full c arg7 _ _ full7); iexact H7
    isplitl [H8]; · iapply (part_full c arg8 _ _ full8); iexact H8
    isplitl [H9]; · iexact H9
    isplitl [H10]; · iapply (part_full c arg10 _ _ (full10 _)); iexact H10
    iapply (part_full c arg11 _ _ (full11 _)); iexact H11

end Cert.DownIdeal.Hand
-- ==== Proof.DownRun.lean ====
/-
  The down kernel over its whole grid: what its scratch buffers hold between grid points, what each point leaves in the
  three outputs, and the run of the program.
-/
module

public import proofs.«01_k».proof.Proof.DownBody
public import proofs.«01_k».proof.Proof.Gen.DownIdeal.Frame
public import Idealize.ShloMosaic.Lib.Pipeline.FrameBody
public import Idealize.ShloMosaic.Lib.Claim

@[expose] public section

set_option maxRecDepth 16384

noncomputable section

namespace Cert.DownIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal.Gen Cert.Ternary

variable {F : FTy → Type} [FloatOps F]

local notation "𝕄" => MT nD τ sig Unit (Elt F) ℕ (UR sig nD τ) ℕ

/-! ## The grid -/

theorem coord0 (t : Fin cfg0.N) : (grid0.coords t 0).val = t.val := by
  have ht : t.val < 61 := Nat.lt_of_lt_of_eq t.isLt N_0
  have e0 : (grid0.coords t 0).val = t.val / 1 % 61 := Pipeline.Grid.coords_val (G := grid0) t 0 (by decide) rfl
  omega

/-- The weights are unpacked at the first grid point. -/
theorem hcond1 : ∀ t : Fin cfg0.N, k0_cond1 (grid0.coords t) = 1#1 ↔ t.val = 0 :=
  (fun t => by
    have ht : t.val < 61 := Nat.lt_of_lt_of_eq t.isLt N_0
    have e0 : (grid0.coords t 0).val = t.val / 1 % 61 := Pipeline.Grid.coords_val t 0 (by decide) rfl
    simp only [k0_cond1, e0]
    word_cmp
   : ∀ t : Fin grid0.N, k0_cond1 (grid0.coords t) = 1#1 ↔ t.val = 0)

/-- Products are computed at every later one. -/
theorem hcond2 : ∀ t : Fin cfg0.N, k0_cond2 (grid0.coords t) = 1#1 ↔ 0 < t.val :=
  (fun t => by
    have ht : t.val < 61 := Nat.lt_of_lt_of_eq t.isLt N_0
    have e0 : (grid0.coords t 0).val = t.val / 1 % 61 := Pipeline.Grid.coords_val t 0 (by decide) rfl
    simp only [k0_cond2, e0]
    word_cmp
   : ∀ t : Fin grid0.N, k0_cond2 (grid0.coords t) = 1#1 ↔ 0 < t.val)

/-! ## The memrefs -/

abbrev ms0 (t : Fin cfg0.N) : Memref sig .tc .smem S1 .f32 := win0_0.stage (cfg0.slots t 0)
abbrev ms1 (t : Fin cfg0.N) : Memref sig .tc .vmem S256x6912 .f32 := win0_1.stage (cfg0.slots t 1)
abbrev ms2 (t : Fin cfg0.N) : Memref sig .tc .vmem S256x2560 .f32 := win0_2.stage (cfg0.slots t 2)
abbrev ms3 (t : Fin cfg0.N) : Memref sig .tc .vmem S1x6912 .f32 := win0_3.stage (cfg0.slots t 3)
abbrev ms4 (t : Fin cfg0.N) : Memref sig .tc .vmem S640x6912 .i8 := win0_4.stage (cfg0.slots t 4)
abbrev ms5 (t : Fin cfg0.N) : Memref sig .tc .vmem S256x2560 .bf16 := win0_5.stage (cfg0.slots t 5)
abbrev ms6 (t : Fin cfg0.N) : Memref sig .tc .vmem S256x6912 .i8 := win0_6.stage (cfg0.slots t 6)
abbrev ms7 (t : Fin cfg0.N) : Memref sig .tc .vmem S256x1 .f32 := win0_7.stage (cfg0.slots t 7)
abbrev scW : Memref sig .tc .vmem S2560x6912 .i8 := Memref.whole cc0_scratch0
abbrev scC : Memref sig .tc .vmem S2x256x6912 .bf16 := Memref.whole cc0_scratch1
abbrev scS : Memref sig .tc .vmem S2x256x1 .f32 := Memref.whole cc0_scratch2

theorem PhiA_eq (c : Dev nD) : (Pipeline.ΦA spec0 c : sProp 𝕄) = iprop(iprop((∃ d, owns (c : Thread nD τ) scW fullShare d) ∗ (∃ d, owns (c : Thread nD τ) scC fullShare d) ∗ (∃ d, owns (c : Thread nD τ) scS fullShare d)) ∗ (∃ r, prngReg c r)) := by
  unfold Pipeline.ΦA; rw [scopedRest0_eq]; simp only [scW, scC, scS, owns_whole]; try rfl

/-! ## A slot's contents -/

/-- A tile's codes and scales, in either slot. -/
def C10 (x : Vec F S256x6912 .f32) (g : Vec F S1x6912 .f32) : Vec F S2x256x6912 .bf16 := fun y =>
  (truncf .bf16 (pCode x g (pOf (y 1)) (jOf (y 2))) bitsLt_bf16_f32 : FVec F S32x768 .bf16) (ix2 (rOf (y 1)) (lOf (y 2)))
def C11 (x : Vec F S256x6912 .f32) (g : Vec F S1x6912 .f32) : Vec F S2x256x1 .f32 := fun y => tScale x g (y 1)

/-- The output block depends on the slot that is read alone. -/
theorem G6_slot (b : ℕ) (hb : b < 2) (ws : Vec F S1 .f32) (h : Vec F S256x2560 .f32) (W : Vec F S2560x6912 .i8)
    (D D' : Vec F S2x256x6912 .bf16) (T T' : Vec F S2x256x1 .f32) (hD : ∀ y, (y 0).val = b → D y = D' y) (hT : ∀ y, (y 0).val = b → T y = T' y) :
    G6 b hb ws h W D T = G6 b hb ws h W D' T' := by
  have e1 : VecWindow.window D ![b, 0, 0] S1x256x6912.size (inbC' hb) = VecWindow.window D' ![b, 0, 0] S1x256x6912.size (inbC' hb) :=
    funext fun z => hD _ (by
      show b + 1 * (z 0).val = b
      have : (z 0).val < 1 := (z 0).isLt
      omega)
  have e2 : VecWindow.window T ![b, 0, 0] S1x256x1.size (inbT' hb) = VecWindow.window T' ![b, 0, 0] S1x256x1.size (inbT' hb) :=
    funext fun z => hT _ (by
      show b + 1 * (z 0).val = b
      have : (z 0).val < 1 := (z 0).isLt
      omega)
  unfold G6 oChunk
  rw [e1, e2]

variable (m : (ℓ : Loc nD τ sig) → Buf (Elt F) ℓ) (ρ : Dev nD → PrngReg)

/-! ## The blocks of the inputs -/

/-- The packed weights, the norm's weights and the weight scale, whole. -/
def packed (c : Dev nD) : Vec F S640x6912 .i8 := V m c main_arg3
def normw (c : Dev nD) : Vec F S1x6912 .f32 := V m c main_v0
def wscale (c : Dev nD) : Vec F S1 .f32 := V m c main_v1

theorem tile_lt (n : ℕ) (r : Fin 256) : min n 59 * 256 + r.val < 15360 := by have := r.isLt; omega

/-- Tile `n` of the rows that are quantised (the last one, from 59 on), and of the rows that are added. -/
def tileX (c : Dev nD) (n : ℕ) : Vec F S256x6912 .f32 := fun y =>
  (V m c main_arg0 : Vec F S15360x6912 .f32) (ix2 ⟨min n 59 * 256 + (y 0).val, tile_lt n (y 0)⟩ (y 1))
def tileH (c : Dev nD) (n : ℕ) : Vec F S256x2560 .f32 := fun y =>
  (V m c main_arg1 : Vec F S15360x2560 .f32) (ix2 ⟨min n 59 * 256 + (y 0).val, tile_lt n (y 0)⟩ (y 1))

/-- The grid's index maps. -/
theorem idx_facts : ∀ t : Fin cfg0.N, win0_1.index t (0 : Fin 2) = min t.val 59 ∧ win0_1.index t (1 : Fin 2) = 0
    ∧ win0_2.index t (0 : Fin 2) = min (t.val - 1) 59 ∧ win0_2.index t (1 : Fin 2) = 0
    ∧ win0_5.index t (0 : Fin 2) = min (t.val - 1) 59 ∧ win0_5.index t (1 : Fin 2) = 0
    ∧ win0_6.index t (0 : Fin 2) = min t.val 59 ∧ win0_6.index t (1 : Fin 2) = 0
    ∧ win0_7.index t (0 : Fin 2) = min t.val 59 ∧ win0_7.index t (1 : Fin 2) = 0 :=
  (by decide +kernel : ∀ t : Fin grid0.N, _)

theorem iblk0_eq (c : Dev nD) (t : Fin cfg0.N) : (iblk m c 0 t : Vec F S1 .f32) = wscale m c := by
  funext y
  show V m c main_v1 (((cfg0.win 0).blk t).view.emb y) = V m c main_v1 y
  congr 1
  funext a; apply Fin.ext
  match a with
  | ⟨0, _⟩ => show 0 * 1 + 1 * (y 0).val = (y 0).val; omega

theorem iblk1_eq (c : Dev nD) (t : Fin cfg0.N) : (iblk m c 1 t : Vec F S256x6912 .f32) = tileX m c t.val := by
  obtain ⟨e0, e1, -⟩ := idx_facts t
  funext y
  show V m c main_arg0 (((cfg0.win 1).blk t).view.emb y) = V m c main_arg0 _
  congr 1
  funext a; apply Fin.ext
  match a with
  | ⟨0, _⟩ => show win0_1.index t (0 : Fin 2) * 256 + 1 * (y 0).val = min t.val 59 * 256 + (y 0).val; omega
  | ⟨1, _⟩ => show win0_1.index t (1 : Fin 2) * 6912 + 1 * (y 1).val = (y 1).val; omega

theorem iblk2_eq (c : Dev nD) (t : Fin cfg0.N) : (iblk m c 2 t : Vec F S256x2560 .f32) = tileH m c (t.val - 1) := by
  obtain ⟨-, -, e0, e1, -⟩ := idx_facts t
  funext y
  show V m c main_arg1 (((cfg0.win 2).blk t).view.emb y) = V m c main_arg1 _
  congr 1
  funext a; apply Fin.ext
  match a with
  | ⟨0, _⟩ => show win0_2.index t (0 : Fin 2) * 256 + 1 * (y 0).val = min (t.val - 1) 59 * 256 + (y 0).val; omega
  | ⟨1, _⟩ => show win0_2.index t (1 : Fin 2) * 2560 + 1 * (y 1).val = (y 1).val; omega

theorem iblk3_eq (c : Dev nD) (t : Fin cfg0.N) : (iblk m c 3 t : Vec F S1x6912 .f32) = normw m c := by
  funext y
  show V m c main_v0 (((cfg0.win 3).blk t).view.emb y) = V m c main_v0 y
  congr 1
  funext a; apply Fin.ext
  match a with
  | ⟨0, _⟩ => show 0 * 1 + 1 * (y 0).val = (y 0).val; omega
  | ⟨1, _⟩ => show 0 * 6912 + 1 * (y 1).val = (y 1).val; omega

theorem iblk4_eq (c : Dev nD) (t : Fin cfg0.N) : (iblk m c 4 t : Vec F S640x6912 .i8) = packed m c := by
  funext y
  show V m c main_arg3 (((cfg0.win 4).blk t).view.emb y) = V m c main_arg3 y
  congr 1
  funext a; apply Fin.ext
  match a with
  | ⟨0, _⟩ => show 0 * 640 + 1 * (y 0).val = (y 0).val; omega
  | ⟨1, _⟩ => show 0 * 6912 + 1 * (y 1).val = (y 1).val; omega

/-! ## The proof data -/

/-- What the scratch buffers hold when `n` grid points are done: from the first point on, the unpacked weights, and in
    the slot of the last point the codes and scales of its tile. -/
def held (c : Dev nD) (n : ℕ) : sProp 𝕄 :=
  iprop(iprop((∃ d, ⌜0 < n → d = wfull (packed m c)⌝ ∗ owns (c : Thread nD τ) scW fullShare d)
    ∗ (∃ d, ⌜0 < n → ∀ y, (y 0).val = (n - 1) % 2 → d y = C10 (tileX m c (n - 1)) (normw m c) y⌝ ∗ owns (c : Thread nD τ) scC fullShare d)
    ∗ (∃ d, ⌜0 < n → ∀ y, (y 0).val = (n - 1) % 2 → d y = C11 (tileX m c (n - 1)) (normw m c) y⌝ ∗ owns (c : Thread nD τ) scS fullShare d)) ∗ (∃ r, prngReg c r))

/-- The output's block of the tile before point `n`. -/
def blockO (c : Dev nD) (n : ℕ) : Vec F S256x2560 .bf16 :=
  G6 0 (by decide) (wscale m c) (tileH m c (n - 1)) (wfull (packed m c)) (C10 (tileX m c (n - 1)) (normw m c)) (C11 (tileX m c (n - 1)) (normw m c))

/-- In which slot the codes and scales lie makes no difference. -/
theorem blockO_slot (c : Dev nD) (n b : ℕ) (hb : b < 2) :
    G6 b hb (wscale m c) (tileH m c (n - 1)) (wfull (packed m c)) (C10 (tileX m c (n - 1)) (normw m c)) (C11 (tileX m c (n - 1)) (normw m c)) = blockO m c n := by
  have e : ∀ b (hb : b < 2), (VecWindow.window (C10 (F := F) (tileX m c (n - 1)) (normw m c)) ![b, 0, 0] S1x256x6912.size (inbC' hb)
      = VecWindow.window (C10 (F := F) (tileX m c (n - 1)) (normw m c)) ![0, 0, 0] S1x256x6912.size (inbC' (by decide : 0 < 2))) := fun b hb => rfl
  have e' : ∀ b (hb : b < 2), (VecWindow.window (C11 (F := F) (tileX m c (n - 1)) (normw m c)) ![b, 0, 0] S1x256x1.size (inbT' hb)
      = VecWindow.window (C11 (F := F) (tileX m c (n - 1)) (normw m c)) ![0, 0, 0] S1x256x1.size (inbT' (by decide : 0 < 2))) := fun b hb => rfl
  unfold blockO G6 oChunk
  rw [e b hb, e' b hb]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockO m c t.val
    | ⟨6, _⟩ => G7 (tileX m c t.val) (normw m c)
    | ⟨7, _⟩ => G8 (tileX m c t.val) (normw m c)
  Φ t := held m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = blockO m c t.val := by dsimp only [dats]
theorem after0_6 (c : Dev nD) (t : Fin cfg0.N) : (dats m 0 c).after 6 t = G7 (tileX m c t.val) (normw m c) := by dsimp only [dats]
theorem after0_7 (c : Dev nD) (t : Fin cfg0.N) : (dats m 0 c).after 7 t = G8 (tileX m c t.val) (normw m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t
    ∗ (dats m 0 c).leavesExact 6 t
    ∗ (dats m 0 c).leavesExact 7 t)

/-- The output's buffer is left alone at the first point, -/
theorem post5_first (c : Dev nD) (t : Fin cfg0.N) (h : t.val = 0) :
    (dats m 0 c).leavesExact 5 t = iprop(∃ d, owns (c : Thread nD τ) (ms5 t) fullShare d) := by
  have hi : cfg0.idle 5 (cfg0.grid.coords t) = true := by
    show (!(k0_cond2 (grid0.coords t) == 1#1)) = true
    have : ¬ k0_cond2 (grid0.coords t) = 1#1 := fun e => by have := (hcond2 t).mp e; omega
    simpa using this
  have hf : (cfg0.win 5).flush t = false := by
    obtain rfl : t = ⟨0, by rw [show cfg0.N = 61 from N_0]; decide⟩ := Fin.ext h
    decide +kernel
  have hb : ∀ d, (dats m 0 c).before 5 t d = d := fun d => by
    unfold Dat.before
    rw [if_neg (by
      obtain rfl : t = ⟨0, by rw [show cfg0.N = 61 from N_0]; decide⟩ := Fin.ext h
      decide +kernel), if_pos h]
  rw [Dat.leavesExact_idle (dats m 0 c) 5 t hi hf]
  simp only [hb]
  rfl

/-- and written at every later one. -/
theorem post5_later (c : Dev nD) (t : Fin cfg0.N) (h : 0 < t.val) :
    (dats m 0 c).leavesExact 5 t = owns (c : Thread nD τ) (ms5 t) fullShare (blockO m c t.val) := by
  have hi : cfg0.idle 5 (cfg0.grid.coords t) = false := by
    show (!(k0_cond2 (grid0.coords t) == 1#1)) = false
    have := (hcond2 t).mpr h
    simpa using this
  unfold Dat.leavesExact
  rw [hi, after0_5]

theorem idle_false (t : Fin cfg0.N) : (!(k0_cond1 (grid0.coords t) == 1#1) && !(k0_cond2 (grid0.coords t) == 1#1)) = false := by
  by_cases h : t.val = 0
  · simp [(hcond1 t).mpr h]
  · simp [(hcond2 t).mpr (Nat.pos_of_ne_zero h)]

theorem post6 (c : Dev nD) (t : Fin cfg0.N) : (dats m 0 c).leavesExact 6 t = owns (c : Thread nD τ) (ms6 t) fullShare (G7 (tileX m c t.val) (normw m c)) := by
  have hi : cfg0.idle 6 (cfg0.grid.coords t) = false := idle_false t
  unfold Dat.leavesExact
  rw [hi, after0_6]

theorem post7 (c : Dev nD) (t : Fin cfg0.N) : (dats m 0 c).leavesExact 7 t = owns (c : Thread nD τ) (ms7 t) fullShare (G8 (tileX m c t.val) (normw m c)) := by
  have hi : cfg0.idle 7 (cfg0.grid.coords t) = false := idle_false t
  unfold Dat.leavesExact
  rw [hi, after0_7]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, post6, post7]
  rw [show (dats m 0 c).Φ t.castSucc = held m c t.val from rfl, show (dats m 0 c).Φ t.succ = held m c (t.val + 1) from rfl]
  rw [iblk0_eq, iblk1_eq, iblk2_eq, iblk3_eq, iblk4_eq]
  unfold held
  have hN : t.val < 61 := lt_of_lt_of_eq t.isLt (show cfg0.N = 61 from N_0)
  have hsN : slotN (grid0.coords t) = t.val % 2 := by rw [slotN_eq, coord0]
  have hsP : slotP (grid0.coords t) = 1 - t.val % 2 := by rw [slotP_eq, coord0]
  by_cases h0 : t.val = 0
  · rw [post5_first m c t h0]
    iintro ⟨⟨⟨⟨%dw, -, HW⟩, ⟨%D, -, HC⟩, ⟨%T, -, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first_run c (grid0.coords t) _ _ _ _ _ _ _ _ _ _ _ _ _ _ _ _ scW _ scC _ scS _ ((hcond1 t).mpr h0) (fun e => absurd ((hcond2 t).mp e) (by omega))
      (wscale m c) (tileX m c t.val) (tileH m c (t.val - 1)) (normw m c) (packed m c) D T Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HW]; · iexists _; iexact HW
    isplitl [HC]; · iexact HC
    isplitl [HS]; · iexact HS
    iintro ⟨H0, H1, H2, H3, H4, H5, H6, H7, HW, HC, HS⟩
    isplitl [HW HC HS Hg]
    · isplitl [HW HC HS]
      · isplitl [HW]
        · iexists _; isplitr; swap; · iexact HW
          ipureintro; intro _; rfl
        isplitl [HC]
        · iexists _; isplitr; swap; · iexact HC
          ipureintro; intro _ y hy; rw [Nat.add_sub_cancel] at hy ⊢
          exact if_pos (hy.trans hsN.symm)
        iexists _; isplitr; swap; · iexact HS
        ipureintro; intro _ y hy; rw [Nat.add_sub_cancel] at hy ⊢
        exact if_pos (hy.trans hsN.symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hpos : 0 < t.val := Nat.pos_of_ne_zero h0
    have hq : (t.val - 1) % 2 = slotP (grid0.coords t) := by rw [hsP]; omega
    rw [post5_later m c t hpos]
    iintro ⟨⟨⟨⟨%dw, %hw, HW⟩, ⟨%D, %hD, HC⟩, ⟨%T, %hT, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hw' := hw hpos
    subst hw'
    have hD' := hD hpos
    have hT' := hT hpos
    rw [hq] at hD' hT'
    have e6 := (G6_slot (slotP (grid0.coords t)) (slotP_lt _) (wscale m c) (tileH m c (t.val - 1)) (wfull (packed m c)) D _ T _ hD' hT').trans
      (blockO_slot m c t.val _ (slotP_lt (grid0.coords t)))
    rw [← e6]
    iapply (second_run c (grid0.coords t) _ _ _ _ _ _ _ _ _ _ _ _ _ _ _ _ scW _ scC _ scS _ (fun e => absurd ((hcond1 t).mp e) h0) ((hcond2 t).mpr hpos) (slotP_lt _)
      (wscale m c) (tileX m c t.val) (tileH m c (t.val - 1)) (normw m c) (packed m c) (wfull (packed m c)) D T Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HW]; · iexact HW
    isplitl [HC]; · iexact HC
    isplitl [HS]; · iexact HS
    iintro ⟨H0, H1, H2, H3, H4, H5, H6, H7, HW, HC, HS⟩
    isplitl [HW HC HS Hg]
    · isplitl [HW HC HS]
      · isplitl [HW]
        · iexists _; isplitr; swap; · iexact HW
          ipureintro; intro _; rfl
        isplitl [HC]
        · iexists _; isplitr; swap; · iexact HC
          ipureintro; intro _ y hy; rw [Nat.add_sub_cancel] at hy ⊢
          exact if_pos (hy.trans hsN.symm)
        iexists _; isplitr; swap; · iexact HS
        ipureintro; intro _ y hy; rw [Nat.add_sub_cancel] at hy ⊢
        exact if_pos (hy.trans hsN.symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem held_in (c : Dev nD) : (Pipeline.ΦA spec0 c : sProp 𝕄) ⊢ held m c 0 := by
  rw [PhiA_eq]; unfold held
  iintro ⟨⟨⟨%d, H0⟩, ⟨%e, H1⟩, ⟨%f, H2⟩⟩, Hg⟩
  isplitl [H0 H1 H2]
  · isplitl [H0]
    · iexists _; isplitr; swap; · iexact H0
      ipureintro; intro h; exact absurd h (Nat.lt_irrefl 0)
    isplitl [H1]
    · iexists _; isplitr; swap; · iexact H1
      ipureintro; intro h; exact absurd h (Nat.lt_irrefl 0)
    iexists _; isplitr; swap; · iexact H2
    ipureintro; intro h; exact absurd h (Nat.lt_irrefl 0)
  iexact Hg

theorem held_out (c : Dev nD) (n : ℕ) : held m c n ⊢ (Pipeline.ΦA spec0 c : sProp 𝕄) := by
  rw [PhiA_eq]; unfold held
  iintro ⟨⟨⟨%d, -, H0⟩, ⟨%e, -, H1⟩, ⟨%f, -, H2⟩⟩, Hg⟩
  isplitl [H0 H1 H2]
  · isplitl [H0]
    · iexists _; iexact H0
    isplitl [H1]
    · iexists _; iexact H1
    iexists _; iexact H2
  iexact Hg

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => held_in m c) (hout := fun c => held_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and no semaphore is left pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.DownIdeal.Hand
-- ==== Proof.Quant.lean ====
/-
  One row of the down layer's quantiser, over the reals, written once for the kernel and the reference: the row divided by its root mean square and
  times the norm's weights, the scale by its largest absolute value, the codes rounded and clipped; and the sums and maxima of nine chunks.
-/
module

public import Idealize.ShloMosaic.PureOps.Ideal.Laws
public import Idealize.ShloMosaic.Lib.IdealHost
public import Idealize.ShloMosaic.Lib.Tactic

@[expose] public section

set_option maxRecDepth 16384

noncomputable section

namespace Cert.Quant

open Idealize.ShloMosaic
open scoped BigOperators

/-! ## The row's scale and codes -/

/-- The root mean square of a row. -/
def rms (v : Fin 6912 → EReal) : EReal :=
  Ideal.sqrt (Ideal.div (∑ k, v k * v k) (Ideal.ofBits .f32 0x45D80000#32) + Ideal.ofBits .f32 0x3727C5AC#32)

/-- The normalised row. -/
def normed (v g : Fin 6912 → EReal) (k : Fin 6912) : EReal := Ideal.div (v k) (rms v) * g k

/-- Its largest absolute value. -/
def amax (v g : Fin 6912 → EReal) : EReal :=
  Finset.univ.fold max (Ideal.ofBits .f32 0xFF800000#32) fun k => max (normed v g k) (-(normed v g k))

/-- The scale: the largest absolute value by 127, and 1 of a row that is 0. -/
def scale (v g : Fin 6912 → EReal) : EReal :=
  Scalar.select (Ideal.cmp .oeq (amax v g) (Ideal.ofBits .f32 0x00000000#32)) (Ideal.ofBits .f32 0x3F800000#32)
    (Ideal.div (amax v g) (Ideal.ofBits .f32 0x42FE0000#32))

/-- A value rounded to an integer and clipped to [-127, 127]. -/
def clip (x : EReal) : EReal :=
  min (((127#32 : BitVec 32).toInt : ℝ) : EReal) (max (((4294967169#32 : BitVec 32).toInt : ℝ) : EReal) (Ideal.liftRound Ideal.roundHalfEven x))

/-- The code, as a real number. -/
def code (v g : Fin 6912 → EReal) (k : Fin 6912) : EReal := clip (Ideal.div (normed v g k) (scale v g))

/-! ## Dividing, and multiplying by the reciprocal -/

theorem mul_div_one {x y : EReal} (h : y ≠ 0) : x * Ideal.div 1 y = Ideal.div x y := by
  unfold Ideal.div
  rw [if_neg h, if_neg h, one_mul]

theorem ofBits_6912 : Ideal.ofBits .f32 0x45D80000#32 = ((6912 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

theorem ofBits_eps : Ideal.ofBits .f32 0x3727C5AC#32 = ((10995116 / 2 ^ 40 : ℝ) : EReal) := by
  simp [Ideal.ofBits, Ideal.ieee, -EReal.coe_mul]; norm_num

theorem sqrt_ne_zero {y : EReal} (h : 0 < y) : Ideal.sqrt y ≠ 0 := by
  induction y using EReal.rec with
  | bot => exact absurd h (by simp)
  | top => exact EReal.top_ne_zero
  | coe r =>
    have hr : 0 < r := by exact_mod_cast h
    show (if r < 0 then (⊥ : EReal) else (Real.sqrt r : EReal)) ≠ 0
    rw [if_neg (not_lt.mpr hr.le)]
    exact_mod_cast (Real.sqrt_pos.mpr hr).ne'

theorem square_nonneg (x : EReal) : 0 ≤ x * x := by
  rcases le_total 0 x with h | h
  · exact mul_nonneg h h
  · rw [← neg_mul_neg]
    exact mul_nonneg (EReal.neg_nonneg.mpr h) (EReal.neg_nonneg.mpr h)

theorem rms_ne_zero (v : Fin 6912 → EReal) : rms v ≠ 0 := by
  refine sqrt_ne_zero ?_
  have h1 : 0 ≤ Ideal.div (∑ k, v k * v k) (Ideal.ofBits .f32 0x45D80000#32) := by
    rw [ofBits_6912]
    unfold Ideal.div
    rw [if_neg (by norm_num)]
    refine mul_nonneg (Finset.sum_nonneg fun k _ => square_nonneg _) ?_
    rw [← EReal.coe_inv]
    exact_mod_cast (by norm_num : (0 : ℝ) ≤ 6912⁻¹)
  refine lt_of_lt_of_le ?_ (le_add_of_nonneg_left h1)
  rw [ofBits_eps]
  exact_mod_cast (by norm_num : (0 : ℝ) < 10995116 / 2 ^ 40)

theorem scale_ne_zero (v g : Fin 6912 → EReal) : scale v g ≠ 0 := by
  unfold scale Scalar.select
  split
  · rw [Ideal.ofBits_one_f32]; exact one_ne_zero
  · rename_i h
    have h0 : amax v g ≠ 0 := fun h' => h (by
      show BitVec.ofBool (decide (amax v g = Ideal.ofBits .f32 0x00000000#32)) = 1
      rw [h', Ideal.ofBits_zero_f32, decide_eq_true rfl]; rfl)
    rw [ofBits_127]
    unfold Ideal.div
    rw [if_neg (by norm_num), ← EReal.coe_inv]
    exact mul_ne_zero h0 (by exact_mod_cast (by norm_num : (127 : ℝ)⁻¹ ≠ 0))

/-! ## The codes are integers of eight bits -/

theorem clip_int (x : EReal) : ∃ z : ℤ, -127 ≤ z ∧ z ≤ 127 ∧ clip x = ((z : ℝ) : EReal) := by
  have hi : (127#32 : BitVec 32).toInt = 127 := by decide
  have lo : (4294967169#32 : BitVec 32).toInt = -127 := by decide
  unfold clip
  rw [hi, lo]
  induction x using EReal.rec with
  | bot =>
    refine ⟨-127, by norm_num, by norm_num, ?_⟩
    show min _ (max _ (⊥ : EReal)) = _
    rw [max_eq_left bot_le, min_eq_right]
    exact_mod_cast (by norm_num : (-127 : ℝ) ≤ 127)
  | top =>
    refine ⟨127, by norm_num, by norm_num, ?_⟩
    show min _ (max _ (⊤ : EReal)) = _
    rw [max_eq_right le_top, min_eq_left le_top]
  | coe r =>
    refine ⟨min 127 (max (-127) (Ideal.roundHalfEven r)), by omega, by omega, ?_⟩
    show min (((127 : ℤ) : ℝ) : EReal) (max (((-127 : ℤ) : ℝ) : EReal) (((Ideal.roundHalfEven r : ℤ) : ℝ) : EReal)) = _
    rw [Int.cast_min, Int.cast_max, EReal.coe_strictMono.monotone.map_min, EReal.coe_strictMono.monotone.map_max]

theorem byte (n : Fin 255) : (BitVec.ofInt 32 ((n.val : ℤ) - 127)).setWidth 8 = BitVec.ofInt 8 ((n.val : ℤ) - 127)
    ∧ (BitVec.ofInt 8 ((n.val : ℤ) - 127)).toInt = (n.val : ℤ) - 127 := by
  revert n; decide

theorem byte_of (z : ℤ) (h1 : -127 ≤ z) (h2 : z ≤ 127) : (BitVec.ofInt 32 z).setWidth 8 = BitVec.ofInt 8 z ∧ (BitVec.ofInt 8 z).toInt = z := by
  have h := byte ⟨(z + 127).toNat, by omega⟩
  have e : (((z + 127).toNat : ℕ) : ℤ) - 127 = z := by omega
  simp only [e] at h
  exact h

theorem fptosi_int {w : ℕ} (z : ℤ) (h1 : -(2 ^ (w - 1) : ℕ) ≤ z) (h2 : z ≤ ((2 ^ (w - 1) : ℕ) : ℤ) - 1) : Ideal.fptosi w ((z : ℝ) : EReal) = BitVec.ofInt w z := by
  show BitVec.ofInt w (max _ (min _ (if 0 ≤ (z : ℝ) then ⌊(z : ℝ)⌋ else ⌈(z : ℝ)⌉))) = _
  rw [Int.floor_intCast, Int.ceil_intCast, ite_self, min_eq_right h2, max_eq_right h1]

/-- A code read as 32 bits and truncated is the code read as eight bits. -/
theorem fptosi_clip (x : EReal) : (Ideal.fptosi 32 (clip x)).setWidth 8 = Ideal.fptosi 8 (clip x) := by
  obtain ⟨z, h1, h2, h⟩ := clip_int x
  rw [h, fptosi_int z (by norm_num; omega) (by norm_num; omega), fptosi_int z (by norm_num; omega) (by norm_num; omega)]
  exact (byte_of z h1 h2).1

/-- The eight bits' value is the code. -/
theorem toInt_clip (x : EReal) : (((Ideal.fptosi 8 (clip x)).toInt : ℝ) : EReal) = clip x := by
  obtain ⟨z, h1, h2, h⟩ := clip_int x
  rw [h, fptosi_int z (by norm_num; omega) (by norm_num; omega), (byte_of z h1 h2).2]

/-! ## Nine chunks -/

/-- Column `l` of chunk `j`. -/
def at9 (j : Fin 9) (l : Fin 768) : Fin 6912 := ⟨768 * j.val + l.val, by have := j.isLt; have := l.isLt; omega⟩

/-- The sum over the columns is the sum of the nine chunks' sums, chunk after chunk. -/
theorem sum_nine (f : Fin 6912 → EReal) (s : Fin 9 → EReal) (h : ∀ j, s j = ∑ l, f (at9 j l)) :
    s 0 + s 1 + s 2 + s 3 + s 4 + s 5 + s 6 + s 7 + s 8 = ∑ k, f k := by
  have e : ∑ k, f k = ∑ p : Fin 9 × Fin 768, f (at9 p.1 p.2) := by
    refine (Fintype.sum_equiv (finProdFinEquiv (m := 9) (n := 768)) _ _ fun p => ?_).symm
    refine congrArg f (Fin.ext ?_)
    show 768 * p.1.val + p.2.val = p.2.val + 768 * p.1.val
    omega
  rw [e, Fintype.sum_prod_type, Fin.sum_univ_castSucc, Fin.sum_univ_eight]
  simp only [h]
  rfl

/-- The maximum over the columns is the maximum of the nine chunks' maxima, chunk after chunk. -/
theorem max_nine (b : EReal) (f : Fin 6912 → EReal) (s : Fin 9 → EReal) (h : ∀ j, s j = Finset.univ.fold max b fun l => f (at9 j l)) :
    max (max (max (max (max (max (max (max (s 0) (s 1)) (s 2)) (s 3)) (s 4)) (s 5)) (s 6)) (s 7)) (s 8) = Finset.univ.fold max b f := by
  refine eq_of_forall_ge_iff fun c => ?_
  have hs : ∀ j, s j ≤ c ↔ b ≤ c ∧ ∀ l, f (at9 j l) ≤ c := fun j => by
    rw [h j, Finset.fold_max_le]
    simp
  simp only [max_le_iff, hs, Finset.fold_max_le]
  constructor
  · rintro ⟨⟨⟨⟨⟨⟨⟨⟨h0, h1⟩, h2⟩, h3⟩, h4⟩, h5⟩, h6⟩, h7⟩, h8⟩
    refine ⟨h0.1, fun k _ => ?_⟩
    have hk : k = at9 ⟨k.val / 768, by have := k.isLt; omega⟩ ⟨k.val % 768, Nat.mod_lt _ (by decide)⟩ := Fin.ext (by
      show k.val = 768 * (k.val / 768) + k.val % 768
      omega)
    rw [hk]
    generalize (⟨k.val / 768, _⟩ : Fin 9) = j
    fin_cases j
    exacts [h0.2 _, h1.2 _, h2.2 _, h3.2 _, h4.2 _, h5.2 _, h6.2 _, h7.2 _, h8.2 _]
  · rintro ⟨hb, hf⟩
    exact ⟨⟨⟨⟨⟨⟨⟨⟨⟨hb, fun l => hf _ (Finset.mem_univ _)⟩, ⟨hb, fun l => hf _ (Finset.mem_univ _)⟩⟩, ⟨hb, fun l => hf _ (Finset.mem_univ _)⟩⟩, ⟨hb, fun l => hf _ (Finset.mem_univ _)⟩⟩,
      ⟨hb, fun l => hf _ (Finset.mem_univ _)⟩⟩, ⟨hb, fun l => hf _ (Finset.mem_univ _)⟩⟩, ⟨hb, fun l => hf _ (Finset.mem_univ _)⟩⟩, ⟨hb, fun l => hf _ (Finset.mem_univ _)⟩⟩, ⟨hb, fun l => hf _ (Finset.mem_univ _)⟩⟩

end Cert.Quant
-- ==== Proof.DownTile.lean ====
/-
  The down kernel's arithmetic over the reals: the scales and the codes of a tile are the quantiser's of its rows, and an output block is the scaled
  product of the codes with the unpacked weight, added to the other argument.
-/
module

public import proofs.«01_k».proof.Proof.DownState
public import proofs.«01_k».proof.Proof.Product
public import proofs.«01_k».proof.Proof.Quant

@[expose] public section

set_option maxRecDepth 16384

noncomputable section

namespace Cert.DownIdeal.Hand

open Idealize.ShloMosaic Idealize.ShloMosaic.TcCoe Idealize.ShloMosaic.ValueIdx
open Cert.DownIdeal.Gen Cert.Ternary Cert.Quant
open scoped BigOperators

/-! ## The chunks of a row -/

/-- Row `r` of the piece `p`. -/
def rowAt (p : Fin 8) (r : Fin 32) : Fin 256 := ⟨32 * p.val + r.val, by have := p.isLt; have := r.isLt; omega⟩

/-- A tile's row, and the norm's weights. -/
def rowT (x : Vec Ideal S256x6912 .f32) (r : Fin 256) (k : Fin 6912) : EReal := x (ix2 r k)
def colT (g : Vec Ideal S1x6912 .f32) (k : Fin 6912) : EReal := g (ix2 (0 : Fin 1) k)

theorem rowAt_pOf (r : Fin 256) : rowAt (pOf r) (rOf r) = r := Fin.ext (by show 32 * (r.val / 32) + r.val % 32 = r.val; omega)
theorem at9_jOf (k : Fin 6912) : at9 (jOf k) (lOf k) = k := Fin.ext (by show 768 * (k.val / 768) + k.val % 768 = k.val; omega)

section Piece

variable (x : Vec Ideal S256x6912 .f32) (g : Vec Ideal S1x6912 .f32) (p : Fin 8) (r : Fin 32)

theorem rowsOf_ix2 (j : Fin 9) (l : Fin 768) : rowsOf (F := Ideal) x p j (ix2 r l) = rowT x (rowAt p r) (at9 j l) := by
  show x _ = x _
  congr 1
  funext a; apply Fin.ext
  match a with
  | ⟨0, _⟩ => show 32 * p.val + 1 * r.val = 32 * p.val + r.val; omega
  | ⟨1, _⟩ => show 768 * j.val + 1 * l.val = 768 * j.val + l.val; omega

theorem colsOf_ix2 (j : Fin 9) (l : Fin 768) : colsOf (F := Ideal) g j (ix2 (0 : Fin 1) l) = colT g (at9 j l) := by
  show g _ = g _
  congr 1
  funext a; apply Fin.ext
  match a with
  | ⟨0, _⟩ => show 0 + 1 * 0 = 0; omega
  | ⟨1, _⟩ => show 768 * j.val + 1 * l.val = 768 * j.val + l.val; omega

/-- A column of row values, from a vector of them. -/
theorem column_ix2 (y : FVec Ideal S32 .f32) : shapeCast S32x1 y shapeCasts_S32_S32x1 (ix2 r (0 : Fin 1)) = y (ix1 r) :=
  shapeCast_apply y shapeCasts_S32_S32x1 (ix2 r (0 : Fin 1)) (ix1 r) (by
    rw [Shape.rowMajor_val_two, Shape.rowMajor_val_one]
    show r.val = r.val * 1 + 0
    omega)

theorem lift_ix1 (l : Fin 768) : reduces_S32x768_S32.lift (ix1 r) l = (ix2 r l : S32x768.Idx) := by
  funext a
  match a with
  | ⟨0, _⟩ => rfl
  | ⟨1, _⟩ => rfl

theorem sqOf_ix2 (v : Vec Ideal S32x768 .f32) : sqOf (F := Ideal) v (ix2 r (0 : Fin 1)) = ∑ l : Fin 768, v (ix2 r l) * v (ix2 r l) := by
  unfold sqOf
  rw [column_ix2]
  refine (Ideal.multiReduction_add_single _ _ reduces_S32x768_S32 _ _ (ix1 r)).trans ?_
  exact Finset.sum_congr rfl fun l _ => congrArg (fun i => v i * v i) (lift_ix1 r l)

theorem maxOf_ix2 (n : FVec Ideal S32x768 .f32) : maxOf (F := Ideal) n (ix2 r (0 : Fin 1))
    = Finset.univ.fold max (Ideal.ofBits .f32 0xFF800000#32) fun l : Fin 768 => max (n (ix2 r l)) (-(n (ix2 r l))) := by
  unfold maxOf
  rw [column_ix2]
  refine (Ideal.multiReduction_maximumf_single _ _ reduces_S32x768_S32 _ _ (ix1 r)).trans ?_
  have e : (absf n ∘ reduces_S32x768_S32.lift (ix1 r) : Fin 768 → EReal) = fun l => max (n (ix2 r l)) (-(n (ix2 r l))) := by
    funext l
    show absf n (reduces_S32x768_S32.lift (ix1 r) l) = _
    rw [lift_ix1]
    rfl
  exact congrArg (Finset.univ.fold max (Ideal.ofBits .f32 0xFF800000#32)) e

theorem ssOf_ix2 : ssOf (F := Ideal) (rowsOf x p) (ix2 r (0 : Fin 1)) = ∑ k, rowT x (rowAt p r) k * rowT x (rowAt p r) k :=
  sum_nine (fun k => rowT x (rowAt p r) k * rowT x (rowAt p r) k) (fun j => sqOf (F := Ideal) (rowsOf x p j) (ix2 r (0 : Fin 1))) fun j => by
    rw [sqOf_ix2]
    simp only [rowsOf_ix2]

theorem rinvOf_ix2 : rinvOf (F := Ideal) (ssOf (rowsOf x p)) (ix2 r (0 : Fin 1)) = Ideal.div 1 (rms (rowT x (rowAt p r))) := by
  show Ideal.div (Ideal.ofBits .f32 0x3F800000#32) (Ideal.sqrt (Ideal.div (ssOf (F := Ideal) (rowsOf x p) (ix2 r (0 : Fin 1))) (Ideal.ofBits .f32 0x45D80000#32) + Ideal.ofBits .f32 0x3727C5AC#32)) = _
  rw [ssOf_ix2, Ideal.ofBits_one_f32]
  rfl

theorem normOf_ix2 (j : Fin 9) (l : Fin 768) : normOf (F := Ideal) (rinvOf (ssOf (rowsOf x p))) (rowsOf x p j) (colsOf g j) (ix2 r l)
    = normed (rowT x (rowAt p r)) (colT g) (at9 j l) := by
  show rowsOf (F := Ideal) x p j (ix2 r l) * broadcastTo S32x768 (rinvOf (F := Ideal) (ssOf (rowsOf x p))) broadcasts_S32x1_S32x768 (ix2 r l)
    * broadcastTo S32x768 (shapeCast S1x768 (colsOf (F := Ideal) g j) shapeCasts_S1x768_S1x768) broadcasts_S1x768_S32x768 (ix2 r l) = _
  rw [broadcastTo_col (a := 32) (b := 768) (by decide), broadcastTo_1b_ab_apply (a := 32) (b := 768), rinvOf_ix2, rowsOf_ix2, mul_div_one (rms_ne_zero _)]
  rw [shapeCast_apply (colsOf (F := Ideal) g j) shapeCasts_S1x768_S1x768 (ix2 (0 : Fin 1) l) (ix2 (0 : Fin 1) l) rfl, colsOf_ix2]
  rfl

theorem amOf_ix2 : amOf (F := Ideal) (rinvOf (ssOf (rowsOf x p))) (rowsOf x p) (colsOf g) (ix2 r (0 : Fin 1)) = amax (rowT x (rowAt p r)) (colT g) :=
  max_nine (Ideal.ofBits .f32 0xFF800000#32) (fun k => max (normed (rowT x (rowAt p r)) (colT g) k) (-(normed (rowT x (rowAt p r)) (colT g) k)))
    (fun j => maxOf (F := Ideal) (normOf (rinvOf (ssOf (rowsOf x p))) (rowsOf x p j) (colsOf g j)) (ix2 r (0 : Fin 1))) fun j => by
    rw [maxOf_ix2]
    simp only [normOf_ix2]

theorem scaleOf_apply (am : FVec Ideal S32x1 .f32) (i : S32x1.Idx) : scaleOf (F := Ideal) am i
    = Scalar.select (Ideal.cmp .oeq (am i) (Ideal.ofBits .f32 0x00000000#32)) (Ideal.ofBits .f32 0x3F800000#32) (Ideal.div (am i) (Ideal.ofBits .f32 0x42FE0000#32)) := rfl

theorem codeOf_ix2 (s : FVec Ideal S32x1 .f32) (n : FVec Ideal S32x768 .f32) (l : Fin 768) :
    codeOf (F := Ideal) s n (ix2 r l) = clip (n (ix2 r l) * Ideal.div 1 (s (ix2 r (0 : Fin 1)))) := by
  have hb : broadcastTo S32x768 (divf (broadcast S32x1 (Scalar.ofBits .f32 0x3F800000#32)) s) broadcasts_S32x1_S32x768 (ix2 r l)
      = Ideal.div (Ideal.ofBits .f32 0x3F800000#32) (s (ix2 r (0 : Fin 1))) :=
    broadcastTo_col (a := 32) (b := 768) (by decide) _ broadcasts_S32x1_S32x768 r l
  rw [← Ideal.ofBits_one_f32, ← hb]
  rfl

theorem pScale_ix2 : pScale (F := Ideal) x g p (ix2 r (0 : Fin 1)) = scale (rowT x (rowAt p r)) (colT g) := by
  unfold pScale
  rw [scaleOf_apply, amOf_ix2]
  rfl

theorem pCode_ix2 (j : Fin 9) (l : Fin 768) : pCode (F := Ideal) x g p j (ix2 r l) = code (rowT x (rowAt p r)) (colT g) (at9 j l) := by
  unfold pCode
  rw [codeOf_ix2, normOf_ix2, pScale_ix2, mul_div_one (scale_ne_zero _ _)]
  rfl

end Piece

/-! ## A tile -/

theorem tScale_eq (x : Vec Ideal S256x6912 .f32) (g : Vec Ideal S1x6912 .f32) (r : Fin 256) : tScale (F := Ideal) x g r = scale (rowT x r) (colT g) := by
  unfold tScale
  rw [pScale_ix2, rowAt_pOf]

theorem tCode_eq (x : Vec Ideal S256x6912 .f32) (g : Vec Ideal S1x6912 .f32) (r : Fin 256) (k : Fin 6912) :
    tCode (F := Ideal) x g r k = code (rowT x r) (colT g) k := by
  unfold tCode
  rw [pCode_ix2, rowAt_pOf, at9_jOf]

/-! ## An output block -/

/-- Row `r`, column `n` of the block. -/
theorem oChunk_ix2 (b : ℕ) (hb : b < 2) (ws : Vec Ideal S1 .f32) (h : Vec Ideal S256x2560 .f32) (W : Vec Ideal S2560x6912 .i8) (D : Vec Ideal S2x256x6912 .bf16)
    (T : Vec Ideal S2x256x1 .f32) (r : Fin 256) (n : Fin 2560) :
    G6 (F := Ideal) b hb ws h W D T (ix2 r n)
      = h (ix2 r n) + (∑ k : Fin 6912, D (ix3 (⟨b, hb⟩ : Fin 2) r k) * FloatOps.sitofp (F := Ideal) .bf16 (W (ix2 n k))) * T (ix3 (⟨b, hb⟩ : Fin 2) r (0 : Fin 1)) * ws (ix1 (0 : Fin 1)) := by
  have hn : 256 * (nOf n).val + (mOf n).val = n.val := Nat.div_add_mod n.val 256
  have e1 : VecWindow.window h ![0, 256 * (nOf n).val] S256x256.size (inbO (out_le (nOf n))) (ix2 r (mOf n)) = h (ix2 r n) := by
    show h _ = h _
    congr 1
    funext a; apply Fin.ext
    match a with
    | ⟨0, _⟩ => show 0 + 1 * r.val = r.val; omega
    | ⟨1, _⟩ => show 256 * (nOf n).val + 1 * (mOf n).val = n.val; omega
  have e2 : broadcastTo S256x256 (shapeCast S256x1 (VecWindow.window T ![b, 0, 0] S1x256x1.size (inbT' hb)) shapeCasts_S1x256x1_S256x1) broadcasts_S256x1_S256x256 (ix2 r (mOf n))
      = T (ix3 (⟨b, hb⟩ : Fin 2) r (0 : Fin 1)) := by
    rw [broadcastTo_col (a := 256) (b := 256) (by decide), shapeCast_1ab_ab_apply (a := 256) (b := 1)]
    show T _ = T _
    congr 1
    funext a; apply Fin.ext
    match a with
    | ⟨0, _⟩ => show b + 1 * 0 = b; omega
    | ⟨1, _⟩ => show 0 + 1 * r.val = r.val; omega
    | ⟨2, _⟩ => rfl
  have e3 : matmul dot_S256x6912_S256x6912_S256x256_1_1_0_0_n_n none
      (shapeCast S256x6912 (VecWindow.window D ![b, 0, 0] S1x256x6912.size (inbC' hb)) shapeCasts_S1x256x6912_S256x6912 : FVec Ideal S256x6912 .bf16)
      (sitofp (F := Ideal) .bf16 (VecWindow.window W ![256 * (nOf n).val, 0] S256x6912.size (inbW (out_le (nOf n)))))
      (constant S256x256 .f32 0x00000000#32) (ix2 r (mOf n))
        = ∑ k : Fin 6912, D (ix3 (⟨b, hb⟩ : Fin 2) r k) * FloatOps.sitofp (F := Ideal) .bf16 (W (ix2 n k)) := by
    refine (Ideal.matmul_transposedRhs_apply (M := 256) (K := 6912) (N := 256) none _ _ (constant S256x256 .f32 0x00000000#32) r (mOf n)).trans ?_
    show Ideal.ofBits .f32 0x00000000#32 + _ = _
    rw [Ideal.ofBits_zero_f32, zero_add]
    refine Finset.sum_congr rfl fun k _ => ?_
    rw [shapeCast_1ab_ab_apply (a := 256) (b := 6912)]
    congr 1
    · show D _ = D _
      congr 1
      funext a; apply Fin.ext
      match a with
      | ⟨0, _⟩ => show b + 1 * 0 = b; omega
      | ⟨1, _⟩ => show 0 + 1 * r.val = r.val; omega
      | ⟨2, _⟩ => show 0 + 1 * k.val = k.val; omega
    · show FloatOps.sitofp (F := Ideal) .bf16 (W _) = FloatOps.sitofp (F := Ideal) .bf16 (W _)
      congr 2
      funext a; apply Fin.ext
      match a with
      | ⟨0, _⟩ => show 256 * (nOf n).val + 1 * (mOf n).val = n.val; omega
      | ⟨1, _⟩ => show 0 + 1 * k.val = k.val; omega
  rw [← e1, ← e2, ← e3]
  rfl

end Cert.DownIdeal.Hand
-- ==== Proof.DownSpec.lean ====
/-
  The down layer's three results as functions of its arguments, over the reals, written once for the kernel and the reference.
-/
module

public import proofs.«01_k».proof.Proof.Product
public import proofs.«01_k».proof.Proof.Quant

@[expose] public section

set_option maxRecDepth 16384

noncomputable section

namespace Cert.DownSpec

open Idealize.ShloMosaic Idealize.ShloMosaic.ValueIdx
open Cert.Ternary Cert.Quant
open scoped BigOperators

/-- A row of the array that is quantised, and the norm's weights. -/
def rowA (x : FVec Ideal ⟨2, ![15360, 6912]⟩ .f32) (r : Fin 15360) (k : Fin 6912) : EReal := x (ix2 r k)
def colA (g : FVec Ideal ⟨1, ![6912]⟩ .f32) (k : Fin 6912) : EReal := g (ix1 k)

variable (x : FVec Ideal ⟨2, ![15360, 6912]⟩ .f32) (h : FVec Ideal ⟨2, ![15360, 2560]⟩ .f32) (g : FVec Ideal ⟨1, ![6912]⟩ .f32)
  (p : IVec ⟨2, ![640, 6912]⟩ 8) (w : EReal)

/-- The codes. -/
def codeAt (r : Fin 15360) (k : Fin 6912) : BitVec 8 := Ideal.fptosi 8 (code (rowA x r) (colA g) k)

/-- The scales. -/
def scaleAt (r : Fin 15360) : EReal := scale (rowA x r) (colA g)

/-- The layer's output: the codes' product with the unpacked weight, times the row's and the weight's scale, added to the other argument. -/
def outAt (r : Fin 15360) (n : Fin 2560) : EReal :=
  h (ix2 r n) + (∑ k : Fin 6912, code (rowA x r) (colA g) k * weight (R := 640) (by decide) p n.val k) * scaleAt x g r * w

end Cert.DownSpec
-- ==== Proof.DownValue.lean ====
/-
  What the down kernel leaves in its three result arrays, over the reals: the layer's output, and the codes and scales of the quantised rows.
-/
module

public import proofs.«01_k».proof.Proof.DownRun
public import proofs.«01_k».proof.Proof.DownTile
public import proofs.«01_k».proof.Proof.DownSpec

@[expose] public section

set_option maxRecDepth 16384

noncomputable section

namespace Cert.DownIdeal.Hand

open Idealize.ShloMosaic Idealize.ShloMosaic.TcCoe Idealize.ShloMosaic.ValueIdx
open Idealize.SL Idealize.SL.RA Idealize.SL.Sem
open Idealize.ShloMosaic.Pipeline (Dat Cfg Window cellOf)
open Cert.DownIdeal.Gen Cert.Ternary Cert.Quant Cert.DownSpec
open scoped BigOperators

variable (m : (ℓ : Loc nD τ sig) → Buf (Elt Ideal) ℓ) (ρ : Dev nD → PrngReg)

/-! ## The arguments -/

def argX (c : Dev nD) : FVec Ideal ⟨2, ![15360, 6912]⟩ .f32 := m ((c : Thread nD τ).loc main_arg0)
def argH (c : Dev nD) : FVec Ideal ⟨2, ![15360, 2560]⟩ .f32 := m ((c : Thread nD τ).loc main_arg1)
def argG (c : Dev nD) : FVec Ideal ⟨1, ![6912]⟩ .f32 := m ((c : Thread nD τ).loc main_arg2)
def argP (c : Dev nD) : IVec ⟨2, ![640, 6912]⟩ 8 := m ((c : Thread nD τ).loc main_arg3)
def argW (c : Dev nD) : EReal := m ((c : Thread nD τ).loc main_arg4) (fun a => a.elim0)

/-- The two arguments the host reshapes. -/
theorem V_norm (c : Dev nD) : V m c main_v0 = shapeCast S1x6912 (argG m c) shapeCasts_S6912_S1x6912 := by
  dsimp only [V, hostOps0]
  after_results_simp <;> rfl
theorem V_scale (c : Dev nD) : V m c main_v1 = shapeCast S1 (m ((c : Thread nD τ).loc main_arg4)) shapeCasts_S_S1 := by
  dsimp only [V, hostOps0]
  after_results_simp <;> rfl

theorem colT_eq (c : Dev nD) : colT (normw (F := Ideal) m c) = colA (argG m c) := by
  funext k
  show (V m c main_v0 : Vec Ideal S1x6912 .f32) (ix2 (0 : Fin 1) k) = argG m c (ix1 k)
  rw [V_norm]
  exact shapeCast_a_1a_apply (a := 6912) (argG m c) shapeCasts_S6912_S1x6912 0 k

theorem wscale_eq (c : Dev nD) : wscale (F := Ideal) m c (ix1 (0 : Fin 1)) = argW m c := by
  show (V m c main_v1 : Vec Ideal S1 .f32) (ix1 (0 : Fin 1)) = _
  rw [V_scale]
  exact shapeCast_apply _ shapeCasts_S_S1 (ix1 (0 : Fin 1)) (fun a => a.elim0) rfl

/-- The row of the array that row `r` of tile `n` is. -/
def rowOf (n : ℕ) (r : Fin 256) : Fin 15360 := ⟨min n 59 * 256 + r.val, tile_lt n r⟩

theorem rowT_eq (c : Dev nD) (n : ℕ) (r : Fin 256) : rowT (tileX (F := Ideal) m c n) r = rowA (argX m c) (rowOf n r) := by
  funext k
  show (V m c main_arg0 : Vec Ideal S15360x6912 .f32) (ix2 (rowOf n r) k) = _
  rw [V_main_arg0]
  rfl

/-! ## The blocks -/

theorem G7_ix2 (c : Dev nD) (n : ℕ) (r : Fin 256) (k : Fin 6912) :
    G7 (F := Ideal) (tileX m c n) (normw m c) (ix2 r k) = codeAt (argX m c) (argG m c) (rowOf n r) k := by
  have h : Ideal.fptosi 8 (tCode (F := Ideal) (tileX m c n) (normw m c) r k) = codeAt (argX m c) (argG m c) (rowOf n r) k := by
    rw [tCode_eq, rowT_eq, colT_eq]
    rfl
  exact h

theorem G8_ix2 (c : Dev nD) (n : ℕ) (r : Fin 256) :
    G8 (F := Ideal) (tileX m c n) (normw m c) (ix2 r (0 : Fin 1)) = scaleAt (argX m c) (argG m c) (rowOf n r) := by
  have h : tScale (F := Ideal) (tileX m c n) (normw m c) r = scaleAt (argX m c) (argG m c) (rowOf n r) := by
    rw [tScale_eq, rowT_eq, colT_eq]
    rfl
  exact h

theorem blockO_ix2 (c : Dev nD) (n : ℕ) (r : Fin 256) (q : Fin 2560) :
    blockO (F := Ideal) m c n (ix2 r q) = outAt (argX m c) (argH m c) (argG m c) (argP m c) (argW m c) (rowOf (n - 1) r) q := by
  unfold blockO
  rw [oChunk_ix2, wscale_eq]
  have e1 : tileH (F := Ideal) m c (n - 1) (ix2 r q) = argH m c (ix2 (rowOf (n - 1) r) q) := by
    show (V m c main_arg1 : Vec Ideal S15360x2560 .f32) (ix2 (rowOf (n - 1) r) q) = _
    rw [V_main_arg1]
    rfl
  have e2 : C11 (F := Ideal) (tileX m c (n - 1)) (normw m c) (ix3 (⟨0, by decide⟩ : Fin 2) r (0 : Fin 1)) = scaleAt (argX m c) (argG m c) (rowOf (n - 1) r) :=
    G8_ix2 m c (n - 1) r
  have e3 : ∀ k : Fin 6912, C10 (F := Ideal) (tileX m c (n - 1)) (normw m c) (ix3 (⟨0, by decide⟩ : Fin 2) r k) = code (rowA (argX m c) (rowOf (n - 1) r)) (colA (argG m c)) k := by
    intro k
    have h : tCode (F := Ideal) (tileX m c (n - 1)) (normw m c) r k = code (rowA (argX m c) (rowOf (n - 1) r)) (colA (argG m c)) k := by
      rw [tCode_eq, rowT_eq, colT_eq]
    exact h
  have e4 : ∀ k : Fin 6912, FloatOps.sitofp (F := Ideal) .bf16 (wfull (F := Ideal) (packed m c) (ix2 q k)) = weight (R := 640) (by decide) (argP m c) q.val k := by
    intro k
    unfold packed
    rw [V_main_arg3]
    rfl
  rw [e1, e2]
  simp only [e3, e4]
  rfl

/-! ## The arrays after the run -/

def resultO (c : Dev nD) : Vec Ideal S15360x2560 .bf16 := fun i => outAt (argX m c) (argH m c) (argG m c) (argP m c) (argW m c) (i (0 : Fin 2)) (i (1 : Fin 2))
def resultC (c : Dev nD) : Vec Ideal S15360x6912 .i8 := fun i => codeAt (argX m c) (argG m c) (i (0 : Fin 2)) (i (1 : Fin 2))
def resultS (c : Dev nD) : Vec Ideal S15360x1 .f32 := fun i => scaleAt (argX m c) (argG m c) (i (0 : Fin 2))

theorem flush_facts : ∀ t : Fin cfg0.N, ((cfg0.win 5).flush t = true ↔ 0 < t.val) ∧ (t.val ≠ 59 → (cfg0.win 6).flush t = true) ∧ (t.val ≠ 59 → (cfg0.win 7).flush t = true) :=
  (by decide +kernel : ∀ t : Fin grid0.N, _)

theorem flushed5_eq (c : Dev nD) (t : Fin cfg0.N) :
    (dats m 0 c).flushed 5 t = ((cfg0.win 5).blk t).view.read (Elt Ideal) (resultO m c) := by
  show (cfg0.win 5).cut (grid0.coords t) ((dats m 0 c).after 5 t) = _
  rw [after0_5]
  obtain ⟨-, -, -, -, e0, e1, -⟩ := idx_facts t
  funext j
  obtain ⟨r, y, rfl⟩ : ∃ (r : Fin 256) (y : Fin 2560), j = ix2 r y := ⟨j 0, j 1, by funext a; match a with | ⟨0, _⟩ => rfl | ⟨1, _⟩ => rfl⟩
  refine (blockO_ix2 m c t.val r y).trans ?_
  show _ = outAt (argX m c) (argH m c) (argG m c) (argP m c) (argW m c) ((((cfg0.win 5).blk t).view.emb (ix2 r y)) (0 : Fin 2)) ((((cfg0.win 5).blk t).view.emb (ix2 r y)) (1 : Fin 2))
  have h0 : rowOf (t.val - 1) r = (((cfg0.win 5).blk t).view.emb (ix2 r y)) (0 : Fin 2) :=
    Fin.ext (by show min (t.val - 1) 59 * 256 + r.val = win0_5.index t (0 : Fin 2) * 256 + 1 * r.val; omega)
  have h1 : y = (((cfg0.win 5).blk t).view.emb (ix2 r y)) (1 : Fin 2) :=
    Fin.ext (by show y.val = win0_5.index t (1 : Fin 2) * 2560 + 1 * y.val; omega)
  rw [h0, ← h1]

theorem flushed6_eq (c : Dev nD) (t : Fin cfg0.N) :
    (dats m 0 c).flushed 6 t = ((cfg0.win 6).blk t).view.read (Elt Ideal) (resultC m c) := by
  show (cfg0.win 6).cut (grid0.coords t) ((dats m 0 c).after 6 t) = _
  rw [after0_6]
  obtain ⟨-, -, -, -, -, -, e0, e1, -⟩ := idx_facts t
  funext j
  obtain ⟨r, y, rfl⟩ : ∃ (r : Fin 256) (y : Fin 6912), j = ix2 r y := ⟨j 0, j 1, by funext a; match a with | ⟨0, _⟩ => rfl | ⟨1, _⟩ => rfl⟩
  refine (G7_ix2 m c t.val r y).trans ?_
  show _ = codeAt (argX m c) (argG m c) ((((cfg0.win 6).blk t).view.emb (ix2 r y)) (0 : Fin 2)) ((((cfg0.win 6).blk t).view.emb (ix2 r y)) (1 : Fin 2))
  have h0 : rowOf t.val r = (((cfg0.win 6).blk t).view.emb (ix2 r y)) (0 : Fin 2) :=
    Fin.ext (by show min t.val 59 * 256 + r.val = win0_6.index t (0 : Fin 2) * 256 + 1 * r.val; omega)
  have h1 : y = (((cfg0.win 6).blk t).view.emb (ix2 r y)) (1 : Fin 2) :=
    Fin.ext (by show y.val = win0_6.index t (1 : Fin 2) * 6912 + 1 * y.val; omega)
  rw [h0, ← h1]

theorem flushed7_eq (c : Dev nD) (t : Fin cfg0.N) :
    (dats m 0 c).flushed 7 t = ((cfg0.win 7).blk t).view.read (Elt Ideal) (resultS m c) := by
  show (cfg0.win 7).cut (grid0.coords t) ((dats m 0 c).after 7 t) = _
  rw [after0_7]
  obtain ⟨-, -, -, -, -, -, -, -, e0, e1⟩ := idx_facts t
  funext j
  obtain ⟨r, y, rfl⟩ : ∃ (r : Fin 256) (y : Fin 1), j = ix2 r y := ⟨j 0, j 1, by funext a; match a with | ⟨0, _⟩ => rfl | ⟨1, _⟩ => rfl⟩
  obtain rfl : y = 0 := Subsingleton.elim _ _
  refine (G8_ix2 m c t.val r).trans ?_
  show _ = scaleAt (argX m c) (argG m c) ((((cfg0.win 7).blk t).view.emb (ix2 r (0 : Fin 1))) (0 : Fin 2))
  have h0 : rowOf t.val r = (((cfg0.win 7).blk t).view.emb (ix2 r (0 : Fin 1))) (0 : Fin 2) :=
    Fin.ext (by show min t.val 59 * 256 + r.val = win0_7.index t (0 : Fin 2) * 256 + 1 * r.val; omega)
  rw [h0]

/-- The grid point after the one that quantises row `r`, which leaves the row's output. -/
def pointO (r : Fin 15360) : Fin cfg0.N :=
  ⟨r.val / 256 + 1, lt_of_lt_of_eq (by have := r.isLt; omega : r.val / 256 + 1 < 61) N_0.symm⟩

/-- The grid point that leaves row `r`'s codes and scale: the last tile's are left at the last point, where they are computed once more. -/
def pointC (r : Fin 15360) : Fin cfg0.N :=
  ⟨if r.val / 256 = 59 then 60 else r.val / 256, lt_of_lt_of_eq (by have := r.isLt; split <;> omega : (if r.val / 256 = 59 then 60 else r.val / 256) < 61) N_0.symm⟩

theorem pointC_facts (r : Fin 15360) : min (pointC r).val 59 = r.val / 256 ∧ (pointC r).val ≠ 59 := by
  have h := r.isLt
  show min (if r.val / 256 = 59 then 60 else r.val / 256) 59 = r.val / 256 ∧ (if r.val / 256 = 59 then 60 else r.val / 256) ≠ 59
  split <;> omega

theorem covered5 (i : S15360x2560.Idx) : ∃ t : Fin cfg0.N, (cfg0.win 5).flush t = true ∧ i ∈ ((cfg0.win 5).blk t).view.set := by
  have h0 : (i (0 : Fin 2)).val < 15360 := (i (0 : Fin 2)).isLt
  have h1 : (i (1 : Fin 2)).val < 2560 := (i (1 : Fin 2)).isLt
  have hp : (pointO (i (0 : Fin 2))).val = (i (0 : Fin 2)).val / 256 + 1 := rfl
  refine ⟨pointO (i (0 : Fin 2)), (flush_facts _).1.mpr (by omega), ?_⟩
  obtain ⟨-, -, -, -, e0, e1, -⟩ := idx_facts (pointO (i (0 : Fin 2)))
  show i ∈ ((View.whole main_v2_0).slice (win0_5.rect (pointO (i (0 : Fin 2))))).set
  rw [View.set_slice_whole, Rect.mem_set_unit]
  intro a
  match a with
  | ⟨0, _⟩ => show win0_5.index (pointO (i (0 : Fin 2))) (0 : Fin 2) * 256 ≤ (i 0).val ∧ (i 0).val < win0_5.index (pointO (i (0 : Fin 2))) (0 : Fin 2) * 256 + 256; omega
  | ⟨1, _⟩ => show win0_5.index (pointO (i (0 : Fin 2))) (1 : Fin 2) * 2560 ≤ (i 1).val ∧ (i 1).val < win0_5.index (pointO (i (0 : Fin 2))) (1 : Fin 2) * 2560 + 2560; omega

theorem covered6 (i : S15360x6912.Idx) : ∃ t : Fin cfg0.N, (cfg0.win 6).flush t = true ∧ i ∈ ((cfg0.win 6).blk t).view.set := by
  have h1 : (i (1 : Fin 2)).val < 6912 := (i (1 : Fin 2)).isLt
  obtain ⟨hp, hq⟩ := pointC_facts (i (0 : Fin 2))
  refine ⟨pointC (i (0 : Fin 2)), (flush_facts _).2.1 hq, ?_⟩
  obtain ⟨-, -, -, -, -, -, e0, e1, -⟩ := idx_facts (pointC (i (0 : Fin 2)))
  rw [hp] at e0
  show i ∈ ((View.whole main_v2_1).slice (win0_6.rect (pointC (i (0 : Fin 2))))).set
  rw [View.set_slice_whole, Rect.mem_set_unit]
  intro a
  match a with
  | ⟨0, _⟩ => show win0_6.index (pointC (i (0 : Fin 2))) (0 : Fin 2) * 256 ≤ (i 0).val ∧ (i 0).val < win0_6.index (pointC (i (0 : Fin 2))) (0 : Fin 2) * 256 + 256; omega
  | ⟨1, _⟩ => show win0_6.index (pointC (i (0 : Fin 2))) (1 : Fin 2) * 6912 ≤ (i 1).val ∧ (i 1).val < win0_6.index (pointC (i (0 : Fin 2))) (1 : Fin 2) * 6912 + 6912; omega

theorem covered7 (i : S15360x1.Idx) : ∃ t : Fin cfg0.N, (cfg0.win 7).flush t = true ∧ i ∈ ((cfg0.win 7).blk t).view.set := by
  have h1 : (i (1 : Fin 2)).val < 1 := (i (1 : Fin 2)).isLt
  obtain ⟨hp, hq⟩ := pointC_facts (i (0 : Fin 2))
  refine ⟨pointC (i (0 : Fin 2)), (flush_facts _).2.2 hq, ?_⟩
  obtain ⟨-, -, -, -, -, -, -, -, e0, e1⟩ := idx_facts (pointC (i (0 : Fin 2)))
  rw [hp] at e0
  show i ∈ ((View.whole main_v2_2).slice (win0_7.rect (pointC (i (0 : Fin 2))))).set
  rw [View.set_slice_whole, Rect.mem_set_unit]
  intro a
  match a with
  | ⟨0, _⟩ => show win0_7.index (pointC (i (0 : Fin 2))) (0 : Fin 2) * 256 ≤ (i 0).val ∧ (i 0).val < win0_7.index (pointC (i (0 : Fin 2))) (0 : Fin 2) * 256 + 256; omega
  | ⟨1, _⟩ => show win0_7.index (pointC (i (0 : Fin 2))) (1 : Fin 2) * 1 ≤ (i 1).val ∧ (i 1).val < win0_7.index (pointC (i (0 : Fin 2))) (1 : Fin 2) * 1 + 1; omega

theorem final5 (c : Dev nD) : (dats m 0 c).arrAt 5 cfg0.N = resultO m c :=
  (dats m 0 c).arrAt_eq_of_cover 5 _ (fun t _ => flushed5_eq m c t) covered5
theorem final6 (c : Dev nD) : (dats m 0 c).arrAt 6 cfg0.N = resultC m c :=
  (dats m 0 c).arrAt_eq_of_cover 6 _ (fun t _ => flushed6_eq m c t) covered6
theorem final7 (c : Dev nD) : (dats m 0 c).arrAt 7 cfg0.N = resultS m c :=
  (dats m 0 c).arrAt_eq_of_cover 7 _ (fun t _ => flushed7_eq m c t) covered7

/-- The run: the three results, and the arguments unchanged. -/
theorem run : θ_run defs (onTc (τ := τ) (main (F := Ideal))) ⟨m, fun _ => 0, ρ⟩ (fun r => ∀ c : Dev nD,
      r.2.mem ((c.tc : Thread nD τ).loc main_v2_0) = resultO m c
      ∧ r.2.mem ((c.tc : Thread nD τ).loc main_v2_1) = resultC m c
      ∧ r.2.mem ((c.tc : Thread nD τ).loc main_v2_2) = resultS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), ((h.1 c).1 6).trans (final6 m c), ((h.1 c).1 7).trans (final7 m c), h.2 c⟩)
    (θ_run_and (run_main m ρ) (frame_of m ρ (dats m) (A_eq m) (run_main m ρ)))

end Cert.DownIdeal.Hand
-- ==== Proof.DownRef.lean ====
/-
  What the down reference computes, over the reals: the same functions of the arguments as the kernel's.
-/
module

public import proofs.«01_k».proof.Proof.Gen.DownRefIdeal
public import proofs.«01_k».proof.Proof.Gen.DownRefIdeal.Read
public import proofs.«01_k».proof.Proof.DownSpec
public import Idealize.ShloMosaic.Lib.KernelVsHost

@[expose] public section

set_option maxRecDepth 16384

noncomputable section

namespace Cert.DownRefIdeal.Hand

open Idealize.ShloMosaic Idealize.ShloMosaic.TcCoe Idealize.ShloMosaic.ValueIdx
open Cert.DownRefIdeal.Read Cert.Ternary Cert.Quant Cert.DownSpec
open scoped BigOperators

variable (x : FVec Ideal ⟨2, ![15360, 6912]⟩ .f32) (h : FVec Ideal ⟨2, ![15360, 2560]⟩ .f32) (g : FVec Ideal ⟨1, ![6912]⟩ .f32)
  (p : IVec ⟨2, ![640, 6912]⟩ 8) (w : FVec Ideal ⟨0, ![]⟩ .f32)

/-! ## The rows -/

theorem rms_eq (r : Fin 15360) (k : Fin 6912) : val_main_v8 (F := Ideal) x (ix2 r k) = rms (rowA x r) := by
  have hs : val_main_v1 (F := Ideal) x (idx_main_v2 (idx_main_v8 (ix2 r k))) = ∑ k : Fin 6912, rowA x r k * rowA x r k := by
    rw [val_main_v1_apply, val_main_cst_apply]
    show Ideal.ofBits .f32 0x00000000#32 + _ = _
    rw [Ideal.ofBits_zero_f32, zero_add]
    refine Finset.sum_congr rfl fun l _ => ?_
    have e : idx_main_v1 (idx_main_v2 (idx_main_v8 (ix2 r k))) l = ix2 r l := by
      funext a
      match a with
      | ⟨0, _⟩ => rfl
      | ⟨1, _⟩ => rfl
    rw [e]
    rfl
  rw [val_main_v8_apply, val_main_v7_apply, val_main_v6_apply, val_main_v4_apply, val_main_v5_apply, val_main_v3_apply, val_main_v2_apply, hs]
  rfl

theorem normed_eq (r : Fin 15360) (k : Fin 6912) : val_main_v12 (F := Ideal) x g (ix2 r k) = normed (rowA x r) (colA g) k := by
  have hg : g (idx_main_v10 (idx_main_v11 (ix2 r k))) = colA g k := by
    unfold colA
    congr 1
    funext a
    match a with
    | ⟨0, _⟩ => rfl
  rw [val_main_v12_apply, val_main_v9_apply, val_main_v11_apply, val_main_v10_apply, rms_eq, hg]
  rfl

theorem reduces_rows : (⟨2, ![15360, 6912]⟩ : Shape).Reduces [1] ⟨1, ![15360]⟩ := by decide

theorem amax_eq (r : Fin 15360) : val_main_v14 (F := Ideal) x g (ix1 r) = amax (rowA x r) (colA g) := by
  have h1 : val_main_v14 (F := Ideal) x g = multiReduction (F := Ideal) (φ := .f32) .maximumf [1] ⟨1, ![15360]⟩ (val_main_v13 (F := Ideal) x g) 0xFF800000#32 reduces_rows (.inl rfl) rfl := by
    unfold val_main_v14 val_main_cst_2
    exact hostReduce_maximumf_eq_multiReduction (F := Ideal) (φ := .f32) (s := ⟨2, ![15360, 6912]⟩) (t := ⟨1, ![15360]⟩) (axes := [1]) (val_main_v13 (F := Ideal) x g) 0xFF800000#32 _ _ reduces_rows (.inl rfl) rfl
  rw [h1]
  refine (Ideal.multiReduction_maximumf_single _ _ reduces_rows _ _ (ix1 r)).trans ?_
  have e : (val_main_v13 (F := Ideal) x g ∘ reduces_rows.lift (ix1 r) : Fin 6912 → EReal)
      = fun k => max (normed (rowA x r) (colA g) k) (-(normed (rowA x r) (colA g) k)) := by
    funext k
    have hl : reduces_rows.lift (ix1 r) k = (ix2 r k : (⟨2, ![15360, 6912]⟩ : Shape).Idx) := by
      funext a
      match a with
      | ⟨0, _⟩ => rfl
      | ⟨1, _⟩ => rfl
    rw [← normed_eq]
    exact congrArg (val_main_v13 (F := Ideal) x g) hl
  exact congrArg (Finset.univ.fold max (Ideal.ofBits .f32 0xFF800000#32)) e

theorem scale_eq (r : Fin 15360) : val_main_v19 (F := Ideal) x g (ix1 r) = scaleAt x g r := by
  rw [val_main_v19_apply, val_main_v16_apply, val_main_v18_apply, val_main_call0_v0_apply, val_main_v15_apply, val_main_v17_apply, amax_eq]
  rfl

theorem code_eq (r : Fin 15360) (k : Fin 6912) : val_main_v24 (F := Ideal) x g (ix2 r k) = code (rowA x r) (colA g) k := by
  have hi : idx_main_v20 (idx_main_v21 (ix2 r k)) = ix1 r := by
    funext a
    match a with
    | ⟨0, _⟩ => rfl
  rw [val_main_v24_apply, val_main_call2_v4_apply, val_main_call2_v2_apply, val_main_call2_v1_apply, val_main_v23_apply, val_main_v22_apply,
    val_main_v21_apply, val_main_v20_apply, hi, scale_eq, normed_eq]
  rfl

/-- The codes, as the result holds them. -/
theorem codes_eq (r : Fin 15360) (k : Fin 6912) : val_main_v26 (F := Ideal) x g (ix2 r k) = codeAt x g r k := by
  rw [val_main_v26_apply, val_main_v25_apply, code_eq]
  exact fptosi_clip _

/-- The scales, as the result holds them. -/
theorem scales_eq (r : Fin 15360) : val_main_v27 (F := Ideal) x g (ix2 r (0 : Fin 1)) = scaleAt x g r := by
  have hi : idx_main_v27 (ix2 r (0 : Fin 1)) = ix1 r := by
    funext a
    match a with
    | ⟨0, _⟩ => rfl
  rw [val_main_v27_apply, hi, scale_eq]

/-! ## The product -/

/-- The codes, as the product takes them. -/
theorem factor_eq (r : Fin 15360) (k : Fin 6912) : val_main_v29 (F := Ideal) x g (ix2 r k) = code (rowA x r) (colA g) k := by
  rw [val_main_v29_apply, val_main_v28_apply, host_code, codes_eq]
  exact toInt_clip _

/-- The unpacked weight at column `n` and depth `k`. -/
theorem weight_eq (n : Fin 2560) (k : Fin 6912) :
    val_main_v45 (F := Ideal) p (ix2 n k) = weight (R := 640) (by decide) p n.val k := by
  have hn := n.isLt
  have hk := k.isLt
  rw [val_main_v45_apply, val_main_v44_apply, val_main_v43_apply, val_main_v41_apply, val_main_v40_apply, val_main_v38_apply, val_main_v36_apply,
    val_main_v34_apply, val_main_v33_apply, val_main_v37_apply, val_main_v35_apply, val_main_v32_apply, val_main_v31_apply, val_main_v30_apply, val_main_v39_apply,
    val_main_v42_apply]
  have hf : (n.val * 6912 + k.val) / 4423680 = n.val / 640 := by omega
  have hi : idx_main_v34 (idx_main_v36 (idx_main_v45 (ix2 n k))) = ix2 (⟨n.val % 640, Nat.mod_lt _ (by decide)⟩ : Fin 640) k := by
    funext a; apply Fin.ext
    match a with
    | ⟨0, _⟩ => show (n.val * 6912 + k.val) / 6912 % 640 = n.val % 640; omega
    | ⟨1, _⟩ => show (n.val * 6912 + k.val) % 6912 = k.val; omega
  rw [hi]
  refine Eq.trans ?_ (host_field ⟨n.val / 640, by omega⟩ _)
  show FloatOps.sitofp (F := Ideal) .bf16 (IntOp.subi (IntOp.andi (IntOp.shrui .host _ (IntOp.muli 2#32 (BitVec.ofNat 32 ((n.val * 6912 + k.val) / 4423680)))) 3#32) 1#32) = _
  rw [hf]

/-- The output. -/
theorem out_eq (r : Fin 15360) (n : Fin 2560) :
    val_main_v52 (F := Ideal) x h g p w (ix2 r n) = outAt x h g p (w (fun a => a.elim0)) r n := by
  have hc : ∀ k : Fin 6912, val_main_v29 (F := Ideal) x g (lidx_main_v46 (ix2 r n) k) = code (rowA x r) (colA g) k := by
    intro k
    rw [← factor_eq]
    congr 1
    funext a
    match a with
    | ⟨0, _⟩ => rfl
    | ⟨1, _⟩ => rfl
  have hw : ∀ k : Fin 6912, val_main_v45 (F := Ideal) p (ridx_main_v46 (ix2 r n) k) = weight (R := 640) (by decide) p n.val k := by
    intro k
    rw [← weight_eq]
    congr 1
    funext a
    match a with
    | ⟨0, _⟩ => rfl
    | ⟨1, _⟩ => rfl
  have hs : val_main_v27 (F := Ideal) x g (idx_main_v47 (ix2 r n)) = scaleAt x g r := by
    rw [← scales_eq]
    congr 1
    funext a
    match a with
    | ⟨0, _⟩ => rfl
    | ⟨1, _⟩ => rfl
  rw [val_main_v52_apply, val_main_v51_apply, val_main_v50_apply, val_main_v48_apply, val_main_v46_apply, val_main_v47_apply, val_main_v49_apply, hs]
  simp only [hc, hw]
  rfl

end Cert.DownRefIdeal.Hand
-- ==== Proof.DownClaim.lean ====
/-
  The down claims, from the runs of the kernel and of the reference.
-/
module

public import proofs.«01_k».proof.Defs
public import proofs.«01_k».proof.Proof.DownValue
public import proofs.«01_k».proof.Proof.DownRef
public import proofs.«01_k».proof.Proof.Gen.DownRefIdeal.Run

@[expose] public section

set_option maxRecDepth 16384

noncomputable section

namespace Cert.Proof.Down

open Idealize.ShloMosaic Idealize.ShloMosaic.ValueIdx Idealize.SL.Sem

/-- The reference runs, and its arguments end unchanged. -/
theorem frame_ref : Cert.quiescent_DownRefIdeal (hDownRefIdeal := Cert.DownRefIdeal.Gen.facts) := by
  intro m ρ _
  exact (θ_run Cert.DownRefIdeal.defs _ _).mono (fun r h => ⟨fun c => (h c).2.2.2, sem_eq_zero_of_no_sems (by decide) r.2⟩)
    (Cert.DownRefIdeal.Value.run (F := Ideal) m ρ)

/-- The kernel's results are the reference's. -/
theorem algebraic : Cert.algebraic_DownIdeal_DownRefIdeal (hDownIdeal := Cert.DownIdeal.Gen.facts)
    (hDownRefIdeal := Cert.DownRefIdeal.Gen.facts) := by
  intro m g m' g' _ hargs
  refine ⟨fun c => Cert.DownIdeal.Hand.resultO m c, fun c => Cert.DownIdeal.Hand.resultC m c, fun c => Cert.DownIdeal.Hand.resultS m c, Cert.DownIdeal.Hand.run m g, ?_⟩
  refine (θ_run (Cert.DownRefIdeal.defs (F := Ideal)) _ _).mono (fun r h c => ?_) (Cert.DownRefIdeal.Value.run (F := Ideal) m' g')
  obtain ⟨h52, h26, h27, hr⟩ := h c
  obtain ⟨a0, a1, a2, a3, a4⟩ := hargs c
  refine ⟨h52.trans ?_, h26.trans ?_, h27.trans ?_, hr⟩
  · rw [Cert.DownRefIdeal.Read.val_main_v52_eq, a0, a1, a2, a3, a4]
    funext i
    obtain ⟨r', n, rfl⟩ : ∃ (r' : Fin 15360) (n : Fin 2560), i = ix2 r' n := ⟨i 0, i 1, by funext a; match a with | ⟨0, _⟩ => rfl | ⟨1, _⟩ => rfl⟩
    exact Cert.DownRefIdeal.Hand.out_eq _ _ _ _ _ r' n
  · refine (Cert.DownRefIdeal.Read.val_main_v26_eq _ _).trans ?_
    rw [a0, a2]
    funext i
    obtain ⟨r', n, rfl⟩ : ∃ (r' : Fin 15360) (n : Fin 6912), i = ix2 r' n := ⟨i 0, i 1, by funext a; match a with | ⟨0, _⟩ => rfl | ⟨1, _⟩ => rfl⟩
    exact Cert.DownRefIdeal.Hand.codes_eq _ _ r' n
  · refine (Cert.DownRefIdeal.Read.val_main_v27_eq _ _).trans ?_
    rw [a0, a2]
    funext i
    obtain ⟨r', n, rfl⟩ : ∃ (r' : Fin 15360) (n : Fin 1), i = ix2 r' n := ⟨i 0, i 1, by funext a; match a with | ⟨0, _⟩ => rfl | ⟨1, _⟩ => rfl⟩
    obtain rfl : n = 0 := Subsingleton.elim _ _
    exact Cert.DownRefIdeal.Hand.scales_eq _ _ r'

end Cert.Proof.Down
-- ==== Proof.DownBits.lean ====
/-
  The down kernel as printed is, definition by definition, the ideal program in another namespace: its frame is the
  ideal program's.
-/
module

public import proofs.«01_k».proof.Proof.DownRun
public import proofs.«01_k».proof.Proof.Gen.Down.Frame

@[expose] public section

set_option maxRecDepth 65536
set_option maxHeartbeats 0

noncomputable section

namespace Cert.Down.Hand

open Idealize.ShloMosaic Idealize.ShloMosaic.TcCoe
open Idealize.SL Idealize.SL.Sem

variable {F : FTy → Type} [FloatOps F]

/-- The printed bodies are the same. -/
theorem defs₀_eq : @Cert.Down.defs₀ F _ Cert.Down.Gen.facts = @Cert.DownIdeal.defs₀ F _ Cert.DownIdeal.Gen.facts := by
  refine congrArg Defs.onTc ?_
  funext l x
  match l, x with
  | 0, (t, s) => rfl

/-- And so are the programs. -/
theorem defs_eq : @Cert.Down.defs F _ Cert.Down.Gen.facts = @Cert.DownIdeal.defs F _ Cert.DownIdeal.Gen.facts := by
  unfold Cert.Down.defs Cert.DownIdeal.defs
  rw [defs₀_eq]
  rfl

variable (m : (ℓ : Loc nD τ sig) → Buf (Elt F) ℓ) (ρ : Dev nD → PrngReg)

/-- The argument arrays end unchanged, and no semaphore is left pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have h := Cert.DownIdeal.Hand.frame (F := F) m ρ
  rw [← defs_eq] at h
  exact h

end Cert.Down.Hand
-- ==== Proof.GateUpBits.lean ====
/-
  The gate/up kernel as printed is, definition by definition, the ideal program in another namespace: its frame is the
  ideal program's.
-/
module

public import proofs.«01_k».proof.Proof.GateUpRun
public import proofs.«01_k».proof.Proof.Gen.GateUp.Frame

@[expose] public section

set_option maxRecDepth 65536
set_option maxHeartbeats 0

noncomputable section

namespace Cert.GateUp.Hand

open Idealize.ShloMosaic Idealize.ShloMosaic.TcCoe
open Idealize.SL Idealize.SL.Sem

variable {F : FTy → Type} [FloatOps F]

/-- The printed bodies are the same. -/
theorem defs₀_eq : @Cert.GateUp.defs₀ F _ Cert.GateUp.Gen.facts = @Cert.GateUpIdeal.defs₀ F _ Cert.GateUpIdeal.Gen.facts := by
  refine congrArg Defs.onTc ?_
  funext l x
  match l, x with
  | 0, (t, s) => rfl

/-- And so are the programs. -/
theorem defs_eq : @Cert.GateUp.defs F _ Cert.GateUp.Gen.facts = @Cert.GateUpIdeal.defs F _ Cert.GateUpIdeal.Gen.facts := by
  unfold Cert.GateUp.defs Cert.GateUpIdeal.defs
  rw [defs₀_eq]
  rfl

variable (m : (ℓ : Loc nD τ sig) → Buf (Elt F) ℓ) (ρ : Dev nD → PrngReg)

/-- The argument arrays end unchanged, and no semaphore is left pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have h := Cert.GateUpIdeal.Hand.frame (F := F) m ρ
  rw [← defs_eq] at h
  exact h

end Cert.GateUp.Hand
-- ==== Proof.lean ====
/-
  The proof of `Cert.Claim`.
-/
module

public import proofs.«01_k».proof.Defs
public import proofs.«01_k».proof.Proof.GateUpClaim
public import proofs.«01_k».proof.Proof.DownClaim
public import proofs.«01_k».proof.Proof.DownBits
public import proofs.«01_k».proof.Proof.Gen.GateUp
public import proofs.«01_k».proof.Proof.GateUpBits
public import proofs.«01_k».proof.Proof.Gen.GateUpIdeal
public import proofs.«01_k».proof.Proof.Gen.GateUpRefIdeal
public import proofs.«01_k».proof.Proof.Gen.Down
public import proofs.«01_k».proof.Proof.Gen.Down.Skeleton
public import proofs.«01_k».proof.Proof.Gen.Down.Loops
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Loops
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Run
public import proofs.«01_k».proof.Proof.Gen.DownRefIdeal.Read
public import Idealize.ShloMosaic.Adequacy
public import Idealize.ShloMosaic.Init

@[expose] public section

noncomputable section

namespace Cert.Proof

open Idealize.ShloMosaic Idealize.SL.Sem

theorem claim : Cert.Claim :=
  ⟨Cert.GateUp.Gen.facts, Cert.GateUpIdeal.Gen.facts, Cert.GateUpRefIdeal.Gen.facts,
    Cert.Down.Gen.facts, Cert.DownIdeal.Gen.facts, Cert.DownRefIdeal.Gen.facts,
    fun m ρ _ => Cert.GateUp.Hand.frame m ρ,
    fun m ρ _ => Cert.GateUpIdeal.Hand.frame m ρ,
    GateUp.frame_ref,
    fun m ρ _ => Cert.Down.Hand.frame m ρ,
    fun m ρ _ => Cert.DownIdeal.Hand.frame m ρ,
    Down.frame_ref,
    trivial, GateUp.algebraic, trivial, Down.algebraic⟩

end Cert.Proof

end
